-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelO (m : (ℓ : Loc Cert.KernelO.nD Cert.KernelO.τ Cert.KernelO.sig) → Buf (Elt Bits) ℓ) : Prop :=
  True

def Pre_KernelOIdeal (m : (ℓ : Loc Cert.KernelOIdeal.nD Cert.KernelOIdeal.τ Cert.KernelOIdeal.sig) → Buf (Elt Ideal) ℓ) : Prop :=
  True

def Pre_ReferenceOIdeal (m : (ℓ : Loc Cert.ReferenceOIdeal.nD Cert.ReferenceOIdeal.τ Cert.ReferenceOIdeal.sig) → Buf (Elt Ideal) ℓ) : Prop :=
  True

def Pre_KernelPa (m : (ℓ : Loc Cert.KernelPa.nD Cert.KernelPa.τ Cert.KernelPa.sig) → Buf (Elt Bits) ℓ) : Prop :=
  True

def Pre_KernelPaIdeal (m : (ℓ : Loc Cert.KernelPaIdeal.nD Cert.KernelPaIdeal.τ Cert.KernelPaIdeal.sig) → Buf (Elt Ideal) ℓ) : Prop :=
  True

def Pre_ReferencePaIdeal (m : (ℓ : Loc Cert.ReferencePaIdeal.nD Cert.ReferencePaIdeal.τ Cert.ReferencePaIdeal.sig) → Buf (Elt Ideal) ℓ) : Prop :=
  True

def Pre_KernelPb (m : (ℓ : Loc Cert.KernelPb.nD Cert.KernelPb.τ Cert.KernelPb.sig) → Buf (Elt Bits) ℓ) : Prop :=
  True

def Pre_KernelPbIdeal (m : (ℓ : Loc Cert.KernelPbIdeal.nD Cert.KernelPbIdeal.τ Cert.KernelPbIdeal.sig) → Buf (Elt Ideal) ℓ) : Prop :=
  True

def Pre_ReferencePbIdeal (m : (ℓ : Loc Cert.ReferencePbIdeal.nD Cert.ReferencePbIdeal.τ Cert.ReferencePbIdeal.sig) → Buf (Elt Ideal) ℓ) : Prop :=
  True

def Pre_KernelPc (m : (ℓ : Loc Cert.KernelPc.nD Cert.KernelPc.τ Cert.KernelPc.sig) → Buf (Elt Bits) ℓ) : Prop :=
  True

def Pre_KernelPcIdeal (m : (ℓ : Loc Cert.KernelPcIdeal.nD Cert.KernelPcIdeal.τ Cert.KernelPcIdeal.sig) → Buf (Elt Ideal) ℓ) : Prop :=
  True

def Pre_ReferencePcIdeal (m : (ℓ : Loc Cert.ReferencePcIdeal.nD Cert.ReferencePcIdeal.τ Cert.ReferencePcIdeal.sig) → Buf (Elt Ideal) ℓ) : Prop :=
  True

def Pre_KernelW13 (m : (ℓ : Loc Cert.KernelW13.nD Cert.KernelW13.τ Cert.KernelW13.sig) → Buf (Elt Bits) ℓ) : Prop :=
  True

def Pre_KernelW13Ideal (m : (ℓ : Loc Cert.KernelW13Ideal.nD Cert.KernelW13Ideal.τ Cert.KernelW13Ideal.sig) → Buf (Elt Ideal) ℓ) : Prop :=
  True

def Pre_ReferenceW13Ideal (m : (ℓ : Loc Cert.ReferenceW13Ideal.nD Cert.ReferenceW13Ideal.τ Cert.ReferenceW13Ideal.sig) → Buf (Elt Ideal) ℓ) : Prop :=
  True

def Pre_KernelW2 (m : (ℓ : Loc Cert.KernelW2.nD Cert.KernelW2.τ Cert.KernelW2.sig) → Buf (Elt Bits) ℓ) : Prop :=
  True

def Pre_KernelW2Ideal (m : (ℓ : Loc Cert.KernelW2Ideal.nD Cert.KernelW2Ideal.τ Cert.KernelW2Ideal.sig) → Buf (Elt Ideal) ℓ) : Prop :=
  True

def Pre_ReferenceW2Ideal (m : (ℓ : Loc Cert.ReferenceW2Ideal.nD Cert.ReferenceW2Ideal.τ Cert.ReferenceW2Ideal.sig) → Buf (Elt Ideal) ℓ) : Prop :=
  True

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_ReferenceFfnIdeal (m : (ℓ : Loc Cert.ReferenceFfnIdeal.nD Cert.ReferenceFfnIdeal.τ Cert.ReferenceFfnIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelO [hKernelO : Cert.KernelO.Facts] : Prop :=
  ∀ (m : (ℓ : Loc Cert.KernelO.nD Cert.KernelO.τ Cert.KernelO.sig) → Buf (Elt Bits) ℓ) (g : Dev Cert.KernelO.nD → PrngReg), Pre_KernelO m →
    θ_run (Cert.KernelO.defs (F := Bits)) (onTc (τ := Cert.KernelO.τ) (Cert.KernelO.main (F := Bits))) ⟨m, fun _ => 0, g⟩ (fun r => (∀ c : Dev Cert.KernelO.nD,
      r.2.mem ((c.tc : Thread Cert.KernelO.nD Cert.KernelO.τ).loc Cert.KernelO.main_arg0) = m ((c.tc : Thread Cert.KernelO.nD Cert.KernelO.τ).loc Cert.KernelO.main_arg0)
      ∧ r.2.mem ((c.tc : Thread Cert.KernelO.nD Cert.KernelO.τ).loc Cert.KernelO.main_arg1) = m ((c.tc : Thread Cert.KernelO.nD Cert.KernelO.τ).loc Cert.KernelO.main_arg1))
      ∧ r.2.sem = fun _ => 0)

def quiescent_KernelOIdeal [hKernelOIdeal : Cert.KernelOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg), Pre_KernelOIdeal m →
    θ_run (Cert.KernelOIdeal.defs (F := Ideal)) (onTc (τ := Cert.KernelOIdeal.τ) (Cert.KernelOIdeal.main (F := Ideal))) ⟨m, fun _ => 0, g⟩ (fun r => (∀ c : Dev Cert.KernelOIdeal.nD,
      r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
      ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ r.2.sem = fun _ => 0)

def quiescent_ReferenceOIdeal [hReferenceOIdeal : Cert.ReferenceOIdeal.Facts] : Prop :=
  ∀ (m : (ℓ : Loc Cert.ReferenceOIdeal.nD Cert.ReferenceOIdeal.τ Cert.ReferenceOIdeal.sig) → Buf (Elt Ideal) ℓ) (g : Dev Cert.ReferenceOIdeal.nD → PrngReg), Pre_ReferenceOIdeal m →
    θ_run (Cert.ReferenceOIdeal.defs (F := Ideal)) (onTc (τ := Cert.ReferenceOIdeal.τ) (Cert.ReferenceOIdeal.main (F := Ideal))) ⟨m, fun _ => 0, g⟩ (fun r => (∀ c : Dev Cert.ReferenceOIdeal.nD,
      r.2.mem ((c.tc : Thread Cert.ReferenceOIdeal.nD Cert.ReferenceOIdeal.τ).loc Cert.ReferenceOIdeal.main_arg0) = m ((c.tc : Thread Cert.ReferenceOIdeal.nD Cert.ReferenceOIdeal.τ).loc Cert.ReferenceOIdeal.main_arg0)
      ∧ r.2.mem ((c.tc : Thread Cert.ReferenceOIdeal.nD Cert.ReferenceOIdeal.τ).loc Cert.ReferenceOIdeal.main_arg1) = m ((c.tc : Thread Cert.ReferenceOIdeal.nD Cert.ReferenceOIdeal.τ).loc Cert.ReferenceOIdeal.main_arg1))
      ∧ r.2.sem = fun _ => 0)

def quiescent_KernelPa [hKernelPa : Cert.KernelPa.Facts] : Prop :=
  ∀ (m : (ℓ : Loc Cert.KernelPa.nD Cert.KernelPa.τ Cert.KernelPa.sig) → Buf (Elt Bits) ℓ) (g : Dev Cert.KernelPa.nD → PrngReg), Pre_KernelPa m →
    θ_run (Cert.KernelPa.defs (F := Bits)) (onTc (τ := Cert.KernelPa.τ) (Cert.KernelPa.main (F := Bits))) ⟨m, fun _ => 0, g⟩ (fun r => (∀ c : Dev Cert.KernelPa.nD,
      r.2.mem ((c.tc : Thread Cert.KernelPa.nD Cert.KernelPa.τ).loc Cert.KernelPa.main_arg0) = m ((c.tc : Thread Cert.KernelPa.nD Cert.KernelPa.τ).loc Cert.KernelPa.main_arg0)
      ∧ r.2.mem ((c.tc : Thread Cert.KernelPa.nD Cert.KernelPa.τ).loc Cert.KernelPa.main_arg1) = m ((c.tc : Thread Cert.KernelPa.nD Cert.KernelPa.τ).loc Cert.KernelPa.main_arg1))
      ∧ r.2.sem = fun _ => 0)

def quiescent_KernelPaIdeal [hKernelPaIdeal : Cert.KernelPaIdeal.Facts] : Prop :=
  ∀ (m : (ℓ : Loc Cert.KernelPaIdeal.nD Cert.KernelPaIdeal.τ Cert.KernelPaIdeal.sig) → Buf (Elt Ideal) ℓ) (g : Dev Cert.KernelPaIdeal.nD → PrngReg), Pre_KernelPaIdeal m →
    θ_run (Cert.KernelPaIdeal.defs (F := Ideal)) (onTc (τ := Cert.KernelPaIdeal.τ) (Cert.KernelPaIdeal.main (F := Ideal))) ⟨m, fun _ => 0, g⟩ (fun r => (∀ c : Dev Cert.KernelPaIdeal.nD,
      r.2.mem ((c.tc : Thread Cert.KernelPaIdeal.nD Cert.KernelPaIdeal.τ).loc Cert.KernelPaIdeal.main_arg0) = m ((c.tc : Thread Cert.KernelPaIdeal.nD Cert.KernelPaIdeal.τ).loc Cert.KernelPaIdeal.main_arg0)
      ∧ r.2.mem ((c.tc : Thread Cert.KernelPaIdeal.nD Cert.KernelPaIdeal.τ).loc Cert.KernelPaIdeal.main_arg1) = m ((c.tc : Thread Cert.KernelPaIdeal.nD Cert.KernelPaIdeal.τ).loc Cert.KernelPaIdeal.main_arg1))
      ∧ r.2.sem = fun _ => 0)

def quiescent_ReferencePaIdeal [hReferencePaIdeal : Cert.ReferencePaIdeal.Facts] : Prop :=
  ∀ (m : (ℓ : Loc Cert.ReferencePaIdeal.nD Cert.ReferencePaIdeal.τ Cert.ReferencePaIdeal.sig) → Buf (Elt Ideal) ℓ) (g : Dev Cert.ReferencePaIdeal.nD → PrngReg), Pre_ReferencePaIdeal m →
    θ_run (Cert.ReferencePaIdeal.defs (F := Ideal)) (onTc (τ := Cert.ReferencePaIdeal.τ) (Cert.ReferencePaIdeal.main (F := Ideal))) ⟨m, fun _ => 0, g⟩ (fun r => (∀ c : Dev Cert.ReferencePaIdeal.nD,
      r.2.mem ((c.tc : Thread Cert.ReferencePaIdeal.nD Cert.ReferencePaIdeal.τ).loc Cert.ReferencePaIdeal.main_arg0) = m ((c.tc : Thread Cert.ReferencePaIdeal.nD Cert.ReferencePaIdeal.τ).loc Cert.ReferencePaIdeal.main_arg0)
      ∧ r.2.mem ((c.tc : Thread Cert.ReferencePaIdeal.nD Cert.ReferencePaIdeal.τ).loc Cert.ReferencePaIdeal.main_arg1) = m ((c.tc : Thread Cert.ReferencePaIdeal.nD Cert.ReferencePaIdeal.τ).loc Cert.ReferencePaIdeal.main_arg1))
      ∧ r.2.sem = fun _ => 0)

def quiescent_KernelPb [hKernelPb : Cert.KernelPb.Facts] : Prop :=
  ∀ (m : (ℓ : Loc Cert.KernelPb.nD Cert.KernelPb.τ Cert.KernelPb.sig) → Buf (Elt Bits) ℓ) (g : Dev Cert.KernelPb.nD → PrngReg), Pre_KernelPb m →
    θ_run (Cert.KernelPb.defs (F := Bits)) (onTc (τ := Cert.KernelPb.τ) (Cert.KernelPb.main (F := Bits))) ⟨m, fun _ => 0, g⟩ (fun r => (∀ c : Dev Cert.KernelPb.nD,
      r.2.mem ((c.tc : Thread Cert.KernelPb.nD Cert.KernelPb.τ).loc Cert.KernelPb.main_arg0) = m ((c.tc : Thread Cert.KernelPb.nD Cert.KernelPb.τ).loc Cert.KernelPb.main_arg0)
      ∧ r.2.mem ((c.tc : Thread Cert.KernelPb.nD Cert.KernelPb.τ).loc Cert.KernelPb.main_arg1) = m ((c.tc : Thread Cert.KernelPb.nD Cert.KernelPb.τ).loc Cert.KernelPb.main_arg1))
      ∧ r.2.sem = fun _ => 0)

def quiescent_KernelPbIdeal [hKernelPbIdeal : Cert.KernelPbIdeal.Facts] : Prop :=
  ∀ (m : (ℓ : Loc Cert.KernelPbIdeal.nD Cert.KernelPbIdeal.τ Cert.KernelPbIdeal.sig) → Buf (Elt Ideal) ℓ) (g : Dev Cert.KernelPbIdeal.nD → PrngReg), Pre_KernelPbIdeal m →
    θ_run (Cert.KernelPbIdeal.defs (F := Ideal)) (onTc (τ := Cert.KernelPbIdeal.τ) (Cert.KernelPbIdeal.main (F := Ideal))) ⟨m, fun _ => 0, g⟩ (fun r => (∀ c : Dev Cert.KernelPbIdeal.nD,
      r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
      ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1))
      ∧ r.2.sem = fun _ => 0)

def quiescent_ReferencePbIdeal [hReferencePbIdeal : Cert.ReferencePbIdeal.Facts] : Prop :=
  ∀ (m : (ℓ : Loc Cert.ReferencePbIdeal.nD Cert.ReferencePbIdeal.τ Cert.ReferencePbIdeal.sig) → Buf (Elt Ideal) ℓ) (g : Dev Cert.ReferencePbIdeal.nD → PrngReg), Pre_ReferencePbIdeal m →
    θ_run (Cert.ReferencePbIdeal.defs (F := Ideal)) (onTc (τ := Cert.ReferencePbIdeal.τ) (Cert.ReferencePbIdeal.main (F := Ideal))) ⟨m, fun _ => 0, g⟩ (fun r => (∀ c : Dev Cert.ReferencePbIdeal.nD,
      r.2.mem ((c.tc : Thread Cert.ReferencePbIdeal.nD Cert.ReferencePbIdeal.τ).loc Cert.ReferencePbIdeal.main_arg0) = m ((c.tc : Thread Cert.ReferencePbIdeal.nD Cert.ReferencePbIdeal.τ).loc Cert.ReferencePbIdeal.main_arg0)
      ∧ r.2.mem ((c.tc : Thread Cert.ReferencePbIdeal.nD Cert.ReferencePbIdeal.τ).loc Cert.ReferencePbIdeal.main_arg1) = m ((c.tc : Thread Cert.ReferencePbIdeal.nD Cert.ReferencePbIdeal.τ).loc Cert.ReferencePbIdeal.main_arg1))
      ∧ r.2.sem = fun _ => 0)

def quiescent_KernelPc [hKernelPc : Cert.KernelPc.Facts] : Prop :=
  ∀ (m : (ℓ : Loc Cert.KernelPc.nD Cert.KernelPc.τ Cert.KernelPc.sig) → Buf (Elt Bits) ℓ) (g : Dev Cert.KernelPc.nD → PrngReg), Pre_KernelPc m →
    θ_run (Cert.KernelPc.defs (F := Bits)) (onTc (τ := Cert.KernelPc.τ) (Cert.KernelPc.main (F := Bits))) ⟨m, fun _ => 0, g⟩ (fun r => (∀ c : Dev Cert.KernelPc.nD,
      r.2.mem ((c.tc : Thread Cert.KernelPc.nD Cert.KernelPc.τ).loc Cert.KernelPc.main_arg0) = m ((c.tc : Thread Cert.KernelPc.nD Cert.KernelPc.τ).loc Cert.KernelPc.main_arg0)
      ∧ r.2.mem ((c.tc : Thread Cert.KernelPc.nD Cert.KernelPc.τ).loc Cert.KernelPc.main_arg1) = m ((c.tc : Thread Cert.KernelPc.nD Cert.KernelPc.τ).loc Cert.KernelPc.main_arg1))
      ∧ r.2.sem = fun _ => 0)

def quiescent_KernelPcIdeal [hKernelPcIdeal : Cert.KernelPcIdeal.Facts] : Prop :=
  ∀ (m : (ℓ : Loc Cert.KernelPcIdeal.nD Cert.KernelPcIdeal.τ Cert.KernelPcIdeal.sig) → Buf (Elt Ideal) ℓ) (g : Dev Cert.KernelPcIdeal.nD → PrngReg), Pre_KernelPcIdeal m →
    θ_run (Cert.KernelPcIdeal.defs (F := Ideal)) (onTc (τ := Cert.KernelPcIdeal.τ) (Cert.KernelPcIdeal.main (F := Ideal))) ⟨m, fun _ => 0, g⟩ (fun r => (∀ c : Dev Cert.KernelPcIdeal.nD,
      r.2.mem ((c.tc : Thread Cert.KernelPcIdeal.nD Cert.KernelPcIdeal.τ).loc Cert.KernelPcIdeal.main_arg0) = m ((c.tc : Thread Cert.KernelPcIdeal.nD Cert.KernelPcIdeal.τ).loc Cert.KernelPcIdeal.main_arg0)
      ∧ r.2.mem ((c.tc : Thread Cert.KernelPcIdeal.nD Cert.KernelPcIdeal.τ).loc Cert.KernelPcIdeal.main_arg1) = m ((c.tc : Thread Cert.KernelPcIdeal.nD Cert.KernelPcIdeal.τ).loc Cert.KernelPcIdeal.main_arg1))
      ∧ r.2.sem = fun _ => 0)

def quiescent_ReferencePcIdeal [hReferencePcIdeal : Cert.ReferencePcIdeal.Facts] : Prop :=
  ∀ (m : (ℓ : Loc Cert.ReferencePcIdeal.nD Cert.ReferencePcIdeal.τ Cert.ReferencePcIdeal.sig) → Buf (Elt Ideal) ℓ) (g : Dev Cert.ReferencePcIdeal.nD → PrngReg), Pre_ReferencePcIdeal m →
    θ_run (Cert.ReferencePcIdeal.defs (F := Ideal)) (onTc (τ := Cert.ReferencePcIdeal.τ) (Cert.ReferencePcIdeal.main (F := Ideal))) ⟨m, fun _ => 0, g⟩ (fun r => (∀ c : Dev Cert.ReferencePcIdeal.nD,
      r.2.mem ((c.tc : Thread Cert.ReferencePcIdeal.nD Cert.ReferencePcIdeal.τ).loc Cert.ReferencePcIdeal.main_arg0) = m ((c.tc : Thread Cert.ReferencePcIdeal.nD Cert.ReferencePcIdeal.τ).loc Cert.ReferencePcIdeal.main_arg0)
      ∧ r.2.mem ((c.tc : Thread Cert.ReferencePcIdeal.nD Cert.ReferencePcIdeal.τ).loc Cert.ReferencePcIdeal.main_arg1) = m ((c.tc : Thread Cert.ReferencePcIdeal.nD Cert.ReferencePcIdeal.τ).loc Cert.ReferencePcIdeal.main_arg1))
      ∧ r.2.sem = fun _ => 0)

def quiescent_KernelW13 [hKernelW13 : Cert.KernelW13.Facts] : Prop :=
  ∀ (m : (ℓ : Loc Cert.KernelW13.nD Cert.KernelW13.τ Cert.KernelW13.sig) → Buf (Elt Bits) ℓ) (g : Dev Cert.KernelW13.nD → PrngReg), Pre_KernelW13 m →
    θ_run (Cert.KernelW13.defs (F := Bits)) (onTc (τ := Cert.KernelW13.τ) (Cert.KernelW13.main (F := Bits))) ⟨m, fun _ => 0, g⟩ (fun r => (∀ c : Dev Cert.KernelW13.nD,
      r.2.mem ((c.tc : Thread Cert.KernelW13.nD Cert.KernelW13.τ).loc Cert.KernelW13.main_arg0) = m ((c.tc : Thread Cert.KernelW13.nD Cert.KernelW13.τ).loc Cert.KernelW13.main_arg0)
      ∧ r.2.mem ((c.tc : Thread Cert.KernelW13.nD Cert.KernelW13.τ).loc Cert.KernelW13.main_arg1) = m ((c.tc : Thread Cert.KernelW13.nD Cert.KernelW13.τ).loc Cert.KernelW13.main_arg1))
      ∧ r.2.sem = fun _ => 0)

def quiescent_KernelW13Ideal [hKernelW13Ideal : Cert.KernelW13Ideal.Facts] : Prop :=
  ∀ (m : (ℓ : Loc Cert.KernelW13Ideal.nD Cert.KernelW13Ideal.τ Cert.KernelW13Ideal.sig) → Buf (Elt Ideal) ℓ) (g : Dev Cert.KernelW13Ideal.nD → PrngReg), Pre_KernelW13Ideal m →
    θ_run (Cert.KernelW13Ideal.defs (F := Ideal)) (onTc (τ := Cert.KernelW13Ideal.τ) (Cert.KernelW13Ideal.main (F := Ideal))) ⟨m, fun _ => 0, g⟩ (fun r => (∀ c : Dev Cert.KernelW13Ideal.nD,
      r.2.mem ((c.tc : Thread Cert.KernelW13Ideal.nD Cert.KernelW13Ideal.τ).loc Cert.KernelW13Ideal.main_arg0) = m ((c.tc : Thread Cert.KernelW13Ideal.nD Cert.KernelW13Ideal.τ).loc Cert.KernelW13Ideal.main_arg0)
      ∧ r.2.mem ((c.tc : Thread Cert.KernelW13Ideal.nD Cert.KernelW13Ideal.τ).loc Cert.KernelW13Ideal.main_arg1) = m ((c.tc : Thread Cert.KernelW13Ideal.nD Cert.KernelW13Ideal.τ).loc Cert.KernelW13Ideal.main_arg1))
      ∧ r.2.sem = fun _ => 0)

def quiescent_ReferenceW13Ideal [hReferenceW13Ideal : Cert.ReferenceW13Ideal.Facts] : Prop :=
  ∀ (m : (ℓ : Loc Cert.ReferenceW13Ideal.nD Cert.ReferenceW13Ideal.τ Cert.ReferenceW13Ideal.sig) → Buf (Elt Ideal) ℓ) (g : Dev Cert.ReferenceW13Ideal.nD → PrngReg), Pre_ReferenceW13Ideal m →
    θ_run (Cert.ReferenceW13Ideal.defs (F := Ideal)) (onTc (τ := Cert.ReferenceW13Ideal.τ) (Cert.ReferenceW13Ideal.main (F := Ideal))) ⟨m, fun _ => 0, g⟩ (fun r => (∀ c : Dev Cert.ReferenceW13Ideal.nD,
      r.2.mem ((c.tc : Thread Cert.ReferenceW13Ideal.nD Cert.ReferenceW13Ideal.τ).loc Cert.ReferenceW13Ideal.main_arg0) = m ((c.tc : Thread Cert.ReferenceW13Ideal.nD Cert.ReferenceW13Ideal.τ).loc Cert.ReferenceW13Ideal.main_arg0)
      ∧ r.2.mem ((c.tc : Thread Cert.ReferenceW13Ideal.nD Cert.ReferenceW13Ideal.τ).loc Cert.ReferenceW13Ideal.main_arg1) = m ((c.tc : Thread Cert.ReferenceW13Ideal.nD Cert.ReferenceW13Ideal.τ).loc Cert.ReferenceW13Ideal.main_arg1))
      ∧ r.2.sem = fun _ => 0)

def quiescent_KernelW2 [hKernelW2 : Cert.KernelW2.Facts] : Prop :=
  ∀ (m : (ℓ : Loc Cert.KernelW2.nD Cert.KernelW2.τ Cert.KernelW2.sig) → Buf (Elt Bits) ℓ) (g : Dev Cert.KernelW2.nD → PrngReg), Pre_KernelW2 m →
    θ_run (Cert.KernelW2.defs (F := Bits)) (onTc (τ := Cert.KernelW2.τ) (Cert.KernelW2.main (F := Bits))) ⟨m, fun _ => 0, g⟩ (fun r => (∀ c : Dev Cert.KernelW2.nD,
      r.2.mem ((c.tc : Thread Cert.KernelW2.nD Cert.KernelW2.τ).loc Cert.KernelW2.main_arg0) = m ((c.tc : Thread Cert.KernelW2.nD Cert.KernelW2.τ).loc Cert.KernelW2.main_arg0)
      ∧ r.2.mem ((c.tc : Thread Cert.KernelW2.nD Cert.KernelW2.τ).loc Cert.KernelW2.main_arg1) = m ((c.tc : Thread Cert.KernelW2.nD Cert.KernelW2.τ).loc Cert.KernelW2.main_arg1))
      ∧ r.2.sem = fun _ => 0)

def quiescent_KernelW2Ideal [hKernelW2Ideal : Cert.KernelW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg), Pre_KernelW2Ideal m →
    θ_run (Cert.KernelW2Ideal.defs (F := Ideal)) (onTc (τ := Cert.KernelW2Ideal.τ) (Cert.KernelW2Ideal.main (F := Ideal))) ⟨m, fun _ => 0, g⟩ (fun r => (∀ c : Dev Cert.KernelW2Ideal.nD,
      r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
      ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1))
      ∧ r.2.sem = fun _ => 0)

def quiescent_ReferenceW2Ideal [hReferenceW2Ideal : Cert.ReferenceW2Ideal.Facts] : Prop :=
  ∀ (m : (ℓ : Loc Cert.ReferenceW2Ideal.nD Cert.ReferenceW2Ideal.τ Cert.ReferenceW2Ideal.sig) → Buf (Elt Ideal) ℓ) (g : Dev Cert.ReferenceW2Ideal.nD → PrngReg), Pre_ReferenceW2Ideal m →
    θ_run (Cert.ReferenceW2Ideal.defs (F := Ideal)) (onTc (τ := Cert.ReferenceW2Ideal.τ) (Cert.ReferenceW2Ideal.main (F := Ideal))) ⟨m, fun _ => 0, g⟩ (fun r => (∀ c : Dev Cert.ReferenceW2Ideal.nD,
      r.2.mem ((c.tc : Thread Cert.ReferenceW2Ideal.nD Cert.ReferenceW2Ideal.τ).loc Cert.ReferenceW2Ideal.main_arg0) = m ((c.tc : Thread Cert.ReferenceW2Ideal.nD Cert.ReferenceW2Ideal.τ).loc Cert.ReferenceW2Ideal.main_arg0)
      ∧ r.2.mem ((c.tc : Thread Cert.ReferenceW2Ideal.nD Cert.ReferenceW2Ideal.τ).loc Cert.ReferenceW2Ideal.main_arg1) = m ((c.tc : Thread Cert.ReferenceW2Ideal.nD Cert.ReferenceW2Ideal.τ).loc Cert.ReferenceW2Ideal.main_arg1))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8)
      ∧ r.2.mem ((c.tc : Thread Cert.KernelMix.nD Cert.KernelMix.τ).loc Cert.KernelMix.main_arg9) = m ((c.tc : Thread Cert.KernelMix.nD Cert.KernelMix.τ).loc Cert.KernelMix.main_arg9)
      ∧ r.2.mem ((c.tc : Thread Cert.KernelMix.nD Cert.KernelMix.τ).loc Cert.KernelMix.main_arg10) = m ((c.tc : Thread Cert.KernelMix.nD Cert.KernelMix.τ).loc Cert.KernelMix.main_arg10)
      ∧ r.2.mem ((c.tc : Thread Cert.KernelMix.nD Cert.KernelMix.τ).loc Cert.KernelMix.main_arg11) = m ((c.tc : Thread Cert.KernelMix.nD Cert.KernelMix.τ).loc Cert.KernelMix.main_arg11)
      ∧ r.2.mem ((c.tc : Thread Cert.KernelMix.nD Cert.KernelMix.τ).loc Cert.KernelMix.main_arg12) = m ((c.tc : Thread Cert.KernelMix.nD Cert.KernelMix.τ).loc Cert.KernelMix.main_arg12)
      ∧ r.2.mem ((c.tc : Thread Cert.KernelMix.nD Cert.KernelMix.τ).loc Cert.KernelMix.main_arg13) = m ((c.tc : Thread Cert.KernelMix.nD Cert.KernelMix.τ).loc Cert.KernelMix.main_arg13)
      ∧ r.2.mem ((c.tc : Thread Cert.KernelMix.nD Cert.KernelMix.τ).loc Cert.KernelMix.main_arg14) = m ((c.tc : Thread Cert.KernelMix.nD Cert.KernelMix.τ).loc Cert.KernelMix.main_arg14))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
      ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
      ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
      ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
      ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
      ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
      ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8)
      ∧ r.2.mem ((c.tc : Thread Cert.ReferenceMixIdeal.nD Cert.ReferenceMixIdeal.τ).loc Cert.ReferenceMixIdeal.main_arg9) = m ((c.tc : Thread Cert.ReferenceMixIdeal.nD Cert.ReferenceMixIdeal.τ).loc Cert.ReferenceMixIdeal.main_arg9)
      ∧ r.2.mem ((c.tc : Thread Cert.ReferenceMixIdeal.nD Cert.ReferenceMixIdeal.τ).loc Cert.ReferenceMixIdeal.main_arg10) = m ((c.tc : Thread Cert.ReferenceMixIdeal.nD Cert.ReferenceMixIdeal.τ).loc Cert.ReferenceMixIdeal.main_arg10)
      ∧ r.2.mem ((c.tc : Thread Cert.ReferenceMixIdeal.nD Cert.ReferenceMixIdeal.τ).loc Cert.ReferenceMixIdeal.main_arg11) = m ((c.tc : Thread Cert.ReferenceMixIdeal.nD Cert.ReferenceMixIdeal.τ).loc Cert.ReferenceMixIdeal.main_arg11)
      ∧ r.2.mem ((c.tc : Thread Cert.ReferenceMixIdeal.nD Cert.ReferenceMixIdeal.τ).loc Cert.ReferenceMixIdeal.main_arg12) = m ((c.tc : Thread Cert.ReferenceMixIdeal.nD Cert.ReferenceMixIdeal.τ).loc Cert.ReferenceMixIdeal.main_arg12)
      ∧ r.2.mem ((c.tc : Thread Cert.ReferenceMixIdeal.nD Cert.ReferenceMixIdeal.τ).loc Cert.ReferenceMixIdeal.main_arg13) = m ((c.tc : Thread Cert.ReferenceMixIdeal.nD Cert.ReferenceMixIdeal.τ).loc Cert.ReferenceMixIdeal.main_arg13)
      ∧ r.2.mem ((c.tc : Thread Cert.ReferenceMixIdeal.nD Cert.ReferenceMixIdeal.τ).loc Cert.ReferenceMixIdeal.main_arg14) = m ((c.tc : Thread Cert.ReferenceMixIdeal.nD Cert.ReferenceMixIdeal.τ).loc Cert.ReferenceMixIdeal.main_arg14))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v8) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelO_KernelOIdeal : Prop :=
  True

def algebraic_KernelOIdeal_ReferenceOIdeal [hKernelOIdeal : Cert.KernelOIdeal.Facts] [hReferenceOIdeal : Cert.ReferenceOIdeal.Facts] : Prop :=
  ∀ (m : (ℓ : Loc Cert.KernelOIdeal.nD Cert.KernelOIdeal.τ Cert.KernelOIdeal.sig) → Buf (Elt Ideal) ℓ) (g : Dev Cert.KernelOIdeal.nD → PrngReg)
    (m' : (ℓ : Loc Cert.ReferenceOIdeal.nD Cert.ReferenceOIdeal.τ Cert.ReferenceOIdeal.sig) → Buf (Elt Ideal) ℓ) (g' : Dev Cert.ReferenceOIdeal.nD → PrngReg), Pre_KernelOIdeal m →
    (∀ c : Dev Cert.KernelOIdeal.nD,
      m' ((c.tc : Thread Cert.ReferenceOIdeal.nD Cert.ReferenceOIdeal.τ).loc Cert.ReferenceOIdeal.main_arg0) = m ((c.tc : Thread Cert.KernelOIdeal.nD Cert.KernelOIdeal.τ).loc Cert.KernelOIdeal.main_arg0)
      ∧ m' ((c.tc : Thread Cert.ReferenceOIdeal.nD Cert.ReferenceOIdeal.τ).loc Cert.ReferenceOIdeal.main_arg1) = m ((c.tc : Thread Cert.KernelOIdeal.nD Cert.KernelOIdeal.τ).loc Cert.KernelOIdeal.main_arg1)) →
    ∃ (v0 : (c : Dev Cert.KernelOIdeal.nD) → Buf (Elt Ideal) ((c.tc : Thread Cert.KernelOIdeal.nD Cert.KernelOIdeal.τ).loc Cert.KernelOIdeal.main_v2)),
      θ_run (Cert.KernelOIdeal.defs (F := Ideal)) (onTc (τ := Cert.KernelOIdeal.τ) (Cert.KernelOIdeal.main (F := Ideal))) ⟨m, fun _ => 0, g⟩ (fun r => ∀ c : Dev Cert.KernelOIdeal.nD,
          r.2.mem ((c.tc : Thread Cert.KernelOIdeal.nD Cert.KernelOIdeal.τ).loc Cert.KernelOIdeal.main_v2) = v0 c
          ∧ r.2.mem ((c.tc : Thread Cert.KernelOIdeal.nD Cert.KernelOIdeal.τ).loc Cert.KernelOIdeal.main_arg0) = m ((c.tc : Thread Cert.KernelOIdeal.nD Cert.KernelOIdeal.τ).loc Cert.KernelOIdeal.main_arg0)
          ∧ r.2.mem ((c.tc : Thread Cert.KernelOIdeal.nD Cert.KernelOIdeal.τ).loc Cert.KernelOIdeal.main_arg1) = m ((c.tc : Thread Cert.KernelOIdeal.nD Cert.KernelOIdeal.τ).loc Cert.KernelOIdeal.main_arg1))
      ∧ θ_run (Cert.ReferenceOIdeal.defs (F := Ideal)) (onTc (τ := Cert.ReferenceOIdeal.τ) (Cert.ReferenceOIdeal.main (F := Ideal))) ⟨m', fun _ => 0, g'⟩ (fun r => ∀ c : Dev Cert.ReferenceOIdeal.nD,
          r.2.mem ((c.tc : Thread Cert.ReferenceOIdeal.nD Cert.ReferenceOIdeal.τ).loc Cert.ReferenceOIdeal.main_v6) = v0 c
          ∧ r.2.mem ((c.tc : Thread Cert.ReferenceOIdeal.nD Cert.ReferenceOIdeal.τ).loc Cert.ReferenceOIdeal.main_arg0) = m' ((c.tc : Thread Cert.ReferenceOIdeal.nD Cert.ReferenceOIdeal.τ).loc Cert.ReferenceOIdeal.main_arg0)
          ∧ r.2.mem ((c.tc : Thread Cert.ReferenceOIdeal.nD Cert.ReferenceOIdeal.τ).loc Cert.ReferenceOIdeal.main_arg1) = m' ((c.tc : Thread Cert.ReferenceOIdeal.nD Cert.ReferenceOIdeal.τ).loc Cert.ReferenceOIdeal.main_arg1))

def preserves_KernelPa_KernelPaIdeal : Prop :=
  True

def algebraic_KernelPaIdeal_ReferencePaIdeal [hKernelPaIdeal : Cert.KernelPaIdeal.Facts] [hReferencePaIdeal : Cert.ReferencePaIdeal.Facts] : Prop :=
  ∀ (m : (ℓ : Loc Cert.KernelPaIdeal.nD Cert.KernelPaIdeal.τ Cert.KernelPaIdeal.sig) → Buf (Elt Ideal) ℓ) (g : Dev Cert.KernelPaIdeal.nD → PrngReg)
    (m' : (ℓ : Loc Cert.ReferencePaIdeal.nD Cert.ReferencePaIdeal.τ Cert.ReferencePaIdeal.sig) → Buf (Elt Ideal) ℓ) (g' : Dev Cert.ReferencePaIdeal.nD → PrngReg), Pre_KernelPaIdeal m →
    (∀ c : Dev Cert.KernelPaIdeal.nD,
      m' ((c.tc : Thread Cert.ReferencePaIdeal.nD Cert.ReferencePaIdeal.τ).loc Cert.ReferencePaIdeal.main_arg0) = m ((c.tc : Thread Cert.KernelPaIdeal.nD Cert.KernelPaIdeal.τ).loc Cert.KernelPaIdeal.main_arg0)
      ∧ m' ((c.tc : Thread Cert.ReferencePaIdeal.nD Cert.ReferencePaIdeal.τ).loc Cert.ReferencePaIdeal.main_arg1) = m ((c.tc : Thread Cert.KernelPaIdeal.nD Cert.KernelPaIdeal.τ).loc Cert.KernelPaIdeal.main_arg1)) →
    ∃ (v0 : (c : Dev Cert.KernelPaIdeal.nD) → Buf (Elt Ideal) ((c.tc : Thread Cert.KernelPaIdeal.nD Cert.KernelPaIdeal.τ).loc Cert.KernelPaIdeal.main_v2)),
      θ_run (Cert.KernelPaIdeal.defs (F := Ideal)) (onTc (τ := Cert.KernelPaIdeal.τ) (Cert.KernelPaIdeal.main (F := Ideal))) ⟨m, fun _ => 0, g⟩ (fun r => ∀ c : Dev Cert.KernelPaIdeal.nD,
          r.2.mem ((c.tc : Thread Cert.KernelPaIdeal.nD Cert.KernelPaIdeal.τ).loc Cert.KernelPaIdeal.main_v2) = v0 c
          ∧ r.2.mem ((c.tc : Thread Cert.KernelPaIdeal.nD Cert.KernelPaIdeal.τ).loc Cert.KernelPaIdeal.main_arg0) = m ((c.tc : Thread Cert.KernelPaIdeal.nD Cert.KernelPaIdeal.τ).loc Cert.KernelPaIdeal.main_arg0)
          ∧ r.2.mem ((c.tc : Thread Cert.KernelPaIdeal.nD Cert.KernelPaIdeal.τ).loc Cert.KernelPaIdeal.main_arg1) = m ((c.tc : Thread Cert.KernelPaIdeal.nD Cert.KernelPaIdeal.τ).loc Cert.KernelPaIdeal.main_arg1))
      ∧ θ_run (Cert.ReferencePaIdeal.defs (F := Ideal)) (onTc (τ := Cert.ReferencePaIdeal.τ) (Cert.ReferencePaIdeal.main (F := Ideal))) ⟨m', fun _ => 0, g'⟩ (fun r => ∀ c : Dev Cert.ReferencePaIdeal.nD,
          r.2.mem ((c.tc : Thread Cert.ReferencePaIdeal.nD Cert.ReferencePaIdeal.τ).loc Cert.ReferencePaIdeal.main_v10) = v0 c
          ∧ r.2.mem ((c.tc : Thread Cert.ReferencePaIdeal.nD Cert.ReferencePaIdeal.τ).loc Cert.ReferencePaIdeal.main_arg0) = m' ((c.tc : Thread Cert.ReferencePaIdeal.nD Cert.ReferencePaIdeal.τ).loc Cert.ReferencePaIdeal.main_arg0)
          ∧ r.2.mem ((c.tc : Thread Cert.ReferencePaIdeal.nD Cert.ReferencePaIdeal.τ).loc Cert.ReferencePaIdeal.main_arg1) = m' ((c.tc : Thread Cert.ReferencePaIdeal.nD Cert.ReferencePaIdeal.τ).loc Cert.ReferencePaIdeal.main_arg1))

def preserves_KernelPb_KernelPbIdeal : Prop :=
  True

def algebraic_KernelPbIdeal_ReferencePbIdeal [hKernelPbIdeal : Cert.KernelPbIdeal.Facts] [hReferencePbIdeal : Cert.ReferencePbIdeal.Facts] : Prop :=
  ∀ (m : (ℓ : Loc Cert.KernelPbIdeal.nD Cert.KernelPbIdeal.τ Cert.KernelPbIdeal.sig) → Buf (Elt Ideal) ℓ) (g : Dev Cert.KernelPbIdeal.nD → PrngReg)
    (m' : (ℓ : Loc Cert.ReferencePbIdeal.nD Cert.ReferencePbIdeal.τ Cert.ReferencePbIdeal.sig) → Buf (Elt Ideal) ℓ) (g' : Dev Cert.ReferencePbIdeal.nD → PrngReg), Pre_KernelPbIdeal m →
    (∀ c : Dev Cert.KernelPbIdeal.nD,
      m' ((c.tc : Thread Cert.ReferencePbIdeal.nD Cert.ReferencePbIdeal.τ).loc Cert.ReferencePbIdeal.main_arg0) = m ((c.tc : Thread Cert.KernelPbIdeal.nD Cert.KernelPbIdeal.τ).loc Cert.KernelPbIdeal.main_arg0)
      ∧ m' ((c.tc : Thread Cert.ReferencePbIdeal.nD Cert.ReferencePbIdeal.τ).loc Cert.ReferencePbIdeal.main_arg1) = m ((c.tc : Thread Cert.KernelPbIdeal.nD Cert.KernelPbIdeal.τ).loc Cert.KernelPbIdeal.main_arg1)) →
    ∃ (v0 : (c : Dev Cert.KernelPbIdeal.nD) → Buf (Elt Ideal) ((c.tc : Thread Cert.KernelPbIdeal.nD Cert.KernelPbIdeal.τ).loc Cert.KernelPbIdeal.main_v2)),
      θ_run (Cert.KernelPbIdeal.defs (F := Ideal)) (onTc (τ := Cert.KernelPbIdeal.τ) (Cert.KernelPbIdeal.main (F := Ideal))) ⟨m, fun _ => 0, g⟩ (fun r => ∀ c : Dev Cert.KernelPbIdeal.nD,
          r.2.mem ((c.tc : Thread Cert.KernelPbIdeal.nD Cert.KernelPbIdeal.τ).loc Cert.KernelPbIdeal.main_v2) = v0 c
          ∧ r.2.mem ((c.tc : Thread Cert.KernelPbIdeal.nD Cert.KernelPbIdeal.τ).loc Cert.KernelPbIdeal.main_arg0) = m ((c.tc : Thread Cert.KernelPbIdeal.nD Cert.KernelPbIdeal.τ).loc Cert.KernelPbIdeal.main_arg0)
          ∧ r.2.mem ((c.tc : Thread Cert.KernelPbIdeal.nD Cert.KernelPbIdeal.τ).loc Cert.KernelPbIdeal.main_arg1) = m ((c.tc : Thread Cert.KernelPbIdeal.nD Cert.KernelPbIdeal.τ).loc Cert.KernelPbIdeal.main_arg1))
      ∧ θ_run (Cert.ReferencePbIdeal.defs (F := Ideal)) (onTc (τ := Cert.ReferencePbIdeal.τ) (Cert.ReferencePbIdeal.main (F := Ideal))) ⟨m', fun _ => 0, g'⟩ (fun r => ∀ c : Dev Cert.ReferencePbIdeal.nD,
          r.2.mem ((c.tc : Thread Cert.ReferencePbIdeal.nD Cert.ReferencePbIdeal.τ).loc Cert.ReferencePbIdeal.main_v10) = v0 c
          ∧ r.2.mem ((c.tc : Thread Cert.ReferencePbIdeal.nD Cert.ReferencePbIdeal.τ).loc Cert.ReferencePbIdeal.main_arg0) = m' ((c.tc : Thread Cert.ReferencePbIdeal.nD Cert.ReferencePbIdeal.τ).loc Cert.ReferencePbIdeal.main_arg0)
          ∧ r.2.mem ((c.tc : Thread Cert.ReferencePbIdeal.nD Cert.ReferencePbIdeal.τ).loc Cert.ReferencePbIdeal.main_arg1) = m' ((c.tc : Thread Cert.ReferencePbIdeal.nD Cert.ReferencePbIdeal.τ).loc Cert.ReferencePbIdeal.main_arg1))

def preserves_KernelPc_KernelPcIdeal : Prop :=
  True

def algebraic_KernelPcIdeal_ReferencePcIdeal [hKernelPcIdeal : Cert.KernelPcIdeal.Facts] [hReferencePcIdeal : Cert.ReferencePcIdeal.Facts] : Prop :=
  ∀ (m : (ℓ : Loc Cert.KernelPcIdeal.nD Cert.KernelPcIdeal.τ Cert.KernelPcIdeal.sig) → Buf (Elt Ideal) ℓ) (g : Dev Cert.KernelPcIdeal.nD → PrngReg)
    (m' : (ℓ : Loc Cert.ReferencePcIdeal.nD Cert.ReferencePcIdeal.τ Cert.ReferencePcIdeal.sig) → Buf (Elt Ideal) ℓ) (g' : Dev Cert.ReferencePcIdeal.nD → PrngReg), Pre_KernelPcIdeal m →
    (∀ c : Dev Cert.KernelPcIdeal.nD,
      m' ((c.tc : Thread Cert.ReferencePcIdeal.nD Cert.ReferencePcIdeal.τ).loc Cert.ReferencePcIdeal.main_arg0) = m ((c.tc : Thread Cert.KernelPcIdeal.nD Cert.KernelPcIdeal.τ).loc Cert.KernelPcIdeal.main_arg0)
      ∧ m' ((c.tc : Thread Cert.ReferencePcIdeal.nD Cert.ReferencePcIdeal.τ).loc Cert.ReferencePcIdeal.main_arg1) = m ((c.tc : Thread Cert.KernelPcIdeal.nD Cert.KernelPcIdeal.τ).loc Cert.KernelPcIdeal.main_arg1)) →
    ∃ (v0 : (c : Dev Cert.KernelPcIdeal.nD) → Buf (Elt Ideal) ((c.tc : Thread Cert.KernelPcIdeal.nD Cert.KernelPcIdeal.τ).loc Cert.KernelPcIdeal.main_v2)),
      θ_run (Cert.KernelPcIdeal.defs (F := Ideal)) (onTc (τ := Cert.KernelPcIdeal.τ) (Cert.KernelPcIdeal.main (F := Ideal))) ⟨m, fun _ => 0, g⟩ (fun r => ∀ c : Dev Cert.KernelPcIdeal.nD,
          r.2.mem ((c.tc : Thread Cert.KernelPcIdeal.nD Cert.KernelPcIdeal.τ).loc Cert.KernelPcIdeal.main_v2) = v0 c
          ∧ r.2.mem ((c.tc : Thread Cert.KernelPcIdeal.nD Cert.KernelPcIdeal.τ).loc Cert.KernelPcIdeal.main_arg0) = m ((c.tc : Thread Cert.KernelPcIdeal.nD Cert.KernelPcIdeal.τ).loc Cert.KernelPcIdeal.main_arg0)
          ∧ r.2.mem ((c.tc : Thread Cert.KernelPcIdeal.nD Cert.KernelPcIdeal.τ).loc Cert.KernelPcIdeal.main_arg1) = m ((c.tc : Thread Cert.KernelPcIdeal.nD Cert.KernelPcIdeal.τ).loc Cert.KernelPcIdeal.main_arg1))
      ∧ θ_run (Cert.ReferencePcIdeal.defs (F := Ideal)) (onTc (τ := Cert.ReferencePcIdeal.τ) (Cert.ReferencePcIdeal.main (F := Ideal))) ⟨m', fun _ => 0, g'⟩ (fun r => ∀ c : Dev Cert.ReferencePcIdeal.nD,
          r.2.mem ((c.tc : Thread Cert.ReferencePcIdeal.nD Cert.ReferencePcIdeal.τ).loc Cert.ReferencePcIdeal.main_v10) = v0 c
          ∧ r.2.mem ((c.tc : Thread Cert.ReferencePcIdeal.nD Cert.ReferencePcIdeal.τ).loc Cert.ReferencePcIdeal.main_arg0) = m' ((c.tc : Thread Cert.ReferencePcIdeal.nD Cert.ReferencePcIdeal.τ).loc Cert.ReferencePcIdeal.main_arg0)
          ∧ r.2.mem ((c.tc : Thread Cert.ReferencePcIdeal.nD Cert.ReferencePcIdeal.τ).loc Cert.ReferencePcIdeal.main_arg1) = m' ((c.tc : Thread Cert.ReferencePcIdeal.nD Cert.ReferencePcIdeal.τ).loc Cert.ReferencePcIdeal.main_arg1))

def preserves_KernelW13_KernelW13Ideal : Prop :=
  True

def algebraic_KernelW13Ideal_ReferenceW13Ideal [hKernelW13Ideal : Cert.KernelW13Ideal.Facts] [hReferenceW13Ideal : Cert.ReferenceW13Ideal.Facts] : Prop :=
  ∀ (m : (ℓ : Loc Cert.KernelW13Ideal.nD Cert.KernelW13Ideal.τ Cert.KernelW13Ideal.sig) → Buf (Elt Ideal) ℓ) (g : Dev Cert.KernelW13Ideal.nD → PrngReg)
    (m' : (ℓ : Loc Cert.ReferenceW13Ideal.nD Cert.ReferenceW13Ideal.τ Cert.ReferenceW13Ideal.sig) → Buf (Elt Ideal) ℓ) (g' : Dev Cert.ReferenceW13Ideal.nD → PrngReg), Pre_KernelW13Ideal m →
    (∀ c : Dev Cert.KernelW13Ideal.nD,
      m' ((c.tc : Thread Cert.ReferenceW13Ideal.nD Cert.ReferenceW13Ideal.τ).loc Cert.ReferenceW13Ideal.main_arg0) = m ((c.tc : Thread Cert.KernelW13Ideal.nD Cert.KernelW13Ideal.τ).loc Cert.KernelW13Ideal.main_arg0)
      ∧ m' ((c.tc : Thread Cert.ReferenceW13Ideal.nD Cert.ReferenceW13Ideal.τ).loc Cert.ReferenceW13Ideal.main_arg1) = m ((c.tc : Thread Cert.KernelW13Ideal.nD Cert.KernelW13Ideal.τ).loc Cert.KernelW13Ideal.main_arg1)) →
    ∃ (v0 : (c : Dev Cert.KernelW13Ideal.nD) → Buf (Elt Ideal) ((c.tc : Thread Cert.KernelW13Ideal.nD Cert.KernelW13Ideal.τ).loc Cert.KernelW13Ideal.main_v4)),
      θ_run (Cert.KernelW13Ideal.defs (F := Ideal)) (onTc (τ := Cert.KernelW13Ideal.τ) (Cert.KernelW13Ideal.main (F := Ideal))) ⟨m, fun _ => 0, g⟩ (fun r => ∀ c : Dev Cert.KernelW13Ideal.nD,
          r.2.mem ((c.tc : Thread Cert.KernelW13Ideal.nD Cert.KernelW13Ideal.τ).loc Cert.KernelW13Ideal.main_v4) = v0 c
          ∧ r.2.mem ((c.tc : Thread Cert.KernelW13Ideal.nD Cert.KernelW13Ideal.τ).loc Cert.KernelW13Ideal.main_arg0) = m ((c.tc : Thread Cert.KernelW13Ideal.nD Cert.KernelW13Ideal.τ).loc Cert.KernelW13Ideal.main_arg0)
          ∧ r.2.mem ((c.tc : Thread Cert.KernelW13Ideal.nD Cert.KernelW13Ideal.τ).loc Cert.KernelW13Ideal.main_arg1) = m ((c.tc : Thread Cert.KernelW13Ideal.nD Cert.KernelW13Ideal.τ).loc Cert.KernelW13Ideal.main_arg1))
      ∧ θ_run (Cert.ReferenceW13Ideal.defs (F := Ideal)) (onTc (τ := Cert.ReferenceW13Ideal.τ) (Cert.ReferenceW13Ideal.main (F := Ideal))) ⟨m', fun _ => 0, g'⟩ (fun r => ∀ c : Dev Cert.ReferenceW13Ideal.nD,
          r.2.mem ((c.tc : Thread Cert.ReferenceW13Ideal.nD Cert.ReferenceW13Ideal.τ).loc Cert.ReferenceW13Ideal.main_v8) = v0 c
          ∧ r.2.mem ((c.tc : Thread Cert.ReferenceW13Ideal.nD Cert.ReferenceW13Ideal.τ).loc Cert.ReferenceW13Ideal.main_arg0) = m' ((c.tc : Thread Cert.ReferenceW13Ideal.nD Cert.ReferenceW13Ideal.τ).loc Cert.ReferenceW13Ideal.main_arg0)
          ∧ r.2.mem ((c.tc : Thread Cert.ReferenceW13Ideal.nD Cert.ReferenceW13Ideal.τ).loc Cert.ReferenceW13Ideal.main_arg1) = m' ((c.tc : Thread Cert.ReferenceW13Ideal.nD Cert.ReferenceW13Ideal.τ).loc Cert.ReferenceW13Ideal.main_arg1))

def preserves_KernelW2_KernelW2Ideal : Prop :=
  True

def algebraic_KernelW2Ideal_ReferenceW2Ideal [hKernelW2Ideal : Cert.KernelW2Ideal.Facts] [hReferenceW2Ideal : Cert.ReferenceW2Ideal.Facts] : Prop :=
  ∀ (m : (ℓ : Loc Cert.KernelW2Ideal.nD Cert.KernelW2Ideal.τ Cert.KernelW2Ideal.sig) → Buf (Elt Ideal) ℓ) (g : Dev Cert.KernelW2Ideal.nD → PrngReg)
    (m' : (ℓ : Loc Cert.ReferenceW2Ideal.nD Cert.ReferenceW2Ideal.τ Cert.ReferenceW2Ideal.sig) → Buf (Elt Ideal) ℓ) (g' : Dev Cert.ReferenceW2Ideal.nD → PrngReg), Pre_KernelW2Ideal m →
    (∀ c : Dev Cert.KernelW2Ideal.nD,
      m' ((c.tc : Thread Cert.ReferenceW2Ideal.nD Cert.ReferenceW2Ideal.τ).loc Cert.ReferenceW2Ideal.main_arg0) = m ((c.tc : Thread Cert.KernelW2Ideal.nD Cert.KernelW2Ideal.τ).loc Cert.KernelW2Ideal.main_arg0)
      ∧ m' ((c.tc : Thread Cert.ReferenceW2Ideal.nD Cert.ReferenceW2Ideal.τ).loc Cert.ReferenceW2Ideal.main_arg1) = m ((c.tc : Thread Cert.KernelW2Ideal.nD Cert.KernelW2Ideal.τ).loc Cert.KernelW2Ideal.main_arg1)) →
    ∃ (v0 : (c : Dev Cert.KernelW2Ideal.nD) → Buf (Elt Ideal) ((c.tc : Thread Cert.KernelW2Ideal.nD Cert.KernelW2Ideal.τ).loc Cert.KernelW2Ideal.main_v4)),
      θ_run (Cert.KernelW2Ideal.defs (F := Ideal)) (onTc (τ := Cert.KernelW2Ideal.τ) (Cert.KernelW2Ideal.main (F := Ideal))) ⟨m, fun _ => 0, g⟩ (fun r => ∀ c : Dev Cert.KernelW2Ideal.nD,
          r.2.mem ((c.tc : Thread Cert.KernelW2Ideal.nD Cert.KernelW2Ideal.τ).loc Cert.KernelW2Ideal.main_v4) = v0 c
          ∧ r.2.mem ((c.tc : Thread Cert.KernelW2Ideal.nD Cert.KernelW2Ideal.τ).loc Cert.KernelW2Ideal.main_arg0) = m ((c.tc : Thread Cert.KernelW2Ideal.nD Cert.KernelW2Ideal.τ).loc Cert.KernelW2Ideal.main_arg0)
          ∧ r.2.mem ((c.tc : Thread Cert.KernelW2Ideal.nD Cert.KernelW2Ideal.τ).loc Cert.KernelW2Ideal.main_arg1) = m ((c.tc : Thread Cert.KernelW2Ideal.nD Cert.KernelW2Ideal.τ).loc Cert.KernelW2Ideal.main_arg1))
      ∧ θ_run (Cert.ReferenceW2Ideal.defs (F := Ideal)) (onTc (τ := Cert.ReferenceW2Ideal.τ) (Cert.ReferenceW2Ideal.main (F := Ideal))) ⟨m', fun _ => 0, g'⟩ (fun r => ∀ c : Dev Cert.ReferenceW2Ideal.nD,
          r.2.mem ((c.tc : Thread Cert.ReferenceW2Ideal.nD Cert.ReferenceW2Ideal.τ).loc Cert.ReferenceW2Ideal.main_v6) = v0 c
          ∧ r.2.mem ((c.tc : Thread Cert.ReferenceW2Ideal.nD Cert.ReferenceW2Ideal.τ).loc Cert.ReferenceW2Ideal.main_arg0) = m' ((c.tc : Thread Cert.ReferenceW2Ideal.nD Cert.ReferenceW2Ideal.τ).loc Cert.ReferenceW2Ideal.main_arg0)
          ∧ r.2.mem ((c.tc : Thread Cert.ReferenceW2Ideal.nD Cert.ReferenceW2Ideal.τ).loc Cert.ReferenceW2Ideal.main_arg1) = m' ((c.tc : Thread Cert.ReferenceW2Ideal.nD Cert.ReferenceW2Ideal.τ).loc Cert.ReferenceW2Ideal.main_arg1))

def preserves_KernelFfn_KernelFfnIdeal : Prop :=
  True

def algebraic_KernelFfnIdeal_ReferenceFfnIdeal [hKernelFfnIdeal : Cert.KernelFfnIdeal.Facts] [hReferenceFfnIdeal : Cert.ReferenceFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)) →
    ∃ (v0 : (c : Dev Cert.KernelFfnIdeal.nD) → Buf (Elt Ideal) ((c.tc : Thread Cert.KernelFfnIdeal.nD Cert.KernelFfnIdeal.τ).loc Cert.KernelFfnIdeal.main_v6_0)) (v1 : (c : Dev Cert.KernelFfnIdeal.nD) → Buf (Elt Ideal) ((c.tc : Thread Cert.KernelFfnIdeal.nD Cert.KernelFfnIdeal.τ).loc Cert.KernelFfnIdeal.main_v6_1)) (v2 : (c : Dev Cert.KernelFfnIdeal.nD) → Buf (Elt Ideal) ((c.tc : Thread Cert.KernelFfnIdeal.nD Cert.KernelFfnIdeal.τ).loc Cert.KernelFfnIdeal.main_v6_2)) (v3 : (c : Dev Cert.KernelFfnIdeal.nD) → Buf (Elt Ideal) ((c.tc : Thread Cert.KernelFfnIdeal.nD Cert.KernelFfnIdeal.τ).loc Cert.KernelFfnIdeal.main_v6_3)) (v4 : (c : Dev Cert.KernelFfnIdeal.nD) → Buf (Elt Ideal) ((c.tc : Thread Cert.KernelFfnIdeal.nD Cert.KernelFfnIdeal.τ).loc Cert.KernelFfnIdeal.main_v6_4)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v6_0) = v0 c
          ∧ r.2.mem ((c.tc : Thread Cert.KernelFfnIdeal.nD Cert.KernelFfnIdeal.τ).loc Cert.KernelFfnIdeal.main_v6_1) = v1 c
          ∧ r.2.mem ((c.tc : Thread Cert.KernelFfnIdeal.nD Cert.KernelFfnIdeal.τ).loc Cert.KernelFfnIdeal.main_v6_2) = v2 c
          ∧ r.2.mem ((c.tc : Thread Cert.KernelFfnIdeal.nD Cert.KernelFfnIdeal.τ).loc Cert.KernelFfnIdeal.main_v6_3) = v3 c
          ∧ r.2.mem ((c.tc : Thread Cert.KernelFfnIdeal.nD Cert.KernelFfnIdeal.τ).loc Cert.KernelFfnIdeal.main_v6_4) = v4 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v35) = v0 c
          ∧ r.2.mem ((c.tc : Thread Cert.ReferenceFfnIdeal.nD Cert.ReferenceFfnIdeal.τ).loc Cert.ReferenceFfnIdeal.main_v39) = v1 c
          ∧ r.2.mem ((c.tc : Thread Cert.ReferenceFfnIdeal.nD Cert.ReferenceFfnIdeal.τ).loc Cert.ReferenceFfnIdeal.main_v43) = v2 c
          ∧ r.2.mem ((c.tc : Thread Cert.ReferenceFfnIdeal.nD Cert.ReferenceFfnIdeal.τ).loc Cert.ReferenceFfnIdeal.main_v45) = v3 c
          ∧ r.2.mem ((c.tc : Thread Cert.ReferenceFfnIdeal.nD Cert.ReferenceFfnIdeal.τ).loc Cert.ReferenceFfnIdeal.main_v52) = v4 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4))

def preserves_KernelMix_KernelMixIdeal : Prop :=
  IdealRules.named_const.Statement Cert.KernelMixIdeal.κ "gelu_kc" .f32 0x3D122279#32 ((80338380498831 / 2251799813685248 : ℝ) : EReal)

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)
      ∧ m' ((c.tc : Thread Cert.ReferenceMixIdeal.nD Cert.ReferenceMixIdeal.τ).loc Cert.ReferenceMixIdeal.main_arg9) = m ((c.tc : Thread Cert.KernelMixIdeal.nD Cert.KernelMixIdeal.τ).loc Cert.KernelMixIdeal.main_arg9)
      ∧ m' ((c.tc : Thread Cert.ReferenceMixIdeal.nD Cert.ReferenceMixIdeal.τ).loc Cert.ReferenceMixIdeal.main_arg10) = m ((c.tc : Thread Cert.KernelMixIdeal.nD Cert.KernelMixIdeal.τ).loc Cert.KernelMixIdeal.main_arg10)
      ∧ m' ((c.tc : Thread Cert.ReferenceMixIdeal.nD Cert.ReferenceMixIdeal.τ).loc Cert.ReferenceMixIdeal.main_arg11) = m ((c.tc : Thread Cert.KernelMixIdeal.nD Cert.KernelMixIdeal.τ).loc Cert.KernelMixIdeal.main_arg11)
      ∧ m' ((c.tc : Thread Cert.ReferenceMixIdeal.nD Cert.ReferenceMixIdeal.τ).loc Cert.ReferenceMixIdeal.main_arg12) = m ((c.tc : Thread Cert.KernelMixIdeal.nD Cert.KernelMixIdeal.τ).loc Cert.KernelMixIdeal.main_arg12)
      ∧ m' ((c.tc : Thread Cert.ReferenceMixIdeal.nD Cert.ReferenceMixIdeal.τ).loc Cert.ReferenceMixIdeal.main_arg13) = m ((c.tc : Thread Cert.KernelMixIdeal.nD Cert.KernelMixIdeal.τ).loc Cert.KernelMixIdeal.main_arg13)
      ∧ m' ((c.tc : Thread Cert.ReferenceMixIdeal.nD Cert.ReferenceMixIdeal.τ).loc Cert.ReferenceMixIdeal.main_arg14) = m ((c.tc : Thread Cert.KernelMixIdeal.nD Cert.KernelMixIdeal.τ).loc Cert.KernelMixIdeal.main_arg14)) →
    ∃ (v0 : (c : Dev Cert.KernelMixIdeal.nD) → Buf (Elt Ideal) ((c.tc : Thread Cert.KernelMixIdeal.nD Cert.KernelMixIdeal.τ).loc Cert.KernelMixIdeal.main_v22_0)) (v1 : (c : Dev Cert.KernelMixIdeal.nD) → Buf (Elt Ideal) ((c.tc : Thread Cert.KernelMixIdeal.nD Cert.KernelMixIdeal.τ).loc Cert.KernelMixIdeal.main_v22_1)) (v2 : (c : Dev Cert.KernelMixIdeal.nD) → Buf (Elt Ideal) ((c.tc : Thread Cert.KernelMixIdeal.nD Cert.KernelMixIdeal.τ).loc Cert.KernelMixIdeal.main_v22_2)) (v3 : (c : Dev Cert.KernelMixIdeal.nD) → Buf (Elt Ideal) ((c.tc : Thread Cert.KernelMixIdeal.nD Cert.KernelMixIdeal.τ).loc Cert.KernelMixIdeal.main_v22_3)) (v4 : (c : Dev Cert.KernelMixIdeal.nD) → Buf (Elt Ideal) ((c.tc : Thread Cert.KernelMixIdeal.nD Cert.KernelMixIdeal.τ).loc Cert.KernelMixIdeal.main_v22_4)) (v5 : (c : Dev Cert.KernelMixIdeal.nD) → Buf (Elt Ideal) ((c.tc : Thread Cert.KernelMixIdeal.nD Cert.KernelMixIdeal.τ).loc Cert.KernelMixIdeal.main_v22_5)) (v6 : (c : Dev Cert.KernelMixIdeal.nD) → Buf (Elt Ideal) ((c.tc : Thread Cert.KernelMixIdeal.nD Cert.KernelMixIdeal.τ).loc Cert.KernelMixIdeal.main_v22_6)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v22_0) = v0 c
          ∧ r.2.mem ((c.tc : Thread Cert.KernelMixIdeal.nD Cert.KernelMixIdeal.τ).loc Cert.KernelMixIdeal.main_v22_1) = v1 c
          ∧ r.2.mem ((c.tc : Thread Cert.KernelMixIdeal.nD Cert.KernelMixIdeal.τ).loc Cert.KernelMixIdeal.main_v22_2) = v2 c
          ∧ r.2.mem ((c.tc : Thread Cert.KernelMixIdeal.nD Cert.KernelMixIdeal.τ).loc Cert.KernelMixIdeal.main_v22_3) = v3 c
          ∧ r.2.mem ((c.tc : Thread Cert.KernelMixIdeal.nD Cert.KernelMixIdeal.τ).loc Cert.KernelMixIdeal.main_v22_4) = v4 c
          ∧ r.2.mem ((c.tc : Thread Cert.KernelMixIdeal.nD Cert.KernelMixIdeal.τ).loc Cert.KernelMixIdeal.main_v22_5) = v5 c
          ∧ r.2.mem ((c.tc : Thread Cert.KernelMixIdeal.nD Cert.KernelMixIdeal.τ).loc Cert.KernelMixIdeal.main_v22_6) = v6 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8)
          ∧ r.2.mem ((c.tc : Thread Cert.KernelMixIdeal.nD Cert.KernelMixIdeal.τ).loc Cert.KernelMixIdeal.main_arg9) = m ((c.tc : Thread Cert.KernelMixIdeal.nD Cert.KernelMixIdeal.τ).loc Cert.KernelMixIdeal.main_arg9)
          ∧ r.2.mem ((c.tc : Thread Cert.KernelMixIdeal.nD Cert.KernelMixIdeal.τ).loc Cert.KernelMixIdeal.main_arg10) = m ((c.tc : Thread Cert.KernelMixIdeal.nD Cert.KernelMixIdeal.τ).loc Cert.KernelMixIdeal.main_arg10)
          ∧ r.2.mem ((c.tc : Thread Cert.KernelMixIdeal.nD Cert.KernelMixIdeal.τ).loc Cert.KernelMixIdeal.main_arg11) = m ((c.tc : Thread Cert.KernelMixIdeal.nD Cert.KernelMixIdeal.τ).loc Cert.KernelMixIdeal.main_arg11)
          ∧ r.2.mem ((c.tc : Thread Cert.KernelMixIdeal.nD Cert.KernelMixIdeal.τ).loc Cert.KernelMixIdeal.main_arg12) = m ((c.tc : Thread Cert.KernelMixIdeal.nD Cert.KernelMixIdeal.τ).loc Cert.KernelMixIdeal.main_arg12)
          ∧ r.2.mem ((c.tc : Thread Cert.KernelMixIdeal.nD Cert.KernelMixIdeal.τ).loc Cert.KernelMixIdeal.main_arg13) = m ((c.tc : Thread Cert.KernelMixIdeal.nD Cert.KernelMixIdeal.τ).loc Cert.KernelMixIdeal.main_arg13)
          ∧ r.2.mem ((c.tc : Thread Cert.KernelMixIdeal.nD Cert.KernelMixIdeal.τ).loc Cert.KernelMixIdeal.main_arg14) = m ((c.tc : Thread Cert.KernelMixIdeal.nD Cert.KernelMixIdeal.τ).loc Cert.KernelMixIdeal.main_arg14))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v272) = v0 c
          ∧ r.2.mem ((c.tc : Thread Cert.ReferenceMixIdeal.nD Cert.ReferenceMixIdeal.τ).loc Cert.ReferenceMixIdeal.main_v274) = v1 c
          ∧ r.2.mem ((c.tc : Thread Cert.ReferenceMixIdeal.nD Cert.ReferenceMixIdeal.τ).loc Cert.ReferenceMixIdeal.main_v277) = v2 c
          ∧ r.2.mem ((c.tc : Thread Cert.ReferenceMixIdeal.nD Cert.ReferenceMixIdeal.τ).loc Cert.ReferenceMixIdeal.main_v280) = v3 c
          ∧ r.2.mem ((c.tc : Thread Cert.ReferenceMixIdeal.nD Cert.ReferenceMixIdeal.τ).loc Cert.ReferenceMixIdeal.main_v282) = v4 c
          ∧ r.2.mem ((c.tc : Thread Cert.ReferenceMixIdeal.nD Cert.ReferenceMixIdeal.τ).loc Cert.ReferenceMixIdeal.main_v284) = v5 c
          ∧ r.2.mem ((c.tc : Thread Cert.ReferenceMixIdeal.nD Cert.ReferenceMixIdeal.τ).loc Cert.ReferenceMixIdeal.main_v291) = v6 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8)
          ∧ r.2.mem ((c.tc : Thread Cert.ReferenceMixIdeal.nD Cert.ReferenceMixIdeal.τ).loc Cert.ReferenceMixIdeal.main_arg9) = m' ((c.tc : Thread Cert.ReferenceMixIdeal.nD Cert.ReferenceMixIdeal.τ).loc Cert.ReferenceMixIdeal.main_arg9)
          ∧ r.2.mem ((c.tc : Thread Cert.ReferenceMixIdeal.nD Cert.ReferenceMixIdeal.τ).loc Cert.ReferenceMixIdeal.main_arg10) = m' ((c.tc : Thread Cert.ReferenceMixIdeal.nD Cert.ReferenceMixIdeal.τ).loc Cert.ReferenceMixIdeal.main_arg10)
          ∧ r.2.mem ((c.tc : Thread Cert.ReferenceMixIdeal.nD Cert.ReferenceMixIdeal.τ).loc Cert.ReferenceMixIdeal.main_arg11) = m' ((c.tc : Thread Cert.ReferenceMixIdeal.nD Cert.ReferenceMixIdeal.τ).loc Cert.ReferenceMixIdeal.main_arg11)
          ∧ r.2.mem ((c.tc : Thread Cert.ReferenceMixIdeal.nD Cert.ReferenceMixIdeal.τ).loc Cert.ReferenceMixIdeal.main_arg12) = m' ((c.tc : Thread Cert.ReferenceMixIdeal.nD Cert.ReferenceMixIdeal.τ).loc Cert.ReferenceMixIdeal.main_arg12)
          ∧ r.2.mem ((c.tc : Thread Cert.ReferenceMixIdeal.nD Cert.ReferenceMixIdeal.τ).loc Cert.ReferenceMixIdeal.main_arg13) = m' ((c.tc : Thread Cert.ReferenceMixIdeal.nD Cert.ReferenceMixIdeal.τ).loc Cert.ReferenceMixIdeal.main_arg13)
          ∧ r.2.mem ((c.tc : Thread Cert.ReferenceMixIdeal.nD Cert.ReferenceMixIdeal.τ).loc Cert.ReferenceMixIdeal.main_arg14) = m' ((c.tc : Thread Cert.ReferenceMixIdeal.nD Cert.ReferenceMixIdeal.τ).loc Cert.ReferenceMixIdeal.main_arg14))

def Claim : Prop :=
  ∃ (hKernelIn : Cert.KernelIn.Facts) (hKernelInIdeal : Cert.KernelInIdeal.Facts) (hReferenceInIdeal : Cert.ReferenceInIdeal.Facts) (hKernelO : Cert.KernelO.Facts) (hKernelOIdeal : Cert.KernelOIdeal.Facts) (hReferenceOIdeal : Cert.ReferenceOIdeal.Facts) (hKernelPa : Cert.KernelPa.Facts) (hKernelPaIdeal : Cert.KernelPaIdeal.Facts) (hReferencePaIdeal : Cert.ReferencePaIdeal.Facts) (hKernelPb : Cert.KernelPb.Facts) (hKernelPbIdeal : Cert.KernelPbIdeal.Facts) (hReferencePbIdeal : Cert.ReferencePbIdeal.Facts) (hKernelPc : Cert.KernelPc.Facts) (hKernelPcIdeal : Cert.KernelPcIdeal.Facts) (hReferencePcIdeal : Cert.ReferencePcIdeal.Facts) (hKernelW13 : Cert.KernelW13.Facts) (hKernelW13Ideal : Cert.KernelW13Ideal.Facts) (hReferenceW13Ideal : Cert.ReferenceW13Ideal.Facts) (hKernelW2 : Cert.KernelW2.Facts) (hKernelW2Ideal : Cert.KernelW2Ideal.Facts) (hReferenceW2Ideal : Cert.ReferenceW2Ideal.Facts) (hKernelFfn : Cert.KernelFfn.Facts) (hKernelFfnIdeal : Cert.KernelFfnIdeal.Facts) (hReferenceFfnIdeal : Cert.ReferenceFfnIdeal.Facts) (hKernelMix : Cert.KernelMix.Facts) (hKernelMixIdeal : Cert.KernelMixIdeal.Facts) (hReferenceMixIdeal : Cert.ReferenceMixIdeal.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelO (hKernelO := hKernelO)
    ∧ quiescent_KernelOIdeal (hKernelOIdeal := hKernelOIdeal)
    ∧ quiescent_ReferenceOIdeal (hReferenceOIdeal := hReferenceOIdeal)
    ∧ quiescent_KernelPa (hKernelPa := hKernelPa)
    ∧ quiescent_KernelPaIdeal (hKernelPaIdeal := hKernelPaIdeal)
    ∧ quiescent_ReferencePaIdeal (hReferencePaIdeal := hReferencePaIdeal)
    ∧ quiescent_KernelPb (hKernelPb := hKernelPb)
    ∧ quiescent_KernelPbIdeal (hKernelPbIdeal := hKernelPbIdeal)
    ∧ quiescent_ReferencePbIdeal (hReferencePbIdeal := hReferencePbIdeal)
    ∧ quiescent_KernelPc (hKernelPc := hKernelPc)
    ∧ quiescent_KernelPcIdeal (hKernelPcIdeal := hKernelPcIdeal)
    ∧ quiescent_ReferencePcIdeal (hReferencePcIdeal := hReferencePcIdeal)
    ∧ quiescent_KernelW13 (hKernelW13 := hKernelW13)
    ∧ quiescent_KernelW13Ideal (hKernelW13Ideal := hKernelW13Ideal)
    ∧ quiescent_ReferenceW13Ideal (hReferenceW13Ideal := hReferenceW13Ideal)
    ∧ quiescent_KernelW2 (hKernelW2 := hKernelW2)
    ∧ quiescent_KernelW2Ideal (hKernelW2Ideal := hKernelW2Ideal)
    ∧ quiescent_ReferenceW2Ideal (hReferenceW2Ideal := hReferenceW2Ideal)
    ∧ quiescent_KernelFfn (hKernelFfn := hKernelFfn)
    ∧ quiescent_KernelFfnIdeal (hKernelFfnIdeal := hKernelFfnIdeal)
    ∧ quiescent_ReferenceFfnIdeal (hReferenceFfnIdeal := hReferenceFfnIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ preserves_KernelIn_KernelInIdeal
    ∧ algebraic_KernelInIdeal_ReferenceInIdeal (hKernelInIdeal := hKernelInIdeal) (hReferenceInIdeal := hReferenceInIdeal)
    ∧ preserves_KernelO_KernelOIdeal
    ∧ algebraic_KernelOIdeal_ReferenceOIdeal (hKernelOIdeal := hKernelOIdeal) (hReferenceOIdeal := hReferenceOIdeal)
    ∧ preserves_KernelPa_KernelPaIdeal
    ∧ algebraic_KernelPaIdeal_ReferencePaIdeal (hKernelPaIdeal := hKernelPaIdeal) (hReferencePaIdeal := hReferencePaIdeal)
    ∧ preserves_KernelPb_KernelPbIdeal
    ∧ algebraic_KernelPbIdeal_ReferencePbIdeal (hKernelPbIdeal := hKernelPbIdeal) (hReferencePbIdeal := hReferencePbIdeal)
    ∧ preserves_KernelPc_KernelPcIdeal
    ∧ algebraic_KernelPcIdeal_ReferencePcIdeal (hKernelPcIdeal := hKernelPcIdeal) (hReferencePcIdeal := hReferencePcIdeal)
    ∧ preserves_KernelW13_KernelW13Ideal
    ∧ algebraic_KernelW13Ideal_ReferenceW13Ideal (hKernelW13Ideal := hKernelW13Ideal) (hReferenceW13Ideal := hReferenceW13Ideal)
    ∧ preserves_KernelW2_KernelW2Ideal
    ∧ algebraic_KernelW2Ideal_ReferenceW2Ideal (hKernelW2Ideal := hKernelW2Ideal) (hReferenceW2Ideal := hReferenceW2Ideal)
    ∧ preserves_KernelFfn_KernelFfnIdeal
    ∧ algebraic_KernelFfnIdeal_ReferenceFfnIdeal (hKernelFfnIdeal := hKernelFfnIdeal) (hReferenceFfnIdeal := hReferenceFfnIdeal)
    ∧ preserves_KernelMix_KernelMixIdeal
    ∧ algebraic_KernelMixIdeal_ReferenceMixIdeal (hKernelMixIdeal := hKernelMixIdeal) (hReferenceMixIdeal := hReferenceMixIdeal)
-- ==== KernelIn.lean ====
abbrev S8192x1024 : Shape := ⟨2, ![8192, 1024]⟩
abbrev S8192x6144 : Shape := ⟨2, ![8192, 6144]⟩
abbrev S8x1024x768 : Shape := ⟨3, ![8, 1024, 768]⟩
abbrev S2048x1024 : Shape := ⟨2, ![2048, 1024]⟩
abbrev S2048x768 : Shape := ⟨2, ![2048, 768]⟩
abbrev S1x1024x768 : Shape := ⟨3, ![1, 1024, 768]⟩
abbrev S1024x768 : Shape := ⟨2, ![1024, 768]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S8192x1024, .bf16⟩
  | .hbm, ⟨3, _⟩ => ⟨S8192x6144, .bf16⟩
  | .hbm, ⟨4, _⟩ => ⟨S8x1024x768, .bf16⟩
  | .local _ .vmem, ⟨0, _⟩ => ⟨S2048x1024, .bf16⟩
  | .local _ .vmem, ⟨1, _⟩ => ⟨S2048x1024, .bf16⟩
  | .local _ .vmem, ⟨2, _⟩ => ⟨S2048x768, .bf16⟩
  | .local _ .vmem, ⟨3, _⟩ => ⟨S2048x768, .bf16⟩
  | .local _ .vmem, ⟨4, _⟩ => ⟨S1x1024x768, .bf16⟩
  | .local _ .vmem, ⟨5, _⟩ => ⟨S1x1024x768, .bf16⟩
  | .local _ .vmem, ⟨6, _⟩ => ⟨S1024x768, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ReferenceInIdeal.lean ====
abbrev S8192x1024 : Shape := ⟨2, ![8192, 1024]⟩
abbrev S8192x6144 : Shape := ⟨2, ![8192, 6144]⟩
abbrev S_ : Shape := ⟨0, ![]⟩
abbrev S1024x6144 : Shape := ⟨2, ![1024, 6144]⟩
abbrev S2x4096x1024 : Shape := ⟨3, ![2, 4096, 1024]⟩
abbrev S2x4096x6144 : Shape := ⟨3, ![2, 4096, 6144]⟩
abbrev S6144x1024 : Shape := ⟨2, ![6144, 1024]⟩
abbrev S1024x8x768 : Shape := ⟨3, ![1024, 8, 768]⟩
abbrev S8x1024x768 : Shape := ⟨3, ![8, 1024, 768]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x6144, .f32⟩
  | .hbm, ⟨2, _⟩ => ⟨S_, .f32⟩
  | .hbm, ⟨3, _⟩ => ⟨S1024x6144, .f32⟩
  | .hbm, ⟨4, _⟩ => ⟨S2x4096x1024, .f32⟩
  | .hbm, ⟨5, _⟩ => ⟨S2x4096x6144, .f32⟩
  | .hbm, ⟨6, _⟩ => ⟨S2x4096x6144, .f32⟩
  | .hbm, ⟨7, _⟩ => ⟨S6144x1024, .f32⟩
  | .hbm, ⟨8, _⟩ => ⟨S1024x6144, .f32⟩
  | .hbm, ⟨9, _⟩ => ⟨S1024x8x768, .f32⟩
  | .hbm, ⟨10, _⟩ => ⟨S8x1024x768, .f32⟩
  | .hbm, ⟨11, _⟩ => ⟨S8x1024x768, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelO.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferenceOIdeal.lean ====
abbrev S8192x1024 : Shape := ⟨2, ![8192, 1024]⟩
abbrev S_ : Shape := ⟨0, ![]⟩
abbrev S1024x1024 : Shape := ⟨2, ![1024, 1024]⟩
abbrev S2x4096x1024 : Shape := ⟨3, ![2, 4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S2x4096x1024, .f32⟩
  | .hbm, ⟨5, _⟩ => ⟨S2x4096x1024, .f32⟩
  | .hbm, ⟨6, _⟩ => ⟨S2x4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelPa.lean ====
abbrev S8192x1536 : Shape := ⟨2, ![8192, 1536]⟩
abbrev S8192x3072 : Shape := ⟨2, ![8192, 3072]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x1536, .bf16⟩
  | .hbm, ⟨3, _⟩ => ⟨S8192x3072, .bf16⟩
  | .hbm, ⟨4, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== KernelPaIdeal.lean ====
abbrev S8192x1536 : Shape := ⟨2, ![8192, 1536]⟩
abbrev S8192x3072 : Shape := ⟨2, ![8192, 3072]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x1536, .bf16⟩
  | .hbm, ⟨3, _⟩ => ⟨S8192x3072, .bf16⟩
  | .hbm, ⟨4, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferencePaIdeal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S2x4096x512, .f32⟩
  | .hbm, ⟨7, _⟩ => ⟨S2x4096x1024, .f32⟩
  | .hbm, ⟨8, _⟩ => ⟨S2x4096x1024, .f32⟩
  | .hbm, ⟨9, _⟩ => ⟨S1024x512, .f32⟩
  | .hbm, ⟨10, _⟩ => ⟨S512x1024, .f32⟩
  | .hbm, ⟨11, _⟩ => ⟨S512x8x128, .f32⟩
  | .hbm, ⟨12, _⟩ => ⟨S8x512x128, .f32⟩
  | .hbm, ⟨13, _⟩ => ⟨S8x512x128, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelPb.lean ====
abbrev S8192x1536 : Shape := ⟨2, ![8192, 1536]⟩
abbrev S8192x3072 : Shape := ⟨2, ![8192, 3072]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x1536, .bf16⟩
  | .hbm, ⟨3, _⟩ => ⟨S8192x3072, .bf16⟩
  | .hbm, ⟨4, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== KernelPbIdeal.lean ====
abbrev S8192x1536 : Shape := ⟨2, ![8192, 1536]⟩
abbrev S8192x3072 : Shape := ⟨2, ![8192, 3072]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x1536, .bf16⟩
  | .hbm, ⟨3, _⟩ => ⟨S8192x3072, .bf16⟩
  | .hbm, ⟨4, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferencePbIdeal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S2x4096x512, .f32⟩
  | .hbm, ⟨7, _⟩ => ⟨S2x4096x1024, .f32⟩
  | .hbm, ⟨8, _⟩ => ⟨S2x4096x1024, .f32⟩
  | .hbm, ⟨9, _⟩ => ⟨S1024x512, .f32⟩
  | .hbm, ⟨10, _⟩ => ⟨S512x1024, .f32⟩
  | .hbm, ⟨11, _⟩ => ⟨S512x8x128, .f32⟩
  | .hbm, ⟨12, _⟩ => ⟨S8x512x128, .f32⟩
  | .hbm, ⟨13, _⟩ => ⟨S8x512x128, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelPc.lean ====
abbrev S8192x1536 : Shape := ⟨2, ![8192, 1536]⟩
abbrev S8192x3072 : Shape := ⟨2, ![8192, 3072]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x1536, .bf16⟩
  | .hbm, ⟨3, _⟩ => ⟨S8192x3072, .bf16⟩
  | .hbm, ⟨4, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg2.toNat, c2_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg2.toNat, c2_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== ReferencePcIdeal.lean ====
abbrev S8192x1536 : Shape := ⟨2, ![8192, 1536]⟩
abbrev S8192x3072 : Shape := ⟨2, ![8192, 3072]⟩
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S2x4096x512 : Shape := ⟨3, ![2, 4096, 512]⟩
abbrev S2x4096x1024 : Shape := ⟨3, ![2, 4096, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 14
  | .vmem => 0
  | .smem => 0
  | _ => 0

abbrev bufTy : (tb : Table) → Fin (tcTables nBuf tb) → BufTy
  | .hbm, ⟨0, _⟩ => ⟨S8192x1536, .f32⟩
  | .hbm, ⟨1, _⟩ => ⟨S8192x3072, .f32⟩
  | .hbm, ⟨2, _⟩ => ⟨S8192x512, .f32⟩
  | .hbm, ⟨3, _⟩ => ⟨S8192x1024, .f32⟩
  | .hbm, ⟨4, _⟩ => ⟨S_, .f32⟩
  | .hbm, ⟨5, _⟩ => ⟨S512x1024, .f32⟩
  | .hbm, ⟨6, _⟩ => ⟨S2x4096x512, .f32⟩
  | .hbm, ⟨7, _⟩ => ⟨S2x4096x1024, .f32⟩
  | .hbm, ⟨8, _⟩ => ⟨S2x4096x1024, .f32⟩
  | .hbm, ⟨9, _⟩ => ⟨S1024x512, .f32⟩
  | .hbm, ⟨10, _⟩ => ⟨S512x1024, .f32⟩
  | .hbm, ⟨11, _⟩ => ⟨S512x8x128, .f32⟩
  | .hbm, ⟨12, _⟩ => ⟨S8x512x128, .f32⟩
  | .hbm, ⟨13, _⟩ => ⟨S8x512x128, .bf16⟩
  | _, _ => ⟨S8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== KernelW13.lean ====
abbrev S8192x1024 : Shape := ⟨2, ![8192, 1024]⟩
abbrev S8192x5632 : Shape := ⟨2, ![8192, 5632]⟩
abbrev S8192x8x704 : Shape := ⟨3, ![8192, 8, 704]⟩
abbrev S8x8192x704 : Shape := ⟨3, ![8, 8192, 704]⟩
abbrev S8x704x1024 : Shape := ⟨3, ![8, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x8x704, .f32⟩
  | .hbm, ⟨3, _⟩ => ⟨S8x8192x704, .f32⟩
  | .hbm, ⟨4, _⟩ => ⟨S8x8192x704, .bf16⟩
  | .hbm, ⟨5, _⟩ => ⟨S8192x1024, .bf16⟩
  | .hbm, ⟨6, _⟩ => ⟨S8x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceW13Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S2x4096x1024 : Shape := ⟨3, ![2, 4096, 1024]⟩
abbrev S2x4096x5632 : Shape := ⟨3, ![2, 4096, 5632]⟩
abbrev S5632x1024 : Shape := ⟨2, ![5632, 1024]⟩
abbrev S8x704x1024 : Shape := ⟨3, ![8, 704, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S2x4096x1024, .f32⟩
  | .hbm, ⟨5, _⟩ => ⟨S2x4096x5632, .f32⟩
  | .hbm, ⟨6, _⟩ => ⟨S2x4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S8x704x1024, .f32⟩
  | .hbm, ⟨11, _⟩ => ⟨S8x704x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelW2.lean ====
abbrev S8192x2816 : Shape := ⟨2, ![8192, 2816]⟩
abbrev S8192x1024 : Shape := ⟨2, ![8192, 1024]⟩
abbrev S8192x4x704 : Shape := ⟨3, ![8192, 4, 704]⟩
abbrev S4x8192x704 : Shape := ⟨3, ![4, 8192, 704]⟩
abbrev S2816x1024 : Shape := ⟨2, ![2816, 1024]⟩
abbrev S1x2048x704 : Shape := ⟨3, ![1, 2048, 704]⟩
abbrev S2048x1024 : Shape := ⟨2, ![2048, 1024]⟩
abbrev S704x1024 : Shape := ⟨2, ![704, 1024]⟩
abbrev S2048x704 : Shape := ⟨2, ![2048, 704]⟩

abbrev nBuf : Space → Nat
  | .hbm => 7
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x4x704, .f32⟩
  | .hbm, ⟨3, _⟩ => ⟨S4x8192x704, .f32⟩
  | .hbm, ⟨4, _⟩ => ⟨S4x8192x704, .bf16⟩
  | .hbm, ⟨5, _⟩ => ⟨S8192x1024, .bf16⟩
  | .hbm, ⟨6, _⟩ => ⟨S2816x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S704x1024, .bf16⟩
  | .local _ .vmem, ⟨5, _⟩ => ⟨S704x1024, .bf16⟩
  | .local _ .vmem, ⟨6, _⟩ => ⟨S704x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== ReferenceW2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S2x4096x2816 : Shape := ⟨3, ![2, 4096, 2816]⟩
abbrev S2x4096x1024 : Shape := ⟨3, ![2, 4096, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S2x4096x2816, .f32⟩
  | .hbm, ⟨5, _⟩ => ⟨S2x4096x1024, .f32⟩
  | .hbm, ⟨6, _⟩ => ⟨S2x4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelFfn.lean ====
abbrev S8192x1024 : Shape := ⟨2, ![8192, 1024]⟩
abbrev S4x2x8x1024 : Shape := ⟨4, ![4, 2, 8, 1024]⟩
abbrev S4x1024 : Shape := ⟨2, ![4, 1024]⟩
abbrev S1024x5632 : Shape := ⟨2, ![1024, 5632]⟩
abbrev S2816x1024 : Shape := ⟨2, ![2816, 1024]⟩
abbrev S4x1x1024 : Shape := ⟨3, ![4, 1, 1024]⟩
abbrev S1024x8x704 : Shape := ⟨3, ![1024, 8, 704]⟩
abbrev S8x1024x704 : Shape := ⟨3, ![8, 1024, 704]⟩
abbrev S_ : Shape := ⟨0, ![]⟩
abbrev S8x128 : Shape := ⟨2, ![8, 128]⟩
abbrev S8x8192x704 : Shape := ⟨3, ![8, 8192, 704]⟩
abbrev S4x8192x704 : Shape := ⟨3, ![4, 8192, 704]⟩
abbrev S256x1024 : Shape := ⟨2, ![256, 1024]⟩
abbrev S1x1x8x1024 : Shape := ⟨4, ![1, 1, 8, 1024]⟩
abbrev S1x1x1024 : Shape := ⟨3, ![1, 1, 1024]⟩
abbrev S8x256x704 : Shape := ⟨3, ![8, 256, 704]⟩
abbrev S4x256x704 : Shape := ⟨3, ![4, 256, 704]⟩
abbrev S2 : Shape := ⟨1, ![2]⟩
abbrev S1 : Shape := ⟨1, ![1]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S1x1024x704 : Shape := ⟨3, ![1, 1024, 704]⟩
abbrev S1024x704 : Shape := ⟨2, ![1024, 704]⟩
abbrev S256x704 : Shape := ⟨2, ![256, 704]⟩
abbrev S1x256x704 : Shape := ⟨3, ![1, 256, 704]⟩
abbrev S704x1024 : Shape := ⟨2, ![704, 1024]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S4x2x8x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S4x1x1024, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S2816x1024, .bf16⟩
  | .hbm, ⟨10, _⟩ => ⟨S_, .f32⟩
  | .hbm, ⟨11, _⟩ => ⟨S8x128, .f32⟩
  | .hbm, ⟨12, _⟩ => ⟨S8192x1024, .bf16⟩
  | .hbm, ⟨13, _⟩ => ⟨S8x8192x704, .bf16⟩
  | .hbm, ⟨14, _⟩ => ⟨S4x8192x704, .bf16⟩
  | .hbm, ⟨15, _⟩ => ⟨S8192x1024, .bf16⟩
  | .hbm, ⟨16, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x1024, .f32⟩
  | .local _ .vmem, ⟨5, _⟩ => ⟨S256x1024, .bf16⟩
  | .local _ .vmem, ⟨6, _⟩ => ⟨S256x1024, .bf16⟩
  | .local _ .vmem, ⟨7, _⟩ => ⟨S8x256x704, .bf16⟩
  | .local _ .vmem, ⟨8, _⟩ => ⟨S8x256x704, .bf16⟩
  | .local _ .vmem, ⟨9, _⟩ => ⟨S4x256x704, .bf16⟩
  | .local _ .vmem, ⟨10, _⟩ => ⟨S4x256x704, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .f32⟩
  | .local _ .vmem, ⟨14, _⟩ => ⟨S256x1024, .f32⟩
  | .local _ .vmem, ⟨15, _⟩ => ⟨S8x1024x704, .bf16⟩
  | .local _ .vmem, ⟨16, _⟩ => ⟨S2816x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x256x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFfnIdeal.lean ====
abbrev S8192x1024 : Shape := ⟨2, ![8192, 1024]⟩
abbrev S4x2x8x1024 : Shape := ⟨4, ![4, 2, 8, 1024]⟩
abbrev S4x1024 : Shape := ⟨2, ![4, 1024]⟩
abbrev S1024x5632 : Shape := ⟨2, ![1024, 5632]⟩
abbrev S2816x1024 : Shape := ⟨2, ![2816, 1024]⟩
abbrev S2x4096x1024 : Shape := ⟨3, ![2, 4096, 1024]⟩
abbrev S1x2x1x1024 : Shape := ⟨4, ![1, 2, 1, 1024]⟩
abbrev S2x1024 : Shape := ⟨2, ![2, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S2x1x1024 : Shape := ⟨3, ![2, 1, 1024]⟩
abbrev S2x4096x5632 : Shape := ⟨3, ![2, 4096, 5632]⟩
abbrev S2x4096x2816 : Shape := ⟨3, ![2, 4096, 2816]⟩
abbrev S8192x5632 : Shape := ⟨2, ![8192, 5632]⟩
abbrev S8192x8x704 : Shape := ⟨3, ![8192, 8, 704]⟩
abbrev S8x8192x704 : Shape := ⟨3, ![8, 8192, 704]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x2x8x1024, .f32⟩
  | .hbm, ⟨2, _⟩ => ⟨S4x1024, .f32⟩
  | .hbm, ⟨3, _⟩ => ⟨S1024x5632, .f32⟩
  | .hbm, ⟨4, _⟩ => ⟨S2816x1024, .f32⟩
  | .hbm, ⟨5, _⟩ => ⟨S2x4096x1024, .f32⟩
  | .hbm, ⟨6, _⟩ => ⟨S1x2x1x1024, .f32⟩
  | .hbm, ⟨7, _⟩ => ⟨S2x1024, .f32⟩
  | .hbm, ⟨8, _⟩ => ⟨S1x2x1x1024, .f32⟩
  | .hbm, ⟨9, _⟩ => ⟨S2x1024, .f32⟩
  | .hbm, ⟨10, _⟩ => ⟨S1x1024, .f32⟩
  | .hbm, ⟨11, _⟩ => ⟨S1024, .f32⟩
  | .hbm, ⟨12, _⟩ => ⟨S2x4096x1024, .f32⟩
  | .hbm, ⟨13, _⟩ => ⟨S_, .f32⟩
  | .hbm, ⟨14, _⟩ => ⟨S2x4096, .f32⟩
  | .hbm, ⟨15, _⟩ => ⟨S2x4096x1, .f32⟩
  | .hbm, ⟨16, _⟩ => ⟨S_, .f32⟩
  | .hbm, ⟨17, _⟩ => ⟨S2x4096x1, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x1, .f32⟩
  | .hbm, ⟨23, _⟩ => ⟨S2x4096x1024, .f32⟩
  | .hbm, ⟨24, _⟩ => ⟨S2x4096x1024, .f32⟩
  | .hbm, ⟨25, _⟩ => ⟨S1x1x1024, .f32⟩
  | .hbm, ⟨26, _⟩ => ⟨S2x4096x1024, .f32⟩
  | .hbm, ⟨27, _⟩ => ⟨S2x4096x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x4096x1024, .f32⟩
  | .hbm, ⟨33, _⟩ => ⟨S2x4096x1024, .f32⟩
  | .hbm, ⟨34, _⟩ => ⟨S2x1x1024, .f32⟩
  | .hbm, ⟨35, _⟩ => ⟨S2x4096x1024, .f32⟩
  | .hbm, ⟨36, _⟩ => ⟨S2x4096x1024, .f32⟩
  | .hbm, ⟨37, _⟩ => ⟨S2x4096x5632, .f32⟩
  | .hbm, ⟨38, _⟩ => ⟨S2x4096x2816, .f32⟩
  | .hbm, ⟨39, _⟩ => ⟨S2x4096x2816, .f32⟩
  | .hbm, ⟨40, _⟩ => ⟨S2x4096x2816, .f32⟩
  | .hbm, ⟨41, _⟩ => ⟨S2x4096x2816, .f32⟩
  | .hbm, ⟨42, _⟩ => ⟨S_, .f32⟩
  | .hbm, ⟨43, _⟩ => ⟨S2x4096x2816, .f32⟩
  | .hbm, ⟨44, _⟩ => ⟨S2x4096x2816, .f32⟩
  | .hbm, ⟨45, _⟩ => ⟨S_, .f32⟩
  | .hbm, ⟨46, _⟩ => ⟨S2x4096x2816, .f32⟩
  | .hbm, ⟨47, _⟩ => ⟨S2x4096x2816, .f32⟩
  | .hbm, ⟨48, _⟩ => ⟨S2x4096x2816, .f32⟩
  | .hbm, ⟨49, _⟩ => ⟨S2x4096x2816, .f32⟩
  | .hbm, ⟨50, _⟩ => ⟨S2x4096x1024, .f32⟩
  | .hbm, ⟨51, _⟩ => ⟨S8192x1024, .f32⟩
  | .hbm, ⟨52, _⟩ => ⟨S8192x1024, .bf16⟩
  | .hbm, ⟨53, _⟩ => ⟨S8192x5632, .f32⟩
  | .hbm, ⟨54, _⟩ => ⟨S8192x8x704, .f32⟩
  | .hbm, ⟨55, _⟩ => ⟨S8x8192x704, .f32⟩
  | .hbm, ⟨56, _⟩ => ⟨S8x8192x704, .bf16⟩
  | .hbm, ⟨57, _⟩ => ⟨S8192x2816, .f32⟩
  | .hbm, ⟨58, _⟩ => ⟨S8192x4x704, .f32⟩
  | .hbm, ⟨59, _⟩ => ⟨S4x8192x704, .f32⟩
  | .hbm, ⟨60, _⟩ => ⟨S4x8192x704, .bf16⟩
  | .hbm, ⟨61, _⟩ => ⟨S8192x1024, .f32⟩
  | .hbm, ⟨62, _⟩ => ⟨S8192x1024, .bf16⟩
  | .hbm, ⟨63, _⟩ => ⟨S1x2x1x1024, .f32⟩
  | .hbm, ⟨64, _⟩ => ⟨S2x1024, .f32⟩
  | .hbm, ⟨65, _⟩ => ⟨S2x1x1024, .f32⟩
  | .hbm, ⟨66, _⟩ => ⟨S2x4096x1024, .f32⟩
  | .hbm, ⟨67, _⟩ => ⟨S2x4096x1024, .f32⟩
  | .hbm, ⟨68, _⟩ => ⟨S2x4096x1024, .f32⟩
  | .hbm, ⟨69, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩

abbrev nD : Nat := 1
abbrev τ : Topo := Topo.v7x

variable {F : FTy → Type} [FloatOps F]
-- ==== KernelMix.lean ====
abbrev S8192x1024 : Shape := ⟨2, ![8192, 1024]⟩
abbrev S4x2x8x1024 : Shape := ⟨4, ![4, 2, 8, 1024]⟩
abbrev S4x1024 : Shape := ⟨2, ![4, 1024]⟩
abbrev S4x512 : Shape := ⟨2, ![4, 512]⟩
abbrev S4x4x128x128 : Shape := ⟨4, ![4, 4, 128, 128]⟩
abbrev S4x4x128 : Shape := ⟨3, ![4, 4, 128]⟩
abbrev S4x3x512 : Shape := ⟨3, ![4, 3, 512]⟩
abbrev S1024x6144 : Shape := ⟨2, ![1024, 6144]⟩
abbrev S512x1024 : Shape := ⟨2, ![512, 1024]⟩
abbrev S1024x1024 : Shape := ⟨2, ![1024, 1024]⟩
abbrev S4x128x4 : Shape := ⟨3, ![4, 128, 4]⟩
abbrev S4x128x4x128 : Shape := ⟨4, ![4, 128, 4, 128]⟩
abbrev S4x128x512 : Shape := ⟨3, ![4, 128, 512]⟩
abbrev S_ : Shape := ⟨0, ![]⟩
abbrev S4x8x512 : Shape := ⟨3, ![4, 8, 512]⟩
abbrev S4x1x1024 : Shape := ⟨3, ![4, 1, 1024]⟩
abbrev S4x1x512 : Shape := ⟨3, ![4, 1, 512]⟩
abbrev S1024x8x768 : Shape := ⟨3, ![1024, 8, 768]⟩
abbrev S8x1024x768 : Shape := ⟨3, ![8, 1024, 768]⟩
abbrev S512x8x128 : Shape := ⟨3, ![512, 8, 128]⟩
abbrev S8x512x128 : Shape := ⟨3, ![8, 512, 128]⟩
abbrev S8x128 : Shape := ⟨2, ![8, 128]⟩
abbrev S8192x6144 : Shape := ⟨2, ![8192, 6144]⟩
abbrev S8192x3072 : Shape := ⟨2, ![8192, 3072]⟩
abbrev S8192x1536 : Shape := ⟨2, ![8192, 1536]⟩
abbrev S256x1024 : Shape := ⟨2, ![256, 1024]⟩
abbrev S1x1x8x1024 : Shape := ⟨4, ![1, 1, 8, 1024]⟩
abbrev S1x1x1024 : Shape := ⟨3, ![1, 1, 1024]⟩
abbrev S1x1x512 : Shape := ⟨3, ![1, 1, 512]⟩
abbrev S1x4x128x128 : Shape := ⟨4, ![1, 4, 128, 128]⟩
abbrev S1x128x512 : Shape := ⟨3, ![1, 128, 512]⟩
abbrev S1x8x512 : Shape := ⟨3, ![1, 8, 512]⟩
abbrev S256x6144 : Shape := ⟨2, ![256, 6144]⟩
abbrev S256x3072 : Shape := ⟨2, ![256, 3072]⟩
abbrev S256x1536 : Shape := ⟨2, ![256, 1536]⟩
abbrev S272x512 : Shape := ⟨2, ![272, 512]⟩
abbrev S264x512 : Shape := ⟨2, ![264, 512]⟩
abbrev S256x512 : Shape := ⟨2, ![256, 512]⟩
abbrev S26 : Shape := ⟨1, ![26]⟩
abbrev S1 : Shape := ⟨1, ![1]⟩
abbrev S512x128 : Shape := ⟨2, ![512, 128]⟩
abbrev S1x512x128 : Shape := ⟨3, ![1, 512, 128]⟩
abbrev S16x512 : Shape := ⟨2, ![16, 512]⟩
abbrev S8x512 : Shape := ⟨2, ![8, 512]⟩
abbrev S1x1x1x1024 : Shape := ⟨4, ![1, 1, 1, 1024]⟩
abbrev S1x1024 : Shape := ⟨2, ![1, 1024]⟩
abbrev S256 : Shape := ⟨1, ![256]⟩
abbrev S256x1 : Shape := ⟨2, ![256, 1]⟩
abbrev S1x1024x768 : Shape := ⟨3, ![1, 1024, 768]⟩
abbrev S1024x768 : Shape := ⟨2, ![1024, 768]⟩
abbrev S256x768 : Shape := ⟨2, ![256, 768]⟩
abbrev S256x256 : Shape := ⟨2, ![256, 256]⟩
abbrev S1x512 : Shape := ⟨2, ![1, 512]⟩
abbrev S128x128 : Shape := ⟨2, ![128, 128]⟩
abbrev S1x1x128x128 : Shape := ⟨4, ![1, 1, 128, 128]⟩
abbrev S128x512 : Shape := ⟨2, ![128, 512]⟩
abbrev S272x128 : Shape := ⟨2, ![272, 128]⟩
abbrev S256x128 : Shape := ⟨2, ![256, 128]⟩

abbrev nBuf : Space → Nat
  | .hbm => 47
  | .vmem => 34
  | .smem => 0
  | _ => 0

abbrev bufTy : (tb : Table) → Fin (tcTables nBuf tb) → BufTy
  | .hbm, ⟨0, _⟩ => ⟨S8192x1024, .f32⟩
  | .hbm, ⟨1, _⟩ => ⟨S4x2x8x1024, .f32⟩
  | .hbm, ⟨2, _⟩ => ⟨S4x1024, .f32⟩
  | .hbm, ⟨3, _⟩ => ⟨S4x512, .f32⟩
  | .hbm, ⟨4, _⟩ => ⟨S4x512, .f32⟩
  | .hbm, ⟨5, _⟩ => ⟨S4x4x128x128, .f32⟩
  | .hbm, ⟨6, _⟩ => ⟨S4x4x128, .f32⟩
  | .hbm, ⟨7, _⟩ => ⟨S4x4x128x128, .f32⟩
  | .hbm, ⟨8, _⟩ => ⟨S4x512, .f32⟩
  | .hbm, ⟨9, _⟩ => ⟨S4x3x512, .f32⟩
  | .hbm, ⟨10, _⟩ => ⟨S1024x6144, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S1024x1024, .f32⟩
  | .hbm, ⟨15, _⟩ => ⟨S4x128x4, .f32⟩
  | .hbm, ⟨16, _⟩ => ⟨S4x128x4x128, .f32⟩
  | .hbm, ⟨17, _⟩ => ⟨S4x128x512, .f32⟩
  | .hbm, ⟨18, _⟩ => ⟨S_, .i32⟩
  | .hbm, ⟨19, _⟩ => ⟨S_, .f32⟩
  | .hbm, ⟨20, _⟩ => ⟨S4x8x512, .f32⟩
  | .hbm, ⟨21, _⟩ => ⟨S4x1x1024, .f32⟩
  | .hbm, ⟨22, _⟩ => ⟨S4x1x512, .f32⟩
  | .hbm, ⟨23, _⟩ => ⟨S4x1x512, .f32⟩
  | .hbm, ⟨24, _⟩ => ⟨S4x1x512, .f32⟩
  | .hbm, ⟨25, _⟩ => ⟨S1024x8x768, .f32⟩
  | .hbm, ⟨26, _⟩ => ⟨S8x1024x768, .f32⟩
  | .hbm, ⟨27, _⟩ => ⟨S8x1024x768, .bf16⟩
  | .hbm, ⟨28, _⟩ => ⟨S512x8x128, .f32⟩
  | .hbm, ⟨29, _⟩ => ⟨S8x512x128, .f32⟩
  | .hbm, ⟨30, _⟩ => ⟨S8x512x128, .bf16⟩
  | .hbm, ⟨31, _⟩ => ⟨S512x8x128, .f32⟩
  | .hbm, ⟨32, _⟩ => ⟨S8x512x128, .f32⟩
  | .hbm, ⟨33, _⟩ => ⟨S8x512x128, .bf16⟩
  | .hbm, ⟨34, _⟩ => ⟨S512x8x128, .f32⟩
  | .hbm, ⟨35, _⟩ => ⟨S8x512x128, .f32⟩
  | .hbm, ⟨36, _⟩ => ⟨S8x512x128, .bf16⟩
  | .hbm, ⟨37, _⟩ => ⟨S1024x1024, .bf16⟩
  | .hbm, ⟨38, _⟩ => ⟨S_, .f32⟩
  | .hbm, ⟨39, _⟩ => ⟨S8x128, .f32⟩
  | .hbm, ⟨40, _⟩ => ⟨S8192x1024, .bf16⟩
  | .hbm, ⟨41, _⟩ => ⟨S8192x6144, .bf16⟩
  | .hbm, ⟨42, _⟩ => ⟨S8192x3072, .bf16⟩
  | .hbm, ⟨43, _⟩ => ⟨S8192x1536, .bf16⟩
  | .hbm, ⟨44, _⟩ => ⟨S8192x1024, .bf16⟩
  | .hbm, ⟨45, _⟩ => ⟨S8192x1024, .bf16⟩
  | .hbm, ⟨46, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1x1x1024, .f32⟩
  | .local _ .vmem, ⟨5, _⟩ => ⟨S1x1x512, .f32⟩
  | .local _ .vmem, ⟨6, _⟩ => ⟨S1x1x512, .f32⟩
  | .local _ .vmem, ⟨7, _⟩ => ⟨S1x4x128x128, .f32⟩
  | .local _ .vmem, ⟨8, _⟩ => ⟨S1x128x512, .f32⟩
  | .local _ .vmem, ⟨9, _⟩ => ⟨S1x4x128x128, .f32⟩
  | .local _ .vmem, ⟨10, _⟩ => ⟨S1x1x512, .f32⟩
  | .local _ .vmem, ⟨11, _⟩ => ⟨S1x8x512, .f32⟩
  | .local _ .vmem, ⟨12, _⟩ => ⟨S256x1024, .bf16⟩
  | .local _ .vmem, ⟨13, _⟩ => ⟨S256x1024, .bf16⟩
  | .local _ .vmem, ⟨14, _⟩ => ⟨S256x6144, .bf16⟩
  | .local _ .vmem, ⟨15, _⟩ => ⟨S256x6144, .bf16⟩
  | .local _ .vmem, ⟨16, _⟩ => ⟨S256x3072, .bf16⟩
  | .local _ .vmem, ⟨17, _⟩ => ⟨S256x3072, .bf16⟩
  | .local _ .vmem, ⟨18, _⟩ => ⟨S256x1536, .bf16⟩
  | .local _ .vmem, ⟨19, _⟩ => ⟨S256x1536, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .f32⟩
  | .local _ .vmem, ⟨25, _⟩ => ⟨S256x1024, .f32⟩
  | .local _ .vmem, ⟨26, _⟩ => ⟨S8x1024x768, .bf16⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S1024x1024, .bf16⟩
  | .local _ .vmem, ⟨31, _⟩ => ⟨S272x512, .f32⟩
  | .local _ .vmem, ⟨32, _⟩ => ⟨S264x512, .f32⟩
  | .local _ .vmem, ⟨33, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c : Ref sig .tc := ⟨.hbm, 18, rfl⟩
abbrev main_call0_v0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22_0 : Ref sig .tc := ⟨.hbm, 40, rfl⟩
abbrev main_v22_1 : Ref sig .tc := ⟨.hbm, 41, rfl⟩
abbrev main_v22_2 : Ref sig .tc := ⟨.hbm, 42, rfl⟩
abbrev main_v22_3 : Ref sig .tc := ⟨.hbm, 43, rfl⟩
abbrev main_v22_4 : Ref sig .tc := ⟨.hbm, 44, rfl⟩
abbrev main_v22_5 : Ref sig .tc := ⟨.hbm, 45, rfl⟩
abbrev main_v22_6 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_scratch6 : Ref sig .tc := ⟨.vmem, 32, rfl⟩
abbrev cc0_scratch7 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![c0_i32_4.toNat, v16.toNat, c0_i32_5.toNat, c0_i32_6.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x6144 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelMixIdeal.lean ====
variable {F : FTy → Type} [FloatOps F] [Named F]
def κ : String → Option EReal := fun
  | "gelu_kc" => some ((80338380498831 / 2251799813685248 : ℝ) : EReal)
  | _ => none
-- ==== ReferenceMixIdeal.lean ====
abbrev S8192x1024 : Shape := ⟨2, ![8192, 1024]⟩
abbrev S4x2x8x1024 : Shape := ⟨4, ![4, 2, 8, 1024]⟩
abbrev S4x1024 : Shape := ⟨2, ![4, 1024]⟩
abbrev S4x512 : Shape := ⟨2, ![4, 512]⟩
abbrev S4x4x128x128 : Shape := ⟨4, ![4, 4, 128, 128]⟩
abbrev S4x4x128 : Shape := ⟨3, ![4, 4, 128]⟩
abbrev S4x3x512 : Shape := ⟨3, ![4, 3, 512]⟩
abbrev S1024x6144 : Shape := ⟨2, ![1024, 6144]⟩
abbrev S512x1024 : Shape := ⟨2, ![512, 1024]⟩
abbrev S1024x1024 : Shape := ⟨2, ![1024, 1024]⟩
abbrev S2x4096x1024 : Shape := ⟨3, ![2, 4096, 1024]⟩
abbrev S1x1024 : Shape := ⟨2, ![1, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x4096x6144 : Shape := ⟨3, ![2, 4096, 6144]⟩
abbrev S2x4096x512 : Shape := ⟨3, ![2, 4096, 512]⟩
abbrev S1x512 : Shape := ⟨2, ![1, 512]⟩
abbrev S512 : Shape := ⟨1, ![512]⟩
abbrev S1x4x128x128 : Shape := ⟨4, ![1, 4, 128, 128]⟩
abbrev S4x128x128 : Shape := ⟨3, ![4, 128, 128]⟩
abbrev S1x4x128 : Shape := ⟨3, ![1, 4, 128]⟩
abbrev S4x128 : Shape := ⟨2, ![4, 128]⟩
abbrev S1x1x512 : Shape := ⟨3, ![1, 1, 512]⟩
abbrev S2x32x128x4x128 : Shape := ⟨5, ![2, 32, 128, 4, 128]⟩
abbrev S128x128 : Shape := ⟨2, ![128, 128]⟩
abbrev S1x128x128 : Shape := ⟨3, ![1, 128, 128]⟩
abbrev S4x2x32x128x128 : Shape := ⟨5, ![4, 2, 32, 128, 128]⟩
abbrev S128x4 : Shape := ⟨2, ![128, 4]⟩
abbrev S1x1x128x4x1 : Shape := ⟨5, ![1, 1, 128, 4, 1]⟩
abbrev S4096 : Shape := ⟨1, ![4096]⟩
abbrev S2x4096x128 : Shape := ⟨3, ![2, 4096, 128]⟩
abbrev S2x4097x128 : Shape := ⟨3, ![2, 4097, 128]⟩
abbrev S1x4096x1 : Shape := ⟨3, ![1, 4096, 1]⟩
abbrev S2x4099x128 : Shape := ⟨3, ![2, 4099, 128]⟩
abbrev S2x4103x128 : Shape := ⟨3, ![2, 4103, 128]⟩
abbrev S2x4111x128 : Shape := ⟨3, ![2, 4111, 128]⟩
abbrev S2x4096x1x128 : Shape := ⟨4, ![2, 4096, 1, 128]⟩
abbrev S2x4096x4x128 : Shape := ⟨4, ![2, 4096, 4, 128]⟩
abbrev S4x128x2x4096 : Shape := ⟨4, ![4, 128, 2, 4096]⟩
abbrev S1x3x512 : Shape := ⟨3, ![1, 3, 512]⟩
abbrev S3x512 : Shape := ⟨2, ![3, 512]⟩
abbrev S2x4098x512 : Shape := ⟨3, ![2, 4098, 512]⟩
abbrev S2x4096x3072 : Shape := ⟨3, ![2, 4096, 3072]⟩
abbrev S2x4096x3x1024 : Shape := ⟨4, ![2, 4096, 3, 1024]⟩
abbrev S2x4096x1x1024 : Shape := ⟨4, ![2, 4096, 1, 1024]⟩
abbrev S8192x6144 : Shape := ⟨2, ![8192, 6144]⟩
abbrev S8192x3072 : Shape := ⟨2, ![8192, 3072]⟩
abbrev S2x4096x1536 : Shape := ⟨3, ![2, 4096, 1536]⟩
abbrev S8192x1536 : Shape := ⟨2, ![8192, 1536]⟩

abbrev nBuf : Space → Nat
  | .hbm => 353
  | .vmem => 0
  | .smem => 0
  | _ => 0

abbrev hbmTy0_0 (i : Nat) : BufTy := match i % 128 with
  | 0 => ⟨S8192x1024, .f32⟩
  | 1 => ⟨S4x2x8x1024, .f32⟩
  | 2 => ⟨S4x1024, .f32⟩
  | 3 => ⟨S4x512, .f32⟩
  | 4 => ⟨S4x512, .f32⟩
  | 5 => ⟨S4x4x128x128, .f32⟩
  | 6 => ⟨S4x4x128, .f32⟩
  | 7 => ⟨S4x4x128x128, .f32⟩
  | 8 => ⟨S4x512, .f32⟩
  | 9 => ⟨S4x3x512, .f32⟩
  | 10 => ⟨S1024x6144, .f32⟩
  | 11 => ⟨S512x1024, .f32⟩
  | 12 => ⟨S512x1024, .f32⟩
  | 13 => ⟨S512x1024, .f32⟩
  | 14 => ⟨S1024x1024, .f32⟩
  | 15 => ⟨S2x4096x1024, .f32⟩
  | 16 => ⟨S1x1024, .f32⟩
  | 17 => ⟨S1024, .f32⟩
  | 18 => ⟨S2x4096x1024, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S_, .f32⟩
  | 26 => ⟨S2x4096x1, .f32⟩
  | 27 => ⟨S2x4096x1, .f32⟩
  | 28 => ⟨S2x4096x1, .f32⟩
  | 29 => ⟨S2x4096x1024, .f32⟩
  | 30 => ⟨S2x4096x1024, .f32⟩
  | 31 => ⟨S1x1x1024, .f32⟩
  | 32 => ⟨S2x4096x1024, .f32⟩
  | 33 => ⟨S2x4096x1024, .f32⟩
  | 34 => ⟨S1x2x1x1024, .f32⟩
  | 35 => ⟨S2x1024, .f32⟩
  | 36 => ⟨S1x2x1x1024, .f32⟩
  | 37 => ⟨S2x1024, .f32⟩
  | 38 => ⟨S2x1x1024, .f32⟩
  | 39 => ⟨S_, .f32⟩
  | 40 => ⟨S2x1x1024, .f32⟩
  | 41 => ⟨S2x1x1024, .f32⟩
  | 42 => ⟨S2x4096x1024, .f32⟩
  | 43 => ⟨S2x4096x1024, .f32⟩
  | 44 => ⟨S2x1x1024, .f32⟩
  | 45 => ⟨S2x4096x1024, .f32⟩
  | 46 => ⟨S2x4096x1024, .f32⟩
  | 47 => ⟨S2x4096x6144, .f32⟩
  | 48 => ⟨S2x4096x512, .f32⟩
  | 49 => ⟨S2x4096x512, .f32⟩
  | 50 => ⟨S2x4096x512, .f32⟩
  | 51 => ⟨S2x4096x512, .f32⟩
  | 52 => ⟨S2x4096x512, .f32⟩
  | 53 => ⟨S2x4096x512, .f32⟩
  | 54 => ⟨S2x4096x512, .f32⟩
  | 55 => ⟨S2x4096x512, .f32⟩
  | 56 => ⟨S_, .f32⟩
  | 57 => ⟨S2x4096x512, .f32⟩
  | 58 => ⟨S2x4096x512, .f32⟩
  | 59 => ⟨S2x4096x512, .f32⟩
  | 60 => ⟨S_, .f32⟩
  | 61 => ⟨S2x4096x512, .f32⟩
  | 62 => ⟨S2x4096x512, .f32⟩
  | 63 => ⟨S2x4096x512, .f32⟩
  | 64 => ⟨S_, .f32⟩
  | 65 => ⟨S2x4096x512, .f32⟩
  | 66 => ⟨S2x4096x512, .f32⟩
  | 67 => ⟨S_, .f32⟩
  | 68 => ⟨S2x4096x512, .f32⟩
  | 69 => ⟨S2x4096x512, .f32⟩
  | 70 => ⟨S2x4096x512, .f32⟩
  | 71 => ⟨S2x4096x512, .f32⟩
  | 72 => ⟨S2x4096x512, .f32⟩
  | 73 => ⟨S_, .f32⟩
  | 74 => ⟨S2x4096x512, .f32⟩
  | 75 => ⟨S2x4096x512, .f32⟩
  | 76 => ⟨S2x4096x512, .f32⟩
  | 77 => ⟨S_, .f32⟩
  | 78 => ⟨S2x4096x512, .f32⟩
  | 79 => ⟨S2x4096x512, .f32⟩
  | 80 => ⟨S2x4096x512, .f32⟩
  | 81 => ⟨S_, .f32⟩
  | 82 => ⟨S2x4096x512, .f32⟩
  | 83 => ⟨S2x4096x512, .f32⟩
  | 84 => ⟨S_, .f32⟩
  | 85 => ⟨S2x4096x512, .f32⟩
  | 86 => ⟨S2x4096x512, .f32⟩
  | 87 => ⟨S2x4096x512, .f32⟩
  | 88 => ⟨S1x512, .f32⟩
  | 89 => ⟨S512, .f32⟩
  | 90 => ⟨S1x512, .f32⟩
  | 91 => ⟨S512, .f32⟩
  | 92 => ⟨S1x4x128x128, .f32⟩
  | 93 => ⟨S4x128x128, .f32⟩
  | 94 => ⟨S1x4x128, .f32⟩
  | 95 => ⟨S4x128, .f32⟩
  | 96 => ⟨S_, .f32⟩
  | 97 => ⟨S2x4096, .f32⟩
  | 98 => ⟨S2x4096x1, .f32⟩
  | 99 => ⟨S_, .f32⟩
  | 100 => ⟨S2x4096x1, .f32⟩
  | 101 => ⟨S2x4096x1, .f32⟩
  | 102 => ⟨S2x4096x512, .f32⟩
  | 103 => ⟨S2x4096x512, .f32⟩
  | 104 => ⟨S2x4096x512, .f32⟩
  | 105 => ⟨S_, .f32⟩
  | 106 => ⟨S2x4096, .f32⟩
  | 107 => ⟨S2x4096x1, .f32⟩
  | 108 => ⟨S_, .f32⟩
  | 109 => ⟨S2x4096x1, .f32⟩
  | 110 => ⟨S2x4096x1, .f32⟩
  | 111 => ⟨S2x4096x512, .f32⟩
  | 112 => ⟨S2x4096x512, .f32⟩
  | 113 => ⟨S_, .f32⟩
  | 114 => ⟨S2x4096x1, .f32⟩
  | 115 => ⟨S2x4096x1, .f32⟩
  | 116 => ⟨S2x4096x1, .f32⟩
  | 117 => ⟨S2x4096x512, .f32⟩
  | 118 => ⟨S2x4096x512, .f32⟩
  | 119 => ⟨S1x1x512, .f32⟩
  | 120 => ⟨S2x4096x512, .f32⟩
  | 121 => ⟨S2x4096x512, .f32⟩
  | 122 => ⟨S1x1x512, .f32⟩
  | 123 => ⟨S2x4096x512, .f32⟩
  | 124 => ⟨S2x4096x512, .f32⟩
  | 125 => ⟨S2x32x128x4x128, .f32⟩
  | 126 => ⟨S_, .f32⟩
  | 127 => ⟨S128x128, .f32⟩
  | _ => ⟨S8192x1024, .f32⟩

abbrev hbmTy0_1 (i : Nat) : BufTy := match i % 128 with
  | 0 => ⟨S128x128, .i32⟩
  | 1 => ⟨S_, .i32⟩
  | 2 => ⟨S128x128, .i32⟩
  | 3 => ⟨S128x128, .i32⟩
  | 4 => ⟨S128x128, .i32⟩
  | 5 => ⟨S128x128, .i1⟩
  | 6 => ⟨S_, .f32⟩
  | 7 => ⟨S128x128, .f32⟩
  | 8 => ⟨S128x128, .f32⟩
  | 9 => ⟨S1x128x128, .f32⟩
  | 10 => ⟨S4x128x128, .f32⟩
  | 11 => ⟨S4x128x128, .f32⟩
  | 12 => ⟨S4x2x32x128x128, .f32⟩
  | 13 => ⟨S2x32x128x4x128, .f32⟩
  | 14 => ⟨S128x4, .f32⟩
  | 15 => ⟨S1x1x128x4x1, .f32⟩
  | 16 => ⟨S2x32x128x4x128, .f32⟩
  | 17 => ⟨S2x32x128x4x128, .f32⟩
  | 18 => ⟨S2x4096x512, .f32⟩
  | 19 => ⟨S2x4096x512, .f32⟩
  | 20 => ⟨S1x4x128x128, .f32⟩
  | 21 => ⟨S4x128x128, .f32⟩
  | 22 => ⟨S1x512, .f32⟩
  | 23 => ⟨S512, .f32⟩
  | 24 => ⟨S4096, .i32⟩
  | 25 => ⟨S2x4096x128, .f32⟩
  | 26 => ⟨S_, .i32⟩
  | 27 => ⟨S_, .f32⟩
  | 28 => ⟨S2x4097x128, .f32⟩
  | 29 => ⟨S2x4096x128, .f32⟩
  | 30 => ⟨S2x4096x128, .f32⟩
  | 31 => ⟨S2x4096x128, .f32⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S4096, .f32⟩
  | 39 => ⟨S1x4096x1, .f32⟩
  | 40 => ⟨S2x4096x128, .f32⟩
  | 41 => ⟨S2x4096x128, .f32⟩
  | 42 => ⟨S2x4096x128, .f32⟩
  | 43 => ⟨S2x4096x128, .f32⟩
  | 44 => ⟨S_, .i32⟩
  | 45 => ⟨S_, .f32⟩
  | 46 => ⟨S2x4099x128, .f32⟩
  | 47 => ⟨S2x4096x128, .f32⟩
  | 48 => ⟨S2x4096x128, .f32⟩
  | 49 => ⟨S2x4096x128, .f32⟩
  | 50 => ⟨S2x4096x128, .f32⟩
  | 51 => ⟨S2x4096x128, .f32⟩
  | 52 => ⟨S2x4096x128, .f32⟩
  | 53 => ⟨S2x4096x128, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S4096, .f32⟩
  | 61 => ⟨S1x4096x1, .f32⟩
  | 62 => ⟨S2x4096x128, .f32⟩
  | 63 => ⟨S2x4096x128, .f32⟩
  | 64 => ⟨S2x4096x128, .f32⟩
  | 65 => ⟨S2x4096x128, .f32⟩
  | 66 => ⟨S_, .i32⟩
  | 67 => ⟨S_, .f32⟩
  | 68 => ⟨S2x4103x128, .f32⟩
  | 69 => ⟨S2x4096x128, .f32⟩
  | 70 => ⟨S2x4096x128, .f32⟩
  | 71 => ⟨S2x4096x128, .f32⟩
  | 72 => ⟨S2x4096x128, .f32⟩
  | 73 => ⟨S2x4096x128, .f32⟩
  | 74 => ⟨S2x4096x128, .f32⟩
  | 75 => ⟨S2x4096x128, .f32⟩
  | 76 => ⟨S2x4096x128, .f32⟩
  | 77 => ⟨S2x4096x128, .f32⟩
  | 78 => ⟨S2x4096x128, .f32⟩
  | 79 => ⟨S2x4096x128, .f32⟩
  | 80 => ⟨S2x4096x128, .f32⟩
  | 81 => ⟨S2x4096x128, .f32⟩
  | 82 => ⟨S2x4096x128, .f32⟩
  | 83 => ⟨S2x4096x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S1x4096x1, .f32⟩
  | 92 => ⟨S2x4096x128, .f32⟩
  | 93 => ⟨S2x4096x128, .f32⟩
  | 94 => ⟨S2x4096x128, .f32⟩
  | 95 => ⟨S2x4096x128, .f32⟩
  | 96 => ⟨S_, .i32⟩
  | 97 => ⟨S_, .f32⟩
  | 98 => ⟨S2x4111x128, .f32⟩
  | 99 => ⟨S2x4096x128, .f32⟩
  | 100 => ⟨S2x4096x128, .f32⟩
  | 101 => ⟨S2x4096x128, .f32⟩
  | 102 => ⟨S2x4096x128, .f32⟩
  | 103 => ⟨S2x4096x128, .f32⟩
  | 104 => ⟨S2x4096x128, .f32⟩
  | 105 => ⟨S2x4096x128, .f32⟩
  | 106 => ⟨S2x4096x128, .f32⟩
  | 107 => ⟨S2x4096x128, .f32⟩
  | 108 => ⟨S2x4096x128, .f32⟩
  | 109 => ⟨S2x4096x128, .f32⟩
  | 110 => ⟨S2x4096x128, .f32⟩
  | 111 => ⟨S2x4096x128, .f32⟩
  | 112 => ⟨S2x4096x128, .f32⟩
  | 113 => ⟨S2x4096x128, .f32⟩
  | 114 => ⟨S2x4096x128, .f32⟩
  | 115 => ⟨S2x4096x128, .f32⟩
  | 116 => ⟨S2x4096x128, .f32⟩
  | 117 => ⟨S2x4096x128, .f32⟩
  | 118 => ⟨S2x4096x128, .f32⟩
  | 119 => ⟨S2x4096x128, .f32⟩
  | 120 => ⟨S2x4096x128, .f32⟩
  | 121 => ⟨S2x4096x128, .f32⟩
  | 122 => ⟨S2x4096x128, .f32⟩
  | 123 => ⟨S2x4096x128, .f32⟩
  | 124 => ⟨S2x4096x128, .f32⟩
  | 125 => ⟨S2x4096x128, .f32⟩
  | 126 => ⟨S2x4096x128, .f32⟩
  | 127 => ⟨S2x4096x128, .f32⟩
  | _ => ⟨S8192x1024, .f32⟩

abbrev hbmTy0_2 (i : Nat) : BufTy := match i % 128 with
  | 0 => ⟨S2x4096x128, .f32⟩
  | 1 => ⟨S2x4096x128, .f32⟩
  | 2 => ⟨S_, .i32⟩
  | 3 => ⟨S4096, .i32⟩
  | 4 => ⟨S4096, .i32⟩
  | 5 => ⟨S_, .i32⟩
  | 6 => ⟨S4096, .i32⟩
  | 7 => ⟨S4096, .i32⟩
  | 8 => ⟨S4096, .f32⟩
  | 9 => ⟨S1x4096x1, .f32⟩
  | 10 => ⟨S2x4096x128, .f32⟩
  | 11 => ⟨S2x4096x128, .f32⟩
  | 12 => ⟨S2x4096x128, .f32⟩
  | 13 => ⟨S2x4096x1x128, .f32⟩
  | 14 => ⟨S2x4096x1x128, .f32⟩
  | 15 => ⟨S2x4096x1x128, .f32⟩
  | 16 => ⟨S2x4096x1x128, .f32⟩
  | 17 => ⟨S2x4096x4x128, .f32⟩
  | 18 => ⟨S4x128x2x4096, .f32⟩
  | 19 => ⟨S2x4096x4x128, .f32⟩
  | 20 => ⟨S2x4096x512, .f32⟩
  | 21 => ⟨S1x1x512, .f32⟩
  | 22 => ⟨S2x4096x512, .f32⟩
  | 23 => ⟨S2x4096x512, .f32⟩
  | 24 => ⟨S1x3x512, .f32⟩
  | 25 => ⟨S3x512, .f32⟩
  | 26 => ⟨S2x4096x512, .f32⟩
  | 27 => ⟨S_, .i32⟩
  | 28 => ⟨S_, .f32⟩
  | 29 => ⟨S2x4098x512, .f32⟩
  | 30 => ⟨S1x512, .f32⟩
  | 31 => ⟨S512, .f32⟩
  | 32 => ⟨S2x4096x512, .f32⟩
  | 33 => ⟨S1x1x512, .f32⟩
  | 34 => ⟨S2x4096x512, .f32⟩
  | 35 => ⟨S2x4096x512, .f32⟩
  | 36 => ⟨S1x512, .f32⟩
  | 37 => ⟨S512, .f32⟩
  | 38 => ⟨S2x4096x512, .f32⟩
  | 39 => ⟨S1x1x512, .f32⟩
  | 40 => ⟨S2x4096x512, .f32⟩
  | 41 => ⟨S2x4096x512, .f32⟩
  | 42 => ⟨S2x4096x512, .f32⟩
  | 43 => ⟨S1x512, .f32⟩
  | 44 => ⟨S512, .f32⟩
  | 45 => ⟨S2x4096x512, .f32⟩
  | 46 => ⟨S1x1x512, .f32⟩
  | 47 => ⟨S2x4096x512, .f32⟩
  | 48 => ⟨S2x4096x512, .f32⟩
  | 49 => ⟨S2x4096x512, .f32⟩
  | 50 => ⟨S2x4096x512, .f32⟩
  | 51 => ⟨S2x4096x1024, .f32⟩
  | 52 => ⟨S2x4096x1024, .f32⟩
  | 53 => ⟨S2x4096x1024, .f32⟩
  | 54 => ⟨S2x4096x3072, .f32⟩
  | 55 => ⟨S2x4096x3072, .f32⟩
  | 56 => ⟨S2x4096x3072, .f32⟩
  | 57 => ⟨S_, .f32⟩
  | 58 => ⟨S2x4096x3072, .f32⟩
  | 59 => ⟨S2x4096x3072, .f32⟩
  | 60 => ⟨S_, .f32⟩
  | 61 => ⟨S2x4096x3072, .f32⟩
  | 62 => ⟨S2x4096x3072, .f32⟩
  | 63 => ⟨S2x4096x3x1024, .f32⟩
  | 64 => ⟨S2x4096x1x1024, .f32⟩
  | 65 => ⟨S2x4096x1024, .f32⟩
  | 66 => ⟨S2x4096x1024, .f32⟩
  | 67 => ⟨S2x4096x1x1024, .f32⟩
  | 68 => ⟨S2x4096x1024, .f32⟩
  | 69 => ⟨S2x4096x1024, .f32⟩
  | 70 => ⟨S2x4096x1024, .f32⟩
  | 71 => ⟨S2x4096x1x1024, .f32⟩
  | 72 => ⟨S2x4096x1024, .f32⟩
  | 73 => ⟨S2x4096x1024, .f32⟩
  | 74 => ⟨S2x4096x1024, .f32⟩
  | 75 => ⟨S2x4096x1024, .f32⟩
  | 76 => ⟨S8192x1024, .f32⟩
  | 77 => ⟨S8192x1024, .bf16⟩
  | 78 => ⟨S8192x6144, .f32⟩
  | 79 => ⟨S8192x6144, .bf16⟩
  | 80 => ⟨S2x4096x3072, .f32⟩
  | 81 => ⟨S8192x3072, .f32⟩
  | 82 => ⟨S8192x3072, .bf16⟩
  | 83 => ⟨S2x4096x1536, .f32⟩
  | 84 => ⟨S8192x1536, .f32⟩
  | 85 => ⟨S8192x1536, .bf16⟩
  | 86 => ⟨S8192x1024, .f32⟩
  | 87 => ⟨S8192x1024, .bf16⟩
  | 88 => ⟨S8192x1024, .f32⟩
  | 89 => ⟨S8192x1024, .bf16⟩
  | 90 => ⟨S1x2x1x1024, .f32⟩
  | 91 => ⟨S2x1024, .f32⟩
  | 92 => ⟨S2x1x1024, .f32⟩
  | 93 => ⟨S2x4096x1024, .f32⟩
  | 94 => ⟨S2x4096x1024, .f32⟩
  | 95 => ⟨S2x4096x1024, .f32⟩
  | 96 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_9 : Ref sig .tc := ⟨.hbm, 81, rfl⟩
abbrev main_v56 : Ref sig .tc := ⟨.hbm, 82, rfl⟩
abbrev main_v57 : Ref sig .tc := ⟨.hbm, 83, rfl⟩
abbrev main_cst_10 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_11 : Ref sig .tc := ⟨.hbm, 96, rfl⟩
abbrev main_v69 : Ref sig .tc := ⟨.hbm, 97, rfl⟩
abbrev main_v70 : Ref sig .tc := ⟨.hbm, 98, rfl⟩
abbrev main_cst_12 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_13 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_15 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_16 : Ref sig .tc := ⟨.hbm, 126, rfl⟩
abbrev main_v94 : Ref sig .tc := ⟨.hbm, 127, rfl⟩
abbrev main_call0_v0 : Ref sig .tc := ⟨.hbm, 128, rfl⟩
abbrev main_call0_c : Ref sig .tc := ⟨.hbm, 129, rfl⟩
abbrev main_call0_v1 : Ref sig .tc := ⟨.hbm, 130, rfl⟩
abbrev main_call0_v2 : Ref sig .tc := ⟨.hbm, 131, rfl⟩
abbrev main_call0_v3 : Ref sig .tc := ⟨.hbm, 132, rfl⟩
abbrev main_call0_v4 : Ref sig .tc := ⟨.hbm, 133, rfl⟩
abbrev main_call0_cst : Ref sig .tc := ⟨.hbm, 134, rfl⟩
abbrev main_call0_v5 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_c : Ref sig .tc := ⟨.hbm, 154, rfl⟩
abbrev main_call1_v0 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_c_17 : Ref sig .tc := ⟨.hbm, 160, rfl⟩
abbrev main_v117 : Ref sig .tc := ⟨.hbm, 161, rfl⟩
abbrev main_v118 : Ref sig .tc := ⟨.hbm, 162, rfl⟩
abbrev main_c_18 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_c_19 : Ref sig .tc := ⟨.hbm, 172, rfl⟩
abbrev main_call2_v0 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_c_20 : Ref sig .tc := ⟨.hbm, 182, rfl⟩
abbrev main_v135 : Ref sig .tc := ⟨.hbm, 183, rfl⟩
abbrev main_v136 : Ref sig .tc := ⟨.hbm, 184, rfl⟩
abbrev main_c_21 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_c_22 : Ref sig .tc := ⟨.hbm, 194, rfl⟩
abbrev main_call3_v0 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_23 : Ref sig .tc := ⟨.hbm, 212, rfl⟩
abbrev main_v161 : Ref sig .tc := ⟨.hbm, 213, rfl⟩
abbrev main_v162 : Ref sig .tc := ⟨.hbm, 214, rfl⟩
abbrev main_c_24 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_c_25 : Ref sig .tc := ⟨.hbm, 224, rfl⟩
abbrev main_call4_v0 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_v190 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_c_26 : Ref sig .tc := ⟨.hbm, 258, rfl⟩
abbrev main_v203 : Ref sig .tc := ⟨.hbm, 259, rfl⟩
abbrev main_v204 : Ref sig .tc := ⟨.hbm, 260, rfl⟩
abbrev main_c_27 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_v214 : Ref sig .tc := ⟨.hbm, 271, rfl⟩
abbrev main_v215 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_v225 : Ref sig .tc := ⟨.hbm, 282, rfl⟩
abbrev main_c_28 : Ref sig .tc := ⟨.hbm, 283, rfl⟩
abbrev main_call5_v0 : Ref sig .tc := ⟨.hbm, 284, rfl⟩
abbrev main_v226 : Ref sig .tc := ⟨.hbm, 285, rfl⟩
abbrev main_v227 : Ref sig .tc := ⟨.hbm, 286, rfl⟩
abbrev main_v228 : Ref sig .tc := ⟨.hbm, 287, rfl⟩
abbrev main_v229 : Ref sig .tc := ⟨.hbm, 288, rfl⟩
abbrev main_v230 : Ref sig .tc := ⟨.hbm, 289, rfl⟩
abbrev main_v231 : Ref sig .tc := ⟨.hbm, 290, rfl⟩
abbrev main_v232 : Ref sig .tc := ⟨.hbm, 291, rfl⟩
abbrev main_v233 : Ref sig .tc := ⟨.hbm, 292, rfl⟩
abbrev main_v234 : Ref sig .tc := ⟨.hbm, 293, rfl⟩
abbrev main_v235 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_v239 : Ref sig .tc := ⟨.hbm, 298, rfl⟩
abbrev main_v240 : Ref sig .tc := ⟨.hbm, 299, rfl⟩
abbrev main_v241 : Ref sig .tc := ⟨.hbm, 300, rfl⟩
abbrev main_v242 : Ref sig .tc := ⟨.hbm, 301, rfl⟩
abbrev main_v243 : Ref sig .tc := ⟨.hbm, 302, rfl⟩
abbrev main_v244 : Ref sig .tc := ⟨.hbm, 303, rfl⟩
abbrev main_v245 : Ref sig .tc := ⟨.hbm, 304, rfl⟩
abbrev main_v246 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_v252 : Ref sig .tc := ⟨.hbm, 311, rfl⟩
abbrev main_v253 : Ref sig .tc := ⟨.hbm, 312, rfl⟩
abbrev main_cst_29 : Ref sig .tc := ⟨.hbm, 313, rfl⟩
abbrev main_v254 : Ref sig .tc := ⟨.hbm, 314, rfl⟩
abbrev main_v255 : Ref sig .tc := ⟨.hbm, 315, rfl⟩
abbrev main_cst_30 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_v260 : Ref sig .tc := ⟨.hbm, 321, rfl⟩
abbrev main_v261 : Ref sig .tc := ⟨.hbm, 322, rfl⟩
abbrev main_v262 : Ref sig .tc := ⟨.hbm, 323, rfl⟩
abbrev main_v263 : Ref sig .tc := ⟨.hbm, 324, rfl⟩
abbrev main_v264 : Ref sig .tc := ⟨.hbm, 325, rfl⟩
abbrev main_v265 : Ref sig .tc := ⟨.hbm, 326, rfl⟩
abbrev main_v266 : Ref sig .tc := ⟨.hbm, 327, rfl⟩
abbrev main_v267 : Ref sig .tc := ⟨.hbm, 328, rfl⟩
abbrev main_v268 : Ref sig .tc := ⟨.hbm, 329, rfl⟩
abbrev main_v269 : Ref sig .tc := ⟨.hbm, 330, rfl⟩
abbrev main_v270 : Ref sig .tc := ⟨.hbm, 331, rfl⟩
abbrev main_v271 : Ref sig .tc := ⟨.hbm, 332, rfl⟩
abbrev main_v272 : Ref sig .tc := ⟨.hbm, 333, rfl⟩
abbrev main_v273 : Ref sig .tc := ⟨.hbm, 334, rfl⟩
abbrev main_v274 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_v280 : Ref sig .tc := ⟨.hbm, 341, rfl⟩
abbrev main_v281 : Ref sig .tc := ⟨.hbm, 342, rfl⟩
abbrev main_v282 : Ref sig .tc := ⟨.hbm, 343, rfl⟩
abbrev main_v283 : Ref sig .tc := ⟨.hbm, 344, rfl⟩
abbrev main_v284 : Ref sig .tc := ⟨.hbm, 345, rfl⟩
abbrev main_v285 : Ref sig .tc := ⟨.hbm, 346, rfl⟩
abbrev main_v286 : Ref sig .tc := ⟨.hbm, 347, rfl⟩
abbrev main_v287 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩
abbrev main_v291 : Ref sig .tc := ⟨.hbm, 352, rfl⟩

abbrev nD : Nat := 1
abbrev τ : Topo := Topo.v7x

variable {F : FTy → Type} [FloatOps F]
-- ==== Proof.WgradIn.lean ====
module

public import proofs.«01_k».proof.Proof.Gen.KernelInIdeal.Frame
public import proofs.«01_k».proof.Proof.Gen.ReferenceInIdeal.Run
public import Idealize.ShloMosaic.Lib.Pipeline.ValueKit

@[expose] public section

set_option maxRecDepth 16384

noncomputable section

namespace Cert.KernelInIdeal.Proof

open Cert.KernelInIdeal Cert.KernelInIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1024 .f32) (Y : FVec Ideal S8192x6144 .f32) : FVec Ideal S8x1024x768 .bf16 :=
  truncf .bf16 (transpose S8x1024x768 [1, 0, 2] (shapeCast _ (transpose Cert.ReferenceInIdeal.S1024x6144 [1, 0] (Host.dotGeneral Cert.ReferenceInIdeal.dot_S2x4096x6144_S2x4096x1024_S6144x1024_01_01_2_2_n_n none (shapeCast _ Y Cert.ReferenceInIdeal.Gen.shapeCasts_S8192x6144_S2x4096x6144) (shapeCast _ X Cert.ReferenceInIdeal.Gen.shapeCasts_S8192x1024_S2x4096x1024)) Cert.ReferenceInIdeal.Gen.transposes_S6144x1024_S1024x6144_1_0) Cert.ReferenceInIdeal.Gen.shapeCasts_S1024x6144_S1024x8x768) Cert.ReferenceInIdeal.Gen.transposes_S1024x8x768_S8x1024x768_1_0_2) Cert.ReferenceInIdeal.Gen.bitsLt_bf16_f32

theorem hzero (j) : k0_pay1 (F := Ideal) j = 0 := by pointwise [k0_pay1]

theorem hpay (acc x0 x1 j) : k0_pay2 (F := Ideal) acc x0 x1 j = acc j + ∑ k : Fin 2048, x0 (ix2 k (j 0)) * x1 (ix2 k (j 1)) := by
  pointwise [k0_pay2]

theorem href (X Y j) : REF X Y j = ∑ l : Fin 8192, X (ix2 l (j 1)) * Y (ix2 l ⟨(j 0).val * 768 + (j 2).val, by idx_bounds; omega⟩) := by
  pointwise [REF]
  refine Eq.trans ?_ (Fin.sum_mul_add_fin 2 4096 fun l : Fin 8192 => X (ix2 l (j 1)) * Y (ix2 l ⟨(j 0).val * 768 + (j 2).val, _⟩))
  exact Fin.sum_fin_congr fun x => Fin.sum_fin_congr fun y => mul_comm _ _

theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

/-- The accumulator after point `t`, at an index: the products of the run's points so far. -/
theorem acc_at (c : Dev nD) (t : Fin cfg0.N) (hf : t.val % 4 = 3) (j : S1024x768.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0))
      * (show FVec Ideal S2048x768 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun p j => ∑ k : Fin 2048, (show FVec Ideal S2048x1024 .bf16 from iblk m c 0 p) (ix2 k (j 0)) * (show FVec Ideal S2048x768 .bf16 from iblk m c 1 p) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S1024x768 := [(y 1 : ℕ), (y 2 : ℕ)] with hi
  refine Eq.trans (b := k0_pay2 (F := Ideal) _ _ _ i) ?_ ((e i).trans ?_)
  · pointwise [k0_pay3]
    blk_ext
  rw [href]
  refine Fin.sum_mul_add_congr fun s k hl => ?_
  blk_point [iblk, V, idx ⟨_, Pipeline.run_point_lt_of_flush t h3 s⟩, idx t]

end Cert.KernelInIdeal.Proof

end
-- ==== Proof.WgradO.lean ====
module

public import proofs.«01_k».proof.Proof.Gen.KernelOIdeal.Frame
public import proofs.«01_k».proof.Proof.Gen.ReferenceOIdeal.Run
public import Idealize.ShloMosaic.Lib.Pipeline.ValueKit

@[expose] public section

set_option maxRecDepth 16384

noncomputable section

namespace Cert.KernelOIdeal.Proof

open Cert.KernelOIdeal Cert.KernelOIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1024 .f32) (Y : FVec Ideal S8192x1024 .f32) : FVec Ideal S1024x1024 .bf16 :=
  truncf .bf16 (transpose Cert.ReferenceOIdeal.S1024x1024 [1, 0] (Host.dotGeneral Cert.ReferenceOIdeal.dot_S2x4096x1024_S2x4096x1024_S1024x1024_01_01_2_2_n_n none (shapeCast _ Y Cert.ReferenceOIdeal.Gen.shapeCasts_S8192x1024_S2x4096x1024) (shapeCast _ X Cert.ReferenceOIdeal.Gen.shapeCasts_S8192x1024_S2x4096x1024)) Cert.ReferenceOIdeal.Gen.transposes_S1024x1024_S1024x1024_1_0) Cert.ReferenceOIdeal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix2 k (j 0)) * x1 (ix2 k (j 1)) := by
  pointwise [k0_pay2]

/-- The reference at an index: a sum over all tokens. -/
theorem href (X Y j) : REF X Y j = ∑ l : Fin 8192, X (ix2 l (j 0)) * Y (ix2 l (j 1)) := by
  pointwise [REF]
  refine Eq.trans ?_ (Fin.sum_mul_add_fin 2 4096 fun l : Fin 8192 => X (ix2 l (j 0)) * Y (ix2 l (j 1)))
  exact Fin.sum_fin_congr fun x => Fin.sum_fin_congr fun y => mul_comm _ _

theorem idx : ∀ t : Fin cfg0.N, win0_0.index t = ![t.val % 4, 0] ∧ win0_1.index t = ![t.val % 4, 0] ∧ win0_2.index t = ![0, 0] :=
  (by decide +kernel : ∀ t : Fin grid0.N, _)

/-- The accumulator after a flushing point, at an index: the products of its run's points. -/
theorem acc_at (c : Dev nD) (t : Fin cfg0.N) (hf : t.val % 4 = 3) (j : S1024x1024.Idx) :
    (outsAt0 m c t.val t.isLt).2 j = ∑ s : Fin 4, ∑ k : Fin 2048,
      (show FVec Ideal S2048x1024 .bf16 from iblk m c 0 ⟨4 * (t.val / 4) + s.val, Pipeline.run_point_lt_of_flush t hf s⟩) (ix2 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S2048x1024 .bf16 from iblk m c 0 P) (ix2 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S1024x1024 := [(y 0 : ℕ), (y 1 : ℕ)] with hi
  refine Eq.trans (b := k0_pay2 (F := Ideal) _ _ _ i) ?_ ((e i).trans ?_)
  · pointwise [k0_pay3]
    blk_ext
  rw [href]
  refine Fin.sum_mul_add_congr fun s k hl => ?_
  blk_point [iblk, V, idx ⟨_, Pipeline.run_point_lt_of_flush t h3 s⟩, idx t]

end Cert.KernelOIdeal.Proof

end
-- ==== Proof.WgradPa.lean ====
module

public import proofs.«01_k».proof.Proof.Gen.KernelPaIdeal.Frame
public import proofs.«01_k».proof.Proof.Gen.ReferencePaIdeal.Run
public import Idealize.ShloMosaic.Lib.Pipeline.ValueKit
public import Idealize.ShloMosaic.Lib.Pipeline.ReadBack

@[expose] public section

set_option maxRecDepth 16384

noncomputable section

namespace Cert.KernelPaIdeal.Proof

open Cert.KernelPaIdeal Cert.KernelPaIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1536 .f32) (Y : FVec Ideal S8192x3072 .f32) : FVec Ideal S8x512x128 .bf16 :=
  truncf .bf16 (transpose Cert.ReferencePaIdeal.S8x512x128 [1, 0, 2] (shapeCast _ (transpose Cert.ReferencePaIdeal.S512x1024 [1, 0] (Host.dotGeneral Cert.ReferencePaIdeal.dot_S2x4096x1024_S2x4096x512_S1024x512_01_01_2_2_n_n none (shapeCast _ (extractStridedSlice Cert.ReferencePaIdeal.S8192x1024 ![0, 0] Y Cert.ReferencePaIdeal.Gen.slices_S8192x3072_S8192x1024_0_0) Cert.ReferencePaIdeal.Gen.shapeCasts_S8192x1024_S2x4096x1024) (shapeCast _ (extractStridedSlice Cert.ReferencePaIdeal.S8192x512 ![0, 0] X Cert.ReferencePaIdeal.Gen.slices_S8192x1536_S8192x512_0_0) Cert.ReferencePaIdeal.Gen.shapeCasts_S8192x512_S2x4096x512)) Cert.ReferencePaIdeal.Gen.transposes_S1024x512_S512x1024_1_0) Cert.ReferencePaIdeal.Gen.shapeCasts_S512x1024_S512x8x128) Cert.ReferencePaIdeal.Gen.transposes_S512x8x128_S8x512x128_1_0_2) Cert.ReferencePaIdeal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix2 k (j 0)) * x1 (ix2 k (j 1)) := by
  pointwise [k0_pay2]

/-- The reference at an index: a sum over all tokens. -/
theorem href (X Y j) : REF X Y j = ∑ l : Fin 8192, X (ix2 l ⟨(j 1).val, by idx_bounds; omega⟩) * Y (ix2 l ⟨((j 0).val * 128 + (j 2).val), by idx_bounds; omega⟩) := by
  pointwise [REF]
  refine Eq.trans ?_ (Fin.sum_mul_add_fin 2 4096 fun l : Fin 8192 => X (ix2 l ⟨(j 1).val, _⟩) * Y (ix2 l ⟨((j 0).val * 128 + (j 2).val), _⟩))
  exact Fin.sum_fin_congr fun x => Fin.sum_fin_congr fun y => mul_comm _ _

theorem idx : ∀ t : Fin cfg0.N, win0_0.index t = ![t.val % 4, 0] ∧ win0_1.index t = ![t.val % 4, 0] ∧ win0_2.index t = ![0, 0, 0] :=
  (by decide +kernel : ∀ t : Fin grid0.N, _)

/-- The accumulator after a flushing point, at an index: the products of its run's points. -/
theorem acc_at (c : Dev nD) (t : Fin cfg0.N) (hf : t.val % 4 = 3) (j : S512x1024.Idx) :
    (outsAt0 m c t.val t.isLt).2 j = ∑ s : Fin 4, ∑ k : Fin 2048,
      (show FVec Ideal S2048x512 .bf16 from iblk m c 0 ⟨4 * (t.val / 4) + s.val, Pipeline.run_point_lt_of_flush t hf s⟩) (ix2 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S2048x512 .bf16 from iblk m c 0 P) (ix2 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S512x1024 := [(y 1 : ℕ), ((y 0 : ℕ) * 128 + (y 2 : ℕ))] with hi
  refine Eq.trans (b := k0_pay2 (F := Ideal) _ _ _ i) ?_ ((e i).trans ?_)
  · clear e h0 hf
    canon_tiles x q
    all_goals
      open_payloads
      pointwise
      rw [View.readCov_fill (s := S512x1024) (h := fun a => by fin_cases a <;> rfl)]
      pointwise
      blk_ext
  rw [href]
  refine Fin.sum_mul_add_congr fun s k hl => ?_
  blk_point [iblk, V, idx ⟨_, Pipeline.run_point_lt_of_flush t h3 s⟩, idx t]

end Cert.KernelPaIdeal.Proof

end
-- ==== Proof.WgradPb.lean ====
module

public import proofs.«01_k».proof.Proof.Gen.KernelPbIdeal.Frame
public import proofs.«01_k».proof.Proof.Gen.ReferencePbIdeal.Run
public import Idealize.ShloMosaic.Lib.Pipeline.ValueKit
public import Idealize.ShloMosaic.Lib.Pipeline.ReadBack

@[expose] public section

set_option maxRecDepth 16384

noncomputable section

namespace Cert.KernelPbIdeal.Proof

open Cert.KernelPbIdeal Cert.KernelPbIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1536 .f32) (Y : FVec Ideal S8192x3072 .f32) : FVec Ideal S8x512x128 .bf16 :=
  truncf .bf16 (transpose Cert.ReferencePbIdeal.S8x512x128 [1, 0, 2] (shapeCast _ (transpose Cert.ReferencePbIdeal.S512x1024 [1, 0] (Host.dotGeneral Cert.ReferencePbIdeal.dot_S2x4096x1024_S2x4096x512_S1024x512_01_01_2_2_n_n none (shapeCast _ (extractStridedSlice Cert.ReferencePbIdeal.S8192x1024 ![0, 1024] Y Cert.ReferencePbIdeal.Gen.slices_S8192x3072_S8192x1024_0_1024) Cert.ReferencePbIdeal.Gen.shapeCasts_S8192x1024_S2x4096x1024) (shapeCast _ (extractStridedSlice Cert.ReferencePbIdeal.S8192x512 ![0, 512] X Cert.ReferencePbIdeal.Gen.slices_S8192x1536_S8192x512_0_512) Cert.ReferencePbIdeal.Gen.shapeCasts_S8192x512_S2x4096x512)) Cert.ReferencePbIdeal.Gen.transposes_S1024x512_S512x1024_1_0) Cert.ReferencePbIdeal.Gen.shapeCasts_S512x1024_S512x8x128) Cert.ReferencePbIdeal.Gen.transposes_S512x8x128_S8x512x128_1_0_2) Cert.ReferencePbIdeal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix2 k (j 0)) * x1 (ix2 k (j 1)) := by
  pointwise [k0_pay2]

/-- The reference at an index: a sum over all tokens. -/
theorem href (X Y j) : REF X Y j = ∑ l : Fin 8192, X (ix2 l ⟨512 + (j 1).val, by idx_bounds; omega⟩) * Y (ix2 l ⟨1024 + ((j 0).val * 128 + (j 2).val), by idx_bounds; omega⟩) := by
  pointwise [REF]
  refine Eq.trans ?_ (Fin.sum_mul_add_fin 2 4096 fun l : Fin 8192 => X (ix2 l ⟨512 + (j 1).val, _⟩) * Y (ix2 l ⟨1024 + ((j 0).val * 128 + (j 2).val), _⟩))
  exact Fin.sum_fin_congr fun x => Fin.sum_fin_congr fun y => mul_comm _ _

theorem idx : ∀ t : Fin cfg0.N, win0_0.index t = ![t.val % 4, 1] ∧ win0_1.index t = ![t.val % 4, 1] ∧ win0_2.index t = ![0, 0, 0] :=
  (by decide +kernel : ∀ t : Fin grid0.N, _)

/-- The accumulator after a flushing point, at an index: the products of its run's points. -/
theorem acc_at (c : Dev nD) (t : Fin cfg0.N) (hf : t.val % 4 = 3) (j : S512x1024.Idx) :
    (outsAt0 m c t.val t.isLt).2 j = ∑ s : Fin 4, ∑ k : Fin 2048,
      (show FVec Ideal S2048x512 .bf16 from iblk m c 0 ⟨4 * (t.val / 4) + s.val, Pipeline.run_point_lt_of_flush t hf s⟩) (ix2 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S2048x512 .bf16 from iblk m c 0 P) (ix2 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S512x1024 := [(y 1 : ℕ), ((y 0 : ℕ) * 128 + (y 2 : ℕ))] with hi
  refine Eq.trans (b := k0_pay2 (F := Ideal) _ _ _ i) ?_ ((e i).trans ?_)
  · clear e h0 hf
    canon_tiles x q
    all_goals
      open_payloads
      pointwise
      rw [View.readCov_fill (s := S512x1024) (h := fun a => by fin_cases a <;> rfl)]
      pointwise
      blk_ext
  rw [href]
  refine Fin.sum_mul_add_congr fun s k hl => ?_
  blk_point [iblk, V, idx ⟨_, Pipeline.run_point_lt_of_flush t h3 s⟩, idx t]

end Cert.KernelPbIdeal.Proof

end
-- ==== Proof.WgradPc.lean ====
module

public import proofs.«01_k».proof.Proof.Gen.KernelPcIdeal.Frame
public import proofs.«01_k».proof.Proof.Gen.ReferencePcIdeal.Run
public import Idealize.ShloMosaic.Lib.Pipeline.ValueKit
public import Idealize.ShloMosaic.Lib.Pipeline.ReadBack

@[expose] public section

set_option maxRecDepth 16384

noncomputable section

namespace Cert.KernelPcIdeal.Proof

open Cert.KernelPcIdeal Cert.KernelPcIdeal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1536 .f32) (Y : FVec Ideal S8192x3072 .f32) : FVec Ideal S8x512x128 .bf16 :=
  truncf .bf16 (transpose Cert.ReferencePcIdeal.S8x512x128 [1, 0, 2] (shapeCast _ (transpose Cert.ReferencePcIdeal.S512x1024 [1, 0] (Host.dotGeneral Cert.ReferencePcIdeal.dot_S2x4096x1024_S2x4096x512_S1024x512_01_01_2_2_n_n none (shapeCast _ (extractStridedSlice Cert.ReferencePcIdeal.S8192x1024 ![0, 2048] Y Cert.ReferencePcIdeal.Gen.slices_S8192x3072_S8192x1024_0_2048) Cert.ReferencePcIdeal.Gen.shapeCasts_S8192x1024_S2x4096x1024) (shapeCast _ (extractStridedSlice Cert.ReferencePcIdeal.S8192x512 ![0, 1024] X Cert.ReferencePcIdeal.Gen.slices_S8192x1536_S8192x512_0_1024) Cert.ReferencePcIdeal.Gen.shapeCasts_S8192x512_S2x4096x512)) Cert.ReferencePcIdeal.Gen.transposes_S1024x512_S512x1024_1_0) Cert.ReferencePcIdeal.Gen.shapeCasts_S512x1024_S512x8x128) Cert.ReferencePcIdeal.Gen.transposes_S512x8x128_S8x512x128_1_0_2) Cert.ReferencePcIdeal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix2 k (j 0)) * x1 (ix2 k (j 1)) := by
  pointwise [k0_pay2]

/-- The reference at an index: a sum over all tokens. -/
theorem href (X Y j) : REF X Y j = ∑ l : Fin 8192, X (ix2 l ⟨1024 + (j 1).val, by idx_bounds; omega⟩) * Y (ix2 l ⟨2048 + ((j 0).val * 128 + (j 2).val), by idx_bounds; omega⟩) := by
  pointwise [REF]
  refine Eq.trans ?_ (Fin.sum_mul_add_fin 2 4096 fun l : Fin 8192 => X (ix2 l ⟨1024 + (j 1).val, _⟩) * Y (ix2 l ⟨2048 + ((j 0).val * 128 + (j 2).val), _⟩))
  exact Fin.sum_fin_congr fun x => Fin.sum_fin_congr fun y => mul_comm _ _

theorem idx : ∀ t : Fin cfg0.N, win0_0.index t = ![t.val % 4, 2] ∧ win0_1.index t = ![t.val % 4, 2] ∧ win0_2.index t = ![0, 0, 0] :=
  (by decide +kernel : ∀ t : Fin grid0.N, _)

/-- The accumulator after a flushing point, at an index: the products of its run's points. -/
theorem acc_at (c : Dev nD) (t : Fin cfg0.N) (hf : t.val % 4 = 3) (j : S512x1024.Idx) :
    (outsAt0 m c t.val t.isLt).2 j = ∑ s : Fin 4, ∑ k : Fin 2048,
      (show FVec Ideal S2048x512 .bf16 from iblk m c 0 ⟨4 * (t.val / 4) + s.val, Pipeline.run_point_lt_of_flush t hf s⟩) (ix2 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S2048x512 .bf16 from iblk m c 0 P) (ix2 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S512x1024 := [(y 1 : ℕ), ((y 0 : ℕ) * 128 + (y 2 : ℕ))] with hi
  refine Eq.trans (b := k0_pay2 (F := Ideal) _ _ _ i) ?_ ((e i).trans ?_)
  · clear e h0 hf
    canon_tiles x q
    all_goals
      open_payloads
      pointwise
      rw [View.readCov_fill (s := S512x1024) (h := fun a => by fin_cases a <;> rfl)]
      pointwise
      blk_ext
  rw [href]
  refine Fin.sum_mul_add_congr fun s k hl => ?_
  blk_point [iblk, V, idx ⟨_, Pipeline.run_point_lt_of_flush t h3 s⟩, idx t]

end Cert.KernelPcIdeal.Proof

end
-- ==== Proof.WgradW13.lean ====
module

public import proofs.«01_k».proof.Proof.Gen.KernelW13Ideal.Frame
public import proofs.«01_k».proof.Proof.Gen.ReferenceW13Ideal.Run
public import Idealize.ShloMosaic.Lib.Pipeline.ValueKit

@[expose] public section

set_option maxRecDepth 16384

noncomputable section

namespace Cert.KernelW13Ideal.Proof

open Cert.KernelW13Ideal Cert.KernelW13Ideal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x1024 .f32) (Y : FVec Ideal S8192x5632 .f32) : FVec Ideal S8x704x1024 .bf16 :=
  truncf .bf16 (shapeCast _ (transpose Cert.ReferenceW13Ideal.S5632x1024 [1, 0] (transpose Cert.ReferenceW13Ideal.S1024x5632 [1, 0] (Host.dotGeneral Cert.ReferenceW13Ideal.dot_S2x4096x5632_S2x4096x1024_S5632x1024_01_01_2_2_n_n none (shapeCast _ Y Cert.ReferenceW13Ideal.Gen.shapeCasts_S8192x5632_S2x4096x5632) (shapeCast _ X Cert.ReferenceW13Ideal.Gen.shapeCasts_S8192x1024_S2x4096x1024)) Cert.ReferenceW13Ideal.Gen.transposes_S5632x1024_S1024x5632_1_0) Cert.ReferenceW13Ideal.Gen.transposes_S1024x5632_S5632x1024_1_0) Cert.ReferenceW13Ideal.Gen.shapeCasts_S5632x1024_S8x704x1024) Cert.ReferenceW13Ideal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix3 0 k (j 0)) * x1 (ix2 k (j 1)) := by
  pointwise [k0_pay2]

/-- The reference at an index: a sum over all tokens. -/
theorem href (X Y j) : REF X Y j = ∑ l : Fin 8192, Y (ix2 l ⟨(j 0).val * 704 + (j 1).val, by idx_bounds; omega⟩) * X (ix2 l (j 2)) := by
  pointwise [REF]
  refine Eq.trans ?_ (Fin.sum_mul_add_fin 2 4096 fun l : Fin 8192 => Y (ix2 l ⟨(j 0).val * 704 + (j 1).val, _⟩) * X (ix2 l (j 2)))
  exact Fin.sum_fin_congr fun x => Fin.sum_fin_congr fun y => rfl

theorem idx : ∀ t : Fin cfg0.N, win0_0.index t = ![t.val / 4, t.val % 4, 0] ∧ win0_1.index t = ![t.val % 4, 0] ∧ win0_2.index t = ![t.val / 4, 0, 0] :=
  (by decide +kernel : ∀ t : Fin grid0.N, _)

/-- The accumulator after a flushing point, at an index: the products of its run's points. -/
theorem acc_at (c : Dev nD) (t : Fin cfg0.N) (hf : t.val % 4 = 3) (j : S704x1024.Idx) :
    (outsAt0 m c t.val t.isLt).2 j = ∑ s : Fin 4, ∑ k : Fin 2048,
      (show FVec Ideal S1x2048x704 .bf16 from iblk m c 0 ⟨4 * (t.val / 4) + s.val, Pipeline.run_point_lt_of_flush t hf s⟩) (ix3 0 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S1x2048x704 .bf16 from iblk m c 0 P) (ix3 0 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S704x1024 := [(y 1 : ℕ), (y 2 : ℕ)] with hi
  refine Eq.trans (b := k0_pay2 (F := Ideal) _ _ _ i) ?_ ((e i).trans ?_)
  · pointwise [k0_pay3]
    blk_ext
  rw [href]
  refine Fin.sum_mul_add_congr fun s k hl => ?_
  blk_point [iblk, V, idx ⟨_, Pipeline.run_point_lt_of_flush t h3 s⟩, idx t]

end Cert.KernelW13Ideal.Proof

end
-- ==== Proof.WgradW2.lean ====
module

public import proofs.«01_k».proof.Proof.Gen.KernelW2Ideal.Frame
public import proofs.«01_k».proof.Proof.Gen.ReferenceW2Ideal.Run
public import Idealize.ShloMosaic.Lib.Pipeline.ValueKit

@[expose] public section

set_option maxRecDepth 16384

noncomputable section

namespace Cert.KernelW2Ideal.Proof

open Cert.KernelW2Ideal Cert.KernelW2Ideal.Gen Idealize.ShloMosaic Idealize.ShloMosaic.TcCoe Idealize.SL.Sem
open Idealize.ShloMosaic.Pipeline (Dat)

variable (m : (ℓ : Loc nD τ sig) → Buf (Elt Ideal) ℓ)

/-- The reference's result, as a term over the two arguments. -/
abbrev REF (X : FVec Ideal S8192x2816 .f32) (Y : FVec Ideal S8192x1024 .f32) : FVec Ideal S2816x1024 .bf16 :=
  truncf .bf16 (transpose Cert.ReferenceW2Ideal.S2816x1024 [1, 0] (Host.dotGeneral Cert.ReferenceW2Ideal.dot_S2x4096x1024_S2x4096x2816_S1024x2816_01_01_2_2_n_n none (shapeCast _ Y Cert.ReferenceW2Ideal.Gen.shapeCasts_S8192x1024_S2x4096x1024) (shapeCast _ X Cert.ReferenceW2Ideal.Gen.shapeCasts_S8192x2816_S2x4096x2816)) Cert.ReferenceW2Ideal.Gen.transposes_S1024x2816_S2816x1024_1_0) Cert.ReferenceW2Ideal.Gen.bitsLt_bf16_f32

theorem hzero (j) : k0_pay1 (F := Ideal) j = 0 := by pointwise [k0_pay1]

/-- One step of the accumulation: the products over the block's tokens. -/
theorem hpay (acc x0 x1 j) : k0_pay2 (F := Ideal) acc x0 x1 j = acc j + ∑ k : Fin 2048, x0 (ix3 0 k (j 0)) * x1 (ix2 k (j 1)) := by
  pointwise [k0_pay2]

/-- The reference at an index: a sum over all tokens. -/
theorem href (X Y j) : REF X Y j = ∑ l : Fin 8192, X (ix2 l (j 0)) * Y (ix2 l (j 1)) := by
  pointwise [REF]
  refine Eq.trans ?_ (Fin.sum_mul_add_fin 2 4096 fun l : Fin 8192 => X (ix2 l (j 0)) * Y (ix2 l (j 1)))
  exact Fin.sum_fin_congr fun x => Fin.sum_fin_congr fun y => mul_comm _ _

theorem idx : ∀ t : Fin cfg0.N, win0_0.index t = ![t.val / 4, t.val % 4, 0] ∧ win0_1.index t = ![t.val % 4, 0] ∧ win0_2.index t = ![t.val / 4, 0] :=
  (by decide +kernel : ∀ t : Fin grid0.N, _)

/-- The accumulator after a flushing point, at an index: the products of its run's points. -/
theorem acc_at (c : Dev nD) (t : Fin cfg0.N) (hf : t.val % 4 = 3) (j : S704x1024.Idx) :
    (outsAt0 m c t.val t.isLt).2 j = ∑ s : Fin 4, ∑ k : Fin 2048,
      (show FVec Ideal S1x2048x704 .bf16 from iblk m c 0 ⟨4 * (t.val / 4) + s.val, Pipeline.run_point_lt_of_flush t hf s⟩) (ix3 0 k (j 0))
      * (show FVec Ideal S2048x1024 .bf16 from iblk m c 1 ⟨4 * (t.val / 4) + s.val, Pipeline.run_point_lt_of_flush t hf s⟩) (ix2 k (j 1)) := by
  rw [Pipeline.eq_sum_fin_of_reset_step_apply_of_flush (fun n h => (outsAt0 m c n h).2) 4 (fun _ => 0)
    (fun P j => ∑ k : Fin 2048, (show FVec Ideal S1x2048x704 .bf16 from iblk m c 0 P) (ix3 0 k (j 0)) * (show FVec Ideal S2048x1024 .bf16 from iblk m c 1 P) (ix2 k (j 1)))
    (fun t h j => by
      rw [outsAt0_A m c t h (by omega)]; frame_out; rw [hpay, hzero])
    (fun t h j => by
      by_cases h3 : t.val % 4 = 3
      · rw [outsAt0_C m c t h h3]; frame_out; rw [hpay]; exact congrArg (· + _) (congrFun (Memref.IsWhole.read_unread (Memref.isWhole_whole cc0_scratch0) _) j)
      · rw [outsAt0_B m c t h h3]; frame_out; rw [hpay]; exact congrArg (· + _) (congrFun (Memref.IsWhole.read_unread (Memref.isWhole_whole cc0_scratch0) _) j))
    t hf j, zero_add]

/-- The array the run leaves is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have h3 : t.val % 4 = 3 := (flush0_2 t).mp hf
  have h0 : ¬ t.val % 4 = 0 := by omega
  have e := fun j => acc_at m c t h3 j
  rw [outsAt0_C m c t h0 h3] at e
  blk_simp
  rw [after0_2, outsAt0_C m c t h0 h3]
  frame_out
  frame_out at e
  obtain_idx i : S704x1024 := [(y 0 : ℕ), (y 1 : ℕ)] with hi
  refine Eq.trans (b := k0_pay2 (F := Ideal) _ _ _ i) ?_ ((e i).trans ?_)
  · pointwise [k0_pay3]
    blk_ext
  rw [href]
  refine Fin.sum_mul_add_congr fun s k hl => ?_
  blk_point [iblk, V, idx ⟨_, Pipeline.run_point_lt_of_flush t h3 s⟩, idx t]

end Cert.KernelW2Ideal.Proof

end
-- ==== Proof.Silu.lean ====
module

public import Idealize.ShloMosaic.Lib.Pointwise
public import Idealize.ShloMosaic.Lib.IdealHost

@[expose] public section

namespace Cert.Silu

open Idealize.ShloMosaic

/-- The constant one half, as printed in bfloat16. -/
theorem half : Ideal.ofBits .bf16 0x3F00#16 = ((1 / 2 : ℝ) : EReal) := by
  simp [Ideal.ofBits, Ideal.ieee, -EReal.coe_mul]; norm_num

/-- The logistic function through the hyperbolic tangent of half the argument, on the extended reals. -/
theorem logistic (a : EReal) : ((1 / 2 : ℝ) : EReal) * Ideal.tanh (((1 / 2 : ℝ) : EReal) * a) + ((1 / 2 : ℝ) : EReal) = Ideal.div 1 (1 + Ideal.exp (-a)) := by
  induction a using EReal.rec with
  | bot =>
    rw [EReal.coe_mul_bot_of_pos (by norm_num), Ideal.tanh_bot, EReal.neg_bot]
    show _ = Ideal.div 1 (1 + ⊤)
    have h : Ideal.div 1 (1 + (⊤ : EReal)) = 0 := by
      rw [EReal.add_top_of_ne_bot (by decide), Ideal.div, if_neg (by decide), EReal.inv_top, mul_zero]
    rw [h, show (-1 : EReal) = ((-1 : ℝ) : EReal) from rfl, ← EReal.coe_mul, ← EReal.coe_add]
    norm_num
  | top =>
    rw [EReal.coe_mul_top_of_pos (by norm_num), Ideal.tanh_top, EReal.neg_top]
    show _ = Ideal.div 1 (1 + 0)
    rw [add_zero, Ideal.div, if_neg one_ne_zero, mul_one, one_mul, show (1 : EReal) = ((1 : ℝ) : EReal) from rfl, ← EReal.coe_inv, ← EReal.coe_add]
    norm_num
  | coe r =>
    have he : 0 < Real.exp (-r) := Real.exp_pos _
    have hd : (1 : EReal) + Ideal.exp (-(r : EReal)) = ((1 + Real.exp (-r) : ℝ) : EReal) := by
      rw [← EReal.coe_neg]; exact (EReal.coe_add 1 _).symm
    rw [hd, Ideal.div, if_neg (by exact_mod_cast (by positivity : (1 + Real.exp (-r) : ℝ) ≠ 0)), ← EReal.coe_mul, Ideal.tanh_coe, ← EReal.coe_mul,
      ← EReal.coe_add, one_mul, ← EReal.coe_inv]
    congr 1
    rw [Real.tanh_eq]
    have e1 : Real.exp (-r) = Real.exp (-(1 / 2 * r)) * Real.exp (-(1 / 2 * r)) := by rw [← Real.exp_add]; congr 1; ring
    have e2 : Real.exp (1 / 2 * r) * Real.exp (-(1 / 2 * r)) = 1 := by rw [← Real.exp_add]; simp
    have p1 := Real.exp_pos (1 / 2 * r)
    have p2 := Real.exp_pos (-(1 / 2 * r))
    rw [e1]
    generalize Real.exp (1 / 2 * r) = u at *
    generalize Real.exp (-(1 / 2 * r)) = v at *
    field_simp
    nlinarith

end Cert.Silu
end
-- ==== Proof.Ffn.lean ====
module

public import proofs.«01_k».proof.Proof.Gen.KernelFfnIdeal.Frame
public import proofs.«01_k».proof.Proof.Gen.ReferenceFfnIdeal.Run
public import proofs.«01_k».proof.Proof.Silu
public import Idealize.ShloMosaic.Lib.Pipeline.ValueKit
public import Idealize.ShloMosaic.Lib.Pipeline.ReadBack

@[expose] public section

set_option maxRecDepth 16384

noncomputable section

namespace Cert.KernelFfnIdeal.Proof

open Cert.KernelFfnIdeal Cert.KernelFfnIdeal.Gen Idealize.ShloMosaic Idealize.ShloMosaic.TcCoe Idealize.SL.Sem
open Idealize.ShloMosaic.Pipeline (Dat)

section Reference

open Cert.ReferenceFfnIdeal Cert.ReferenceFfnIdeal.Gen

variable (X : FVec Ideal Cert.ReferenceFfnIdeal.S8192x1024 .f32) (M : FVec Ideal Cert.ReferenceFfnIdeal.S4x2x8x1024 .f32) (G : FVec Ideal Cert.ReferenceFfnIdeal.S4x1024 .f32) (U : FVec Ideal Cert.ReferenceFfnIdeal.S1024x5632 .f32) (W : FVec Ideal Cert.ReferenceFfnIdeal.S2816x1024 .f32)

/-- The reference's normed and modulated activations. -/
def NX : FVec Ideal Cert.ReferenceFfnIdeal.S2x4096x1024 .f32 :=
  addf (mulf (mulf (mulf (shapeCast _ X Cert.ReferenceFfnIdeal.Gen.shapeCasts_S8192x1024_S2x4096x1024) (broadcastInDim Cert.ReferenceFfnIdeal.S2x4096x1024 ![0, 1, 2] Cert.ReferenceFfnIdeal.Gen.bcast_S2x4096x1_S2x4096x1024_0_1_2 (Host.rsqrt (addf (Host.divf (broadcastInDim Cert.ReferenceFfnIdeal.S2x4096x1 ![0, 1] Cert.ReferenceFfnIdeal.Gen.bcast_S2x4096_S2x4096x1_0_1 (Host.reduceAdd (mulf (shapeCast _ X Cert.ReferenceFfnIdeal.Gen.shapeCasts_S8192x1024_S2x4096x1024) (shapeCast _ X Cert.ReferenceFfnIdeal.Gen.shapeCasts_S8192x1024_S2x4096x1024)) (constant Cert.ReferenceFfnIdeal.S_ .f32 0x00000000#32) Cert.ReferenceFfnIdeal.Gen.reducesTo_S2x4096x1024_S2x4096_d2 Cert.ReferenceFfnIdeal.Gen.h_S_)) (broadcastInDim Cert.ReferenceFfnIdeal.S2x4096x1 ![] Cert.ReferenceFfnIdeal.Gen.bcast_S_S2x4096x1 (constant Cert.ReferenceFfnIdeal.S_ .f32 0x44800000#32))) (broadcastInDim Cert.ReferenceFfnIdeal.S2x4096x1 ![] Cert.ReferenceFfnIdeal.Gen.bcast_S_S2x4096x1 (constant Cert.ReferenceFfnIdeal.S_ .f32 0x358637BD#32)))))) (broadcastInDim Cert.ReferenceFfnIdeal.S2x4096x1024 ![0, 1, 2] Cert.ReferenceFfnIdeal.Gen.bcast_S1x1x1024_S2x4096x1024_0_1_2 (broadcastInDim Cert.ReferenceFfnIdeal.S1x1x1024 ![2] Cert.ReferenceFfnIdeal.Gen.bcast_S1024_S1x1x1024_2 (shapeCast _ (extractStridedSlice Cert.ReferenceFfnIdeal.S1x1024 ![0, 0] G Cert.ReferenceFfnIdeal.Gen.slices_S4x1024_S1x1024_0_0) Cert.ReferenceFfnIdeal.Gen.shapeCasts_S1x1024_S1024)))) (broadcastInDim Cert.ReferenceFfnIdeal.S2x4096x1024 ![0, 1, 2] Cert.ReferenceFfnIdeal.Gen.bcast_S2x1x1024_S2x4096x1024_0_1_2 (addf (broadcastInDim Cert.ReferenceFfnIdeal.S2x1x1024 ![] Cert.ReferenceFfnIdeal.Gen.bcast_S_S2x1x1024 (constant Cert.ReferenceFfnIdeal.S_ .f32 0x3F800000#32)) (broadcastInDim Cert.ReferenceFfnIdeal.S2x1x1024 ![0, 2] Cert.ReferenceFfnIdeal.Gen.bcast_S2x1024_S2x1x1024_0_2 (shapeCast _ (extractStridedSlice Cert.ReferenceFfnIdeal.S1x2x1x1024 ![0, 0, 4, 0] M Cert.ReferenceFfnIdeal.Gen.slices_S4x2x8x1024_S1x2x1x1024_0_0_4_0) Cert.ReferenceFfnIdeal.Gen.shapeCasts_S1x2x1x1024_S2x1024))))) (broadcastInDim Cert.ReferenceFfnIdeal.S2x4096x1024 ![0, 1, 2] Cert.ReferenceFfnIdeal.Gen.bcast_S2x1x1024_S2x4096x1024_0_1_2 (broadcastInDim Cert.ReferenceFfnIdeal.S2x1x1024 ![0, 2] Cert.ReferenceFfnIdeal.Gen.bcast_S2x1024_S2x1x1024_0_2 (shapeCast _ (extractStridedSlice Cert.ReferenceFfnIdeal.S1x2x1x1024 ![0, 0, 3, 0] M Cert.ReferenceFfnIdeal.Gen.slices_S4x2x8x1024_S1x2x1x1024_0_0_3_0) Cert.ReferenceFfnIdeal.Gen.shapeCasts_S1x2x1x1024_S2x1024)))

/-- The reference's product with the first weight. -/
def AB : FVec Ideal Cert.ReferenceFfnIdeal.S2x4096x5632 .f32 :=
  Host.dotGeneral Cert.ReferenceFfnIdeal.dot_S2x4096x1024_S1024x5632_S2x4096x5632_2_0_01_1_n_n none (NX X M G) U

/-- The reference's gated unit. -/
def HI : FVec Ideal Cert.ReferenceFfnIdeal.S2x4096x2816 .f32 :=
  mulf (mulf (extractStridedSlice Cert.ReferenceFfnIdeal.S2x4096x2816 ![0, 0, 0] (AB X M G U) Cert.ReferenceFfnIdeal.Gen.slices_S2x4096x5632_S2x4096x2816_0_0_0) (Host.divf (broadcastInDim Cert.ReferenceFfnIdeal.S2x4096x2816 ![] Cert.ReferenceFfnIdeal.Gen.bcast_S_S2x4096x2816 (constant Cert.ReferenceFfnIdeal.S_ .f32 0x3F800000#32)) (addf (broadcastInDim Cert.ReferenceFfnIdeal.S2x4096x2816 ![] Cert.ReferenceFfnIdeal.Gen.bcast_S_S2x4096x2816 (constant Cert.ReferenceFfnIdeal.S_ .f32 0x3F800000#32)) (Host.exp (Host.negf (extractStridedSlice Cert.ReferenceFfnIdeal.S2x4096x2816 ![0, 0, 0] (AB X M G U) Cert.ReferenceFfnIdeal.Gen.slices_S2x4096x5632_S2x4096x2816_0_0_0)))))) (extractStridedSlice Cert.ReferenceFfnIdeal.S2x4096x2816 ![0, 0, 2816] (AB X M G U) Cert.ReferenceFfnIdeal.Gen.slices_S2x4096x5632_S2x4096x2816_0_0_2816)

/-- The reference's product with the second weight. -/
def FF : FVec Ideal Cert.ReferenceFfnIdeal.S2x4096x1024 .f32 :=
  Host.dotGeneral Cert.ReferenceFfnIdeal.dot_S2x4096x2816_S2816x1024_S2x4096x1024_2_0_01_1_n_n none (HI X M G U) W

def REFh : FVec Ideal S8192x1024 .bf16 := truncf .bf16 (shapeCast _ (NX X M G) Cert.ReferenceFfnIdeal.Gen.shapeCasts_S2x4096x1024_S8192x1024) Cert.ReferenceFfnIdeal.Gen.bitsLt_bf16_f32

def REFab : FVec Ideal S8x8192x704 .bf16 := truncf .bf16 (transpose Cert.ReferenceFfnIdeal.S8x8192x704 [1, 0, 2] (shapeCast _ (shapeCast _ (AB X M G U) Cert.ReferenceFfnIdeal.Gen.shapeCasts_S2x4096x5632_S8192x5632) Cert.ReferenceFfnIdeal.Gen.shapeCasts_S8192x5632_S8192x8x704) Cert.ReferenceFfnIdeal.Gen.transposes_S8192x8x704_S8x8192x704_1_0_2) Cert.ReferenceFfnIdeal.Gen.bitsLt_bf16_f32

def REFhid : FVec Ideal S4x8192x704 .bf16 := truncf .bf16 (transpose Cert.ReferenceFfnIdeal.S4x8192x704 [1, 0, 2] (shapeCast _ (shapeCast _ (HI X M G U) Cert.ReferenceFfnIdeal.Gen.shapeCasts_S2x4096x2816_S8192x2816) Cert.ReferenceFfnIdeal.Gen.shapeCasts_S8192x2816_S8192x4x704) Cert.ReferenceFfnIdeal.Gen.transposes_S8192x4x704_S4x8192x704_1_0_2) Cert.ReferenceFfnIdeal.Gen.bitsLt_bf16_f32

def REFf : FVec Ideal S8192x1024 .bf16 := truncf .bf16 (shapeCast _ (FF X M G U W) Cert.ReferenceFfnIdeal.Gen.shapeCasts_S2x4096x1024_S8192x1024) Cert.ReferenceFfnIdeal.Gen.bitsLt_bf16_f32

def REFxo : FVec Ideal S8192x1024 .f32 := shapeCast _ (addf (shapeCast _ X Cert.ReferenceFfnIdeal.Gen.shapeCasts_S8192x1024_S2x4096x1024) (mulf (broadcastInDim Cert.ReferenceFfnIdeal.S2x4096x1024 ![0, 1, 2] Cert.ReferenceFfnIdeal.Gen.bcast_S2x1x1024_S2x4096x1024_0_1_2 (broadcastInDim Cert.ReferenceFfnIdeal.S2x1x1024 ![0, 2] Cert.ReferenceFfnIdeal.Gen.bcast_S2x1024_S2x1x1024_0_2 (shapeCast _ (extractStridedSlice Cert.ReferenceFfnIdeal.S1x2x1x1024 ![0, 0, 5, 0] M Cert.ReferenceFfnIdeal.Gen.slices_S4x2x8x1024_S1x2x1x1024_0_0_5_0) Cert.ReferenceFfnIdeal.Gen.shapeCasts_S1x2x1x1024_S2x1024))) (FF X M G U W))) Cert.ReferenceFfnIdeal.Gen.shapeCasts_S2x4096x1024_S8192x1024

end Reference

variable (m : (ℓ : Loc nD τ sig) → Buf (Elt Ideal) ℓ)

theorem idx : ∀ t : Fin cfg0.N, win0_0.index t = ![t.val, 0] ∧ win0_1.index t = ![0, t.val / 16, 0, 0] ∧ win0_2.index t = ![0, 0, 0]
    ∧ win0_3.index t = ![t.val, 0] ∧ win0_4.index t = ![0, t.val, 0] ∧ win0_5.index t = ![0, t.val, 0] ∧ win0_6.index t = ![t.val, 0] ∧ win0_7.index t = ![t.val, 0] :=
  (by decide +kernel : ∀ t : Fin grid0.N, _)

/-- The first weight as the kernel takes it: eight slabs of columns. -/
theorem w13_at (c : Dev nD) (j : Fin 8) (k : Fin 1024) (q : Fin 704) : (show FVec Ideal S8x1024x704 .bf16 from V m c main_v3) (ix3 j k q)
    = (show FVec Ideal S1024x5632 .f32 from m ((c : Thread nD τ).loc main_arg3)) (ix2 k ⟨j.val * 704 + q.val, by omega⟩) := by
  entry_read; pointwise

theorem w2_at (c : Dev nD) (j) : (show FVec Ideal S2816x1024 .bf16 from V m c main_v4) j
    = (show FVec Ideal S2816x1024 .f32 from m ((c : Thread nD τ).loc main_arg4)) j := by
  entry_read; pointwise

theorem ld3 (x : FVec Ideal S1x1x8x1024 .f32) : View.ld (Val := Elt Ideal) (S := S1x1x8x1024) (e' := .f32) x (Rect.unit (s := S1x1x8x1024) ![0, 0, 3, 0] ![1, 1, 1, 1024] inb_S1x1x8x1024_S1x1x1x1024_0_0_3_0) = fun j => x (ix4 0 0 3 (j 3)) := by
  funext j; pointwise; blk_ext

theorem ld4 (x : FVec Ideal S1x1x8x1024 .f32) : View.ld (Val := Elt Ideal) (S := S1x1x8x1024) (e' := .f32) x (Rect.unit (s := S1x1x8x1024) ![0, 0, 4, 0] ![1, 1, 1, 1024] inb_S1x1x8x1024_S1x1x1x1024_0_0_4_0) = fun j => x (ix4 0 0 4 (j 3)) := by
  funext j; pointwise; blk_ext

theorem ld5 (x : FVec Ideal S1x1x8x1024 .f32) : View.ld (Val := Elt Ideal) (S := S1x1x8x1024) (e' := .f32) x (Rect.unit (s := S1x1x8x1024) ![0, 0, 5, 0] ![1, 1, 1, 1024] inb_S1x1x8x1024_S1x1x1x1024_0_0_5_0) = fun j => x (ix4 0 0 5 (j 3)) := by
  funext j; pointwise; blk_ext

/-- The products of a block of normed activations with the slabs of the first weight. -/
def ABk (H : FVec Ideal S256x1024 .bf16) (U : FVec Ideal S8x1024x704 .bf16) : FVec Ideal S8x256x704 .bf16 := fun y => ∑ k : Fin 1024, H (ix2 (y 1) k) * U (ix3 (y 0) k (y 2))

/-- The gated unit of two of them. -/
def gate (a b : EReal) : EReal := a * (Ideal.ofBits .bf16 0x3F00#16 * Ideal.tanh (Ideal.ofBits .bf16 0x3F00#16 * a) + Ideal.ofBits .bf16 0x3F00#16) * b

theorem gate_eq (a b : EReal) : gate a b = a * Ideal.div 1 (1 + Ideal.exp (-a)) * b := by
  rw [gate, Cert.Silu.half, Cert.Silu.logistic]

/-- The gated unit of a block. -/
def HIk (H : FVec Ideal S256x1024 .bf16) (U : FVec Ideal S8x1024x704 .bf16) : FVec Ideal S4x256x704 .bf16 := fun y =>
  gate (∑ k : Fin 1024, H (ix2 (y 1) k) * U (ix3 ⟨(y 0).val, by idx_bounds; omega⟩ k (y 2))) (∑ k : Fin 1024, H (ix2 (y 1) k) * U (ix3 ⟨(y 0).val + 4, by idx_bounds; omega⟩ k (y 2)))

/-- Its product with the second weight, slab by slab. -/
def FFk (H : FVec Ideal S256x1024 .bf16) (U : FVec Ideal S8x1024x704 .bf16) (W : FVec Ideal S2816x1024 .bf16) : FVec Ideal S256x1024 .bf16 := fun y =>
  ∑ i : Fin 4, ∑ k : Fin 704, HIk H U (ix3 i (y 0) k) * W (ix2 ⟨i.val * 704 + k.val, by omega⟩ (y 1))

/-- The normed block of a point. -/
def HB (c : Dev nD) (t : Fin cfg0.N) : FVec Ideal S256x1024 .bf16 :=
  k0_pay11 (F := Ideal) (iblk m c 0 t) (fun j => (show FVec Ideal S1x1x8x1024 .f32 from iblk m c 1 t) (ix4 0 0 3 (j 3))) (fun j => (show FVec Ideal S1x1x8x1024 .f32 from iblk m c 1 t) (ix4 0 0 4 (j 3))) (iblk m c 2 t)

/-- The residual block of a point. -/
def XB (c : Dev nD) (t : Fin cfg0.N) : FVec Ideal S256x1024 .f32 := fun j =>
  (show FVec Ideal S256x1024 .f32 from iblk m c 0 t) j + (show FVec Ideal S1x1x8x1024 .f32 from iblk m c 1 t) (ix4 0 0 5 (j 1)) * FFk (HB m c t) (V m c main_v3) (V m c main_v4) j

theorem HB_eq (c : Dev nD) (t : Fin cfg0.N) : k0_pay11 (F := Ideal) (iblk m c 0 t) (View.ld (Val := Elt Ideal) (S := S1x1x8x1024) (e' := .f32) (iblk m c 1 t) (Rect.unit (s := S1x1x8x1024) ![0, 0, 3, 0] ![1, 1, 1, 1024] inb_S1x1x8x1024_S1x1x1x1024_0_0_3_0)) (View.ld (Val := Elt Ideal) (S := S1x1x8x1024) (e' := .f32) (iblk m c 1 t) (Rect.unit (s := S1x1x8x1024) ![0, 0, 4, 0] ![1, 1, 1, 1024] inb_S1x1x8x1024_S1x1x1x1024_0_0_4_0)) (iblk m c 2 t) = HB m c t := by
  rw [ld3, ld4]; rfl

/-- A load from a buffer that one copy filled. -/
theorem read_copy {s : Shape} {e : EltTy} (v : View sig .tc .vmem s e) (Z : s.Idx → Elt Ideal e) (r : Rect s) : v.readCov [⟨Rect.whole s, Z⟩] r.toLoadRect = View.ld Z r :=
  View.readCov_fill v _ Z [] r fun _ => rfl

/-- The whole of a buffer that one copy filled. -/
theorem canon_copy {s : Shape} {e : EltTy} (Z : s.Idx → Elt Ideal e) : View.canon [⟨Rect.whole s, Z⟩] = Z :=
  View.canon_cons_unit_lit _ Z [] fun _ => rfl

/-- What every point leaves. -/
theorem outs (c : Dev nD) : ∀ (n : ℕ) (h : n < cfg0.N), outsAt0 m c n h = (HB m c ⟨n, h⟩, ABk (HB m c ⟨n, h⟩) (V m c main_v3), HIk (HB m c ⟨n, h⟩) (V m c main_v3),
    FFk (HB m c ⟨n, h⟩) (V m c main_v3) (V m c main_v4), XB m c ⟨n, h⟩, V m c main_v3, V m c main_v4) := by
  intro n h
  induction n
  case' zero =>
    rw [outsAt0_A m c ⟨0, h⟩ rfl]
    frame_out
    simp only [HB_eq, ld5, read_copy, canon_copy]
    unfold XB
    generalize HB m c ⟨0, h⟩ = H
  case' succ n ih =>
    rw [outsAt0_B m c ⟨n + 1, h⟩ (by have : n + 1 < 32 := h; show ¬ (n + 1) % 32 = 0; omega)]
    frame_out
    simp only [HB_eq, ld5, Nat.add_sub_cancel, ih (by omega), Memref.IsWhole.read_unread (Memref.isWhole_whole cc0_scratch0), Memref.IsWhole.read_unread (Memref.isWhole_whole cc0_scratch1)]
    unfold XB
    clear ih
    generalize HB m c ⟨n + 1, h⟩ = H
  all_goals
    generalize V m c main_v3 = U
    generalize V m c main_v4 = W
    refine Prod.ext rfl (Prod.ext ?_ (Prod.ext ?_ (Prod.ext ?_ (Prod.ext ?_ (Prod.ext ?_ ?_))))) <;> dsimp only
    · funext y
      canon_tiles x q
      all_goals
        pointwise [ABk, k0_pay1, k0_pay2, k0_pay3, k0_pay4, k0_pay12, k0_pay13, k0_pay14, k0_pay15, k0_pay19, k0_pay20, k0_pay21, k0_pay22, k0_pay26, k0_pay27, k0_pay28, k0_pay29, k0_pay30, k0_pay34, k0_pay35]
        blk_point
    · funext y
      canon_tiles x q
      all_goals
        pointwise [HIk, gate, k0_pay1, k0_pay2, k0_pay5, k0_pay6, k0_pay12, k0_pay13, k0_pay16, k0_pay17, k0_pay19, k0_pay20, k0_pay23, k0_pay24, k0_pay26, k0_pay27, k0_pay28, k0_pay31, k0_pay32, k0_pay34, k0_pay35]
        blk_point
    · funext y
      pointwise [FFk, k0_pay1, k0_pay2, k0_pay5, k0_pay7, k0_pay8, k0_pay12, k0_pay13, k0_pay16, k0_pay18, k0_pay19, k0_pay20, k0_pay23, k0_pay25, k0_pay26, k0_pay27, k0_pay28, k0_pay31, k0_pay33, k0_pay34, k0_pay35]
      rw [Fin.sum_univ_four]
      pointwise [HIk, gate]
      try rfl
    · funext y
      pointwise [FFk, k0_pay1, k0_pay2, k0_pay5, k0_pay7, k0_pay9, k0_pay10, k0_pay12, k0_pay13, k0_pay16, k0_pay18, k0_pay19, k0_pay20, k0_pay23, k0_pay25, k0_pay26, k0_pay27, k0_pay28, k0_pay31, k0_pay33, k0_pay34, k0_pay35]
      rw [Fin.sum_univ_four]
      pointwise [HIk, gate]
      try rfl
    all_goals rfl

theorem NX_at (X M G) (i : Fin 8192) (q : Fin 1024) : NX X M G (ix3 ⟨i.val / 4096, by omega⟩ ⟨i.val % 4096, by omega⟩ q)
    = X (ix2 i q) * Ideal.rsqrt (Ideal.div (∑ k : Fin 1024, X (ix2 i k) * X (ix2 i k)) (Ideal.ofBits .f32 0x44800000#32) + Ideal.ofBits .f32 0x358637BD#32)
      * G (ix2 0 q) * (1 + M (ix4 0 ⟨i.val / 4096, by omega⟩ 4 q)) + M (ix4 0 ⟨i.val / 4096, by omega⟩ 3 q) := by
  pointwise [NX]

/-- A row of a point's normed block is the reference's row. -/
theorem HB_at (c : Dev nD) (t : Fin cfg0.N) (p : Fin 256) (q : Fin 1024) (i : Fin 8192) (hi : i.val = 256 * t.val + p.val) : HB m c t (ix2 p q)
    = NX (m ((c : Thread nD τ).loc main_arg0)) (m ((c : Thread nD τ).loc main_arg1)) (m ((c : Thread nD τ).loc main_arg2)) (ix3 ⟨i.val / 4096, by omega⟩ ⟨i.val % 4096, by omega⟩ q) := by
  rw [NX_at]
  pointwise [HB, k0_pay11]
  blk_point [iblk, V, idx t]

theorem AB_at (c : Dev nD) (t : Fin cfg0.N) (j : Fin 8) (p : Fin 256) (q : Fin 704) (i : Fin 8192) (hi : i.val = 256 * t.val + p.val) : ABk (HB m c t) (V m c main_v3) (ix3 j p q)
    = AB (m ((c : Thread nD τ).loc main_arg0)) (m ((c : Thread nD τ).loc main_arg1)) (m ((c : Thread nD τ).loc main_arg2)) (m ((c : Thread nD τ).loc main_arg3)) (ix3 ⟨i.val / 4096, by omega⟩ ⟨i.val % 4096, by omega⟩ ⟨j.val * 704 + q.val, by omega⟩) := by
  pointwise [ABk, AB]
  exact Finset.sum_congr rfl fun k _ => Ideal.mul_congr (HB_at m c t p k i hi) (w13_at m c j k q)

theorem HIk_eq (H U) (j : Fin 4) (p : Fin 256) (q : Fin 704) : HIk H U (ix3 j p q) = gate (ABk H U (ix3 ⟨j.val, by omega⟩ p q)) (ABk H U (ix3 ⟨j.val + 4, by omega⟩ p q)) := by
  pointwise [HIk, ABk]

theorem HI_eq (X M G U) (b : Fin 2) (s : Fin 4096) (q : Fin 2816) : HI X M G U (ix3 b s q) = gate (AB X M G U (ix3 b s ⟨q.val, by omega⟩)) (AB X M G U (ix3 b s ⟨2816 + q.val, by omega⟩)) := by
  rw [gate_eq]
  pointwise [HI]

theorem HI_at (c : Dev nD) (t : Fin cfg0.N) (j : Fin 4) (p : Fin 256) (q : Fin 704) (i : Fin 8192) (hi : i.val = 256 * t.val + p.val) : HIk (HB m c t) (V m c main_v3) (ix3 j p q)
    = HI (m ((c : Thread nD τ).loc main_arg0)) (m ((c : Thread nD τ).loc main_arg1)) (m ((c : Thread nD τ).loc main_arg2)) (m ((c : Thread nD τ).loc main_arg3)) (ix3 ⟨i.val / 4096, by omega⟩ ⟨i.val % 4096, by omega⟩ ⟨j.val * 704 + q.val, by omega⟩) := by
  rw [HIk_eq, HI_eq, AB_at m c t _ p q i hi, AB_at m c t _ p q i hi]
  exact congrArg (gate _) (congrArg _ (congrArg (ix3 _ _) (Fin.ext (by show (j.val + 4) * 704 + q.val = 2816 + (j.val * 704 + q.val); omega))))

theorem FF_at (c : Dev nD) (t : Fin cfg0.N) (p : Fin 256) (q : Fin 1024) (i : Fin 8192) (hi : i.val = 256 * t.val + p.val) : FFk (HB m c t) (V m c main_v3) (V m c main_v4) (ix2 p q)
    = FF (m ((c : Thread nD τ).loc main_arg0)) (m ((c : Thread nD τ).loc main_arg1)) (m ((c : Thread nD τ).loc main_arg2)) (m ((c : Thread nD τ).loc main_arg3)) (m ((c : Thread nD τ).loc main_arg4)) (ix3 ⟨i.val / 4096, by omega⟩ ⟨i.val % 4096, by omega⟩ q) := by
  pointwise [FF]
  refine Eq.trans ?_ (Fin.sum_mul_add_fin 4 704 fun l : Fin 2816 => _)
  pointwise [FFk]
  exact Fin.sum_fin_congr fun j => Fin.sum_fin_congr fun k => Ideal.mul_congr (HI_at m c t j p k i hi) (w2_at m c (ix2 ⟨j.val * 704 + k.val, by omega⟩ q))

theorem final3 (c : Dev nD) : (dats m 0 c).arrAt 3 (cfgs 0).N = REFh (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, outs m c t.val t.isLt]
  pointwise [REFh]
  refine Eq.trans ((congrArg (HB m c t) (eq_ix2 y)).trans (HB_at m c t (y 0) (y 1) ⟨256 * t.val + (y 0 : ℕ), by idx_bounds; omega⟩ rfl)) (congrArg _ ?_)
  blk_ext [idx t]

theorem final4 (c : Dev nD) : (dats m 0 c).arrAt 4 (cfgs 0).N = REFab (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outs m c t.val t.isLt]
  pointwise [REFab]
  refine Eq.trans (AB_at m c t (y 0) (y 1) (y 2) ⟨256 * t.val + (y 1 : ℕ), by idx_bounds; omega⟩ rfl) (congrArg _ ?_)
  blk_ext [idx t]

theorem final5 (c : Dev nD) : (dats m 0 c).arrAt 5 (cfgs 0).N = REFhid (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outs m c t.val t.isLt]
  pointwise [REFhid]
  refine Eq.trans (HI_at m c t (y 0) (y 1) (y 2) ⟨256 * t.val + (y 1 : ℕ), by idx_bounds; omega⟩ rfl) (congrArg _ ?_)
  blk_ext [idx t]

theorem final6 (c : Dev nD) : (dats m 0 c).arrAt 6 (cfgs 0).N = REFf (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, outs m c t.val t.isLt]
  pointwise [REFf]
  refine Eq.trans (FF_at m c t (y 0) (y 1) ⟨256 * t.val + (y 0 : ℕ), by idx_bounds; omega⟩ rfl) (congrArg _ ?_)
  blk_ext [idx t]

theorem mod_at (c : Dev nD) (t : Fin cfg0.N) (r : Fin 8) (q : Fin 1024) (i : Fin 8192) (hi : i.val / 256 = t.val) : (show FVec Ideal S1x1x8x1024 .f32 from iblk m c 1 t) (ix4 0 0 r q)
    = (show FVec Ideal S4x2x8x1024 .f32 from m ((c : Thread nD τ).loc main_arg1)) (ix4 0 ⟨i.val / 4096, by omega⟩ r q) := by
  blk_ext [iblk, V, idx t]

theorem final7 (c : Dev nD) : (dats m 0 c).arrAt 7 (cfgs 0).N = REFxo (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, outs m c t.val t.isLt]
  pointwise [REFxo]
  simp only [XB]
  refine Ideal.add_congr ?_ (Ideal.mul_congr ?_ ((FF_at m c t (y 0) (y 1) ⟨256 * t.val + (y 0 : ℕ), by idx_bounds; omega⟩ rfl).trans (congrArg _ ?_)))
  · blk_ext [iblk, V, idx t]
  · refine Eq.trans (mod_at m c t 5 (y 1) ⟨256 * t.val + (y 0 : ℕ), by idx_bounds; omega⟩ (by show (256 * t.val + (y 0 : ℕ)) / 256 = t.val; idx_bounds; omega)) (congrArg _ ?_)
    blk_ext [idx t]
  · blk_ext [idx t]

end Cert.KernelFfnIdeal.Proof

end
-- ==== Proof.RawRunA.lean ====
module

public import proofs.«01_k».proof.Proof.Gen.KernelMix.Frame.Runs

@[expose] public section

set_option maxRecDepth 16384

noncomputable section

namespace Cert.KernelMix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- The body at the first point, which fetches the weights and clears both halos: what it owns before and after, with the pieces each buffer ends with. -/
noncomputable def kernelRun0_A (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : cond0_0 i) (hc1 : cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { LS0 : List (View.Piece (Elt F) S8x1024x768 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ f, arg24.view.loc (c : Thread nD τ) ↦[arg24.view.set]{fullShare} arg24.view.writes (Elt F) f LS0) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨?_, fun W K => ?run⟩
  case run =>
    simp only [cc0_mixer_fwd_0_eq_skeleton]; unfold cc0_mixer_fwd_0_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    set_option sl_exec.dmaWindow true in set_option sl_exec.dmaWindowSet true in set_option sl_exec.rejoinHeartbeats 1000000 in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]; · iexists _; iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMix.Gen

end
-- ==== Proof.RawRunB.lean ====
module

public import proofs.«01_k».proof.Proof.RawRunA

@[expose] public section

set_option maxRecDepth 16384

noncomputable section

namespace Cert.KernelMix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at a point inside a sequence: what it owns before and after, with the pieces each buffer ends with. -/
noncomputable def kernelRun0_B (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : ¬cond0_0 i) (hc1 : ¬cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (xs0 : Vec F S8x1024x768 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { LS0 : List (View.Piece (Elt F) S8x1024x768 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨[], fun W K => ?run⟩
  case run =>
    simp only [cc0_mixer_fwd_0_eq_skeleton]; unfold cc0_mixer_fwd_0_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _; isplitr; · ipureintro; exact harg24.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMix.Gen

end
-- ==== Proof.RawRunC.lean ====
module

public import proofs.«01_k».proof.Proof.RawRunB

@[expose] public section

set_option maxRecDepth 16384

noncomputable section

namespace Cert.KernelMix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 1000000 in
/-- The body at the first point of a later sequence, which clears both halos: what it owns before and after, with the pieces each buffer ends with. -/
noncomputable def kernelRun0_C (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : ¬cond0_0 i) (hc1 : cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (xs0 : Vec F S8x1024x768 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    { LS0 : List (View.Piece (Elt F) S8x1024x768 .bf16) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨[], fun W K => ?run⟩
  case run =>
    simp only [cc0_mixer_fwd_0_eq_skeleton]; unfold cc0_mixer_fwd_0_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg24.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [HS0]
    · iexists _; isplitr; · ipureintro; exact harg24.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMix.Gen

end
-- ==== Proof.RawFrame.lean ====
module

public import proofs.«01_k».proof.Proof.RawRunC
public import Idealize.ShloMosaic.Lib.Claim

@[expose] public section

set_option maxRecDepth 16384

noncomputable section

namespace Cert.KernelMix.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What one point leaves: its output blocks, then the scratch that later points read. -/
abbrev St (F : FTy → Type) : Type := Vec F S8x1024x768 .bf16

/-- The body's run at the first point, which fetches the weights, over that point's blocks. -/
def runA (c : Dev nD) (t : Fin cfg0.N) (h0 : t.val % 32 = 0) (h1 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (V m c main_v10) (V m c main_v13) (V m c main_v16) (V m c main_v19) (V m c main_v20) (V m c main_v21)

theorem scover0_A_0 (c : Dev nD) (t : Fin cfg0.N) (h0 : t.val % 32 = 0) (h1 : t.val % 16 = 0) (y : S8x1024x768.Idx) :
    ∃ pc ∈ (runA m c t h0 h1).1, y ∈ pc.1.set :=
  View.cover_of_tiledL (runA m c t h0 h1).1 S8x1024x768.size (by sl_kernel_rfl) y

/-- What that run leaves. -/
def stA (c : Dev nD) (t : Fin cfg0.N) (h0 : t.val % 32 = 0) (h1 : t.val % 16 = 0) : St F :=
  (VS0_0.read (Elt F) (VS0_0.writes (Elt F) VS0_0.junk (runA m c t h0 h1).1))

/-- The body's run at a point inside a sequence, over that point's blocks. -/
def runB (c : Dev nD) (t : Fin cfg0.N) (h0 : ¬t.val % 32 = 0) (h1 : ¬t.val % 16 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) p (V m c main_v10) (V m c main_v13) (V m c main_v16) (V m c main_v19) (V m c main_v20) (V m c main_v21)

/-- What that run leaves. -/
def stB (c : Dev nD) (t : Fin cfg0.N) (h0 : ¬t.val % 32 = 0) (h1 : ¬t.val % 16 = 0) (p : St F) : St F :=
  (p)

/-- The body's run at the first point of a later sequence, over that point's blocks. -/
def runC (c : Dev nD) (t : Fin cfg0.N) (h0 : ¬t.val % 32 = 0) (h1 : t.val % 16 = 0) (p : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) p (V m c main_v10) (V m c main_v13) (V m c main_v16) (V m c main_v19) (V m c main_v20) (V m c main_v21)

/-- What that run leaves. -/
def stC (c : Dev nD) (t : Fin cfg0.N) (h0 : ¬t.val % 32 = 0) (h1 : t.val % 16 = 0) (p : St F) : St F :=
  (p)

/-- What the output blocks and the scratch hold after point `n`. -/
def outsAt0 (c : Dev nD) : (n : ℕ) → n < cfg0.N → St F
  | 0, hn => stA m c ⟨0, hn⟩ (Nat.zero_mod _) (Nat.zero_mod _)
  | n + 1, hn =>
    if h0 : (n + 1) % 32 = 0 then
      False.elim (by have hN : n + 1 < 32 := lt_of_lt_of_eq hn (show cfg0.N = 32 from N_0); omega)
    else
      if h1 : (n + 1) % 16 = 0 then
        stC c ⟨n + 1, hn⟩ h0 h1 (outsAt0 c n (Nat.lt_of_succ_lt hn))
      else
        stB c ⟨n + 1, hn⟩ h0 h1 (outsAt0 c n (Nat.lt_of_succ_lt hn))

theorem outsAt0_A (c : Dev nD) (t : Fin cfg0.N) (h0 : t.val % 32 = 0) (h1 : t.val % 16 = 0) :
    outsAt0 m c t.val t.isLt = stA m c t h0 h1 := by
  obtain ⟨n, hn⟩ := t
  have hN : n < 32 := lt_of_lt_of_eq hn (show cfg0.N = 32 from N_0)
  obtain rfl : n = 0 := by dsimp only at h0; omega
  exact rfl

theorem outsAt0_B (c : Dev nD) (t : Fin cfg0.N) (h0 : ¬t.val % 32 = 0) (h1 : ¬t.val % 16 = 0) :
    outsAt0 m c t.val t.isLt = stB c t h0 h1 (outsAt0 m c (t.val - 1) (lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 16 = 0) :
    outsAt0 m c t.val t.isLt = stC c t h0 h1 (outsAt0 m c (t.val - 1) (lt_of_le_of_lt (Nat.sub_le _ _) t.isLt)) := by
  obtain ⟨n, hn⟩ := t
  cases n with
  | zero => exact absurd (Nat.zero_mod _) h0
  | succ n => exact (dif_neg h0).trans (dif_pos h1)

/-- What the region owns before point `n`: after the first point the carried scratch is named. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21))) := rfl

theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21))) := by
  cases n with
  | zero => exact absurd rfl hz
  | succ n => rfl

def forgets0 : Fin 17 → Bool := fun w => w.val == 10 || w.val == 11 || w.val == 12 || w.val == 13 || w.val == 14 || w.val == 15 || w.val == 16

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d))

set_option maxHeartbeats 28800000 in
/-- The body at any point, from the invariant and the blocks to the invariant and the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ,
    after0_0, after0_1, after0_2, after0_3, after0_4, after0_5, after0_6, after0_7, after0_8, after0_9]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 16 = 0
    · by_cases hz : t.val = 0
      · rw [PhiS_castSucc m c t, PhiS_zero m c _ _ hz, PhiD0_eq]
        rw [outsAt0_A m c t h0 h1]
        unfold stA
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runA m c t h0 h1).2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, H14, H15, H16, ⟨%es0, HS0⟩, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]
            · unfold owns; iexists _; isplitr
              swap; · iexact HS0
              ipureintro; exact View.read_writes_of_cover _ _ _ _ _ (scover0_A_0 m c t h0 h1)
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
      · exfalso; have hN : t.val < 32 := lt_of_lt_of_eq t.isLt (show cfg0.N = 32 from N_0); omega
    · exfalso; omega
  · by_cases h1 : t.val % 16 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold stC
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runC m c t h0 h1 (outsAt0 m c (t.val - 1) (lt_of_le_of_lt (Nat.sub_le _ _) t.isLt))).2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, H14, H15, H16, HS0, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold stB
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB m c t h0 h1 (outsAt0 m c (t.val - 1) (lt_of_le_of_lt (Nat.sub_le _ _) t.isLt))).2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, H10, H11, H12, H13, H14, H15, H16, HS0, HS1, HS2, HS3, HS4, HS5, HS6, HS7, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]; · iexact HS5
            isplitl [HS6]; · iexact HS6
            iexact HS7
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩
  isplitl [HS0 HS1 HS2 HS3 HS4 HS5 HS6 HS7]
  · isplitl [HS0]
    · iexists _; iexact HS0
    isplitl [HS1]
    · iexact HS1
    isplitl [HS2]
    · iexact HS2
    isplitl [HS3]
    · iexact HS3
    isplitl [HS4]
    · iexact HS4
    isplitl [HS5]
    · iexact HS5
    isplitl [HS6]
    · iexact HS6
    iexact HS7
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  isplitl [Hh0]; · iexact Hh0
  isplitl [Hh1]; · iexact Hh1
  isplitl [Hh2]; · iexact Hh2
  isplitl [Hh3]; · iexact Hh3
  isplitl [Hh4]; · iexact Hh4
  iexact Hh5

theorem hout (c : Dev nD) : (dats m 0 c).Φ (Fin.last cfg0.N) ⊢ Pipeline.ΦD osem0 spec0 H0 (V m) c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every run ends with each array at what the proof data say. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- Any run whose arrays end at what the proof data say, over the contents at the start, leaves the arguments as they
were. -/
theorem args_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 5 rfl).trans ((hA c 5).trans (V_main_arg5 m c)),
      ((h c).2 main_arg6 (Pipeline.mem_restRefs_of main_arg6 (by decide) (by decide))).trans (V_main_arg6 m c),
      (Pipeline.RDat.FramePost.arr_in h c 7 rfl).trans ((hA c 7).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c)⟩) h

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  args_of m ρ (fun c => (dats m 0 c).toRForget forgets0) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelMix.Gen

end
-- ==== Proof.MixRunA.lean ====
module

public import proofs.«01_k».proof.Proof.Gen.KernelMixIdeal.Frame.Runs

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 8000000 in
/-- The body at the first point, which fetches the weights and clears both halos: what it owns before and after, with the pieces each buffer ends with. -/
noncomputable def kernelRun0_A (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : cond0_0 i) (hc1 : cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L10 : List (View.Piece (Elt F) S256x1024 .bf16)), Σ' (L11 : List (View.Piece (Elt F) S256x6144 .bf16)), Σ' (L12 : List (View.Piece (Elt F) S256x3072 .bf16)), Σ' (L13 : List (View.Piece (Elt F) S256x1536 .bf16)), Σ' (L14 : List (View.Piece (Elt F) S256x1024 .bf16)), Σ' (L15 : List (View.Piece (Elt F) S256x1024 .bf16)), Σ' (L16 : List (View.Piece (Elt F) S256x1024 .f32)), Σ' (LS0 : List (View.Piece (Elt F) S8x1024x768 .bf16)), Σ' (LS1 : List (View.Piece (Elt F) S512x1024 .bf16)), Σ' (LS2 : List (View.Piece (Elt F) S512x1024 .bf16)), Σ' (LS3 : List (View.Piece (Elt F) S512x1024 .bf16)), Σ' (LS4 : List (View.Piece (Elt F) S1024x1024 .bf16)), Σ' (LS5 : List (View.Piece (Elt F) S272x512 .f32)), Σ' (LS6 : List (View.Piece (Elt F) S264x512 .f32)), { LT7 : List (View.Piece (Elt F) S256x512 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ (∃ f, arg20.view.loc (c : Thread nD τ) ↦[arg20.view.set]{fullShare} arg20.view.writes (Elt F) f L13) ∗ (∃ f, arg21.view.loc (c : Thread nD τ) ↦[arg21.view.set]{fullShare} arg21.view.writes (Elt F) f L14) ∗ (∃ f, arg22.view.loc (c : Thread nD τ) ↦[arg22.view.set]{fullShare} arg22.view.writes (Elt F) f L15) ∗ (∃ f, arg23.view.loc (c : Thread nD τ) ↦[arg23.view.set]{fullShare} arg23.view.writes (Elt F) f L16) ∗ (∃ f, arg24.view.loc (c : Thread nD τ) ↦[arg24.view.set]{fullShare} arg24.view.writes (Elt F) f LS0) ∗ (∃ f, arg25.view.loc (c : Thread nD τ) ↦[arg25.view.set]{fullShare} arg25.view.writes (Elt F) f LS1) ∗ (∃ f, arg26.view.loc (c : Thread nD τ) ↦[arg26.view.set]{fullShare} arg26.view.writes (Elt F) f LS2) ∗ (∃ f, arg27.view.loc (c : Thread nD τ) ↦[arg27.view.set]{fullShare} arg27.view.writes (Elt F) f LS3) ∗ (∃ f, arg28.view.loc (c : Thread nD τ) ↦[arg28.view.set]{fullShare} arg28.view.writes (Elt F) f LS4) ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6) ∗ (∃ f, arg31.view.loc (c : Thread nD τ) ↦[arg31.view.set]{fullShare} arg31.view.writes (Elt F) f LT7) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨?_, ?_, ?_, ?_, ?_, ?_, ?_, ?_, ?_, ?_, ?_, ?_, ?_, ?_, ?_, fun W K => ?run⟩
  case run =>
    simp only [cc0_mixer_fwd_0_eq_skeleton]; unfold cc0_mixer_fwd_0_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    set_option sl_exec.dmaWindow true in set_option sl_exec.dmaWindowSet true in set_option sl_exec.rejoinHeartbeats 1000000 in
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMixIdeal.Gen

end
-- ==== Proof.MixRunB.lean ====
module

public import proofs.«01_k».proof.Proof.MixRunA

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The body at a point inside a sequence: what it owns before and after, with the pieces each buffer ends with. -/
noncomputable def kernelRun0_B (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : ¬cond0_0 i) (hc1 : ¬cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (xs0 : Vec F S8x1024x768 .bf16) (xs1 : Vec F S512x1024 .bf16) (xs2 : Vec F S512x1024 .bf16) (xs3 : Vec F S512x1024 .bf16) (xs4 : Vec F S1024x1024 .bf16) (xs5 : Vec F S272x512 .f32) (xs6 : Vec F S264x512 .f32) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L10 : List (View.Piece (Elt F) S256x1024 .bf16)), Σ' (L11 : List (View.Piece (Elt F) S256x6144 .bf16)), Σ' (L12 : List (View.Piece (Elt F) S256x3072 .bf16)), Σ' (L13 : List (View.Piece (Elt F) S256x1536 .bf16)), Σ' (L14 : List (View.Piece (Elt F) S256x1024 .bf16)), Σ' (L15 : List (View.Piece (Elt F) S256x1024 .bf16)), Σ' (L16 : List (View.Piece (Elt F) S256x1024 .f32)), Σ' (LS0 : List (View.Piece (Elt F) S8x1024x768 .bf16)), Σ' (LS1 : List (View.Piece (Elt F) S512x1024 .bf16)), Σ' (LS2 : List (View.Piece (Elt F) S512x1024 .bf16)), Σ' (LS3 : List (View.Piece (Elt F) S512x1024 .bf16)), Σ' (LS4 : List (View.Piece (Elt F) S1024x1024 .bf16)), Σ' (LS5 : List (View.Piece (Elt F) S272x512 .f32)), Σ' (LS6 : List (View.Piece (Elt F) S264x512 .f32)), { LT7 : List (View.Piece (Elt F) S256x512 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ owns (c : Thread nD τ) arg29 fullShare xs5 ∗ owns (c : Thread nD τ) arg30 fullShare xs6 ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ (∃ f, arg20.view.loc (c : Thread nD τ) ↦[arg20.view.set]{fullShare} arg20.view.writes (Elt F) f L13) ∗ (∃ f, arg21.view.loc (c : Thread nD τ) ↦[arg21.view.set]{fullShare} arg21.view.writes (Elt F) f L14) ∗ (∃ f, arg22.view.loc (c : Thread nD τ) ↦[arg22.view.set]{fullShare} arg22.view.writes (Elt F) f L15) ∗ (∃ f, arg23.view.loc (c : Thread nD τ) ↦[arg23.view.set]{fullShare} arg23.view.writes (Elt F) f L16) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6) ∗ (∃ f, arg31.view.loc (c : Thread nD τ) ↦[arg31.view.set]{fullShare} arg31.view.writes (Elt F) f LT7) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨?_, ?_, ?_, ?_, ?_, ?_, ?_, [], [], [], [], [], ?_, ?_, ?_, fun W K => ?run⟩
  case run =>
    simp only [cc0_mixer_fwd_0_eq_skeleton]; unfold cc0_mixer_fwd_0_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, ⟨%fs5, %hfs5, HS5⟩, ⟨%fs6, %hfs6, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg24.eq_unread hfs0; obtain rfl := harg25.eq_unread hfs1; obtain rfl := harg26.eq_unread hfs2; obtain rfl := harg27.eq_unread hfs3; obtain rfl := harg28.eq_unread hfs4; obtain rfl := harg29.eq_unread hfs5; obtain rfl := harg30.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]
    · iexists _; isplitr; · ipureintro; exact harg27.read_unread _
      iexact HS3
    isplitl [HS4]
    · iexists _; isplitr; · ipureintro; exact harg28.read_unread _
      iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMixIdeal.Gen

end
-- ==== Proof.MixRunC.lean ====
module

public import proofs.«01_k».proof.Proof.MixRunB

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

set_option maxHeartbeats 1600000 in
/-- The body at the first point of a later sequence, which clears both halos: what it owns before and after, with the pieces each buffer ends with. -/
noncomputable def kernelRun0_C (c : Dev nD) (i : grid0.Coords) (arg1 : Memref sig .tc .vmem S256x1024 .f32) (harg1 : arg1.IsWhole) (arg2 : Memref sig .tc .vmem S1x1x8x1024 .f32) (harg2 : arg2.IsWhole) (arg3 : Memref sig .tc .vmem S1x1x1024 .f32) (harg3 : arg3.IsWhole) (arg4 : Memref sig .tc .vmem S1x1x512 .f32) (harg4 : arg4.IsWhole) (arg5 : Memref sig .tc .vmem S1x1x512 .f32) (harg5 : arg5.IsWhole) (arg6 : Memref sig .tc .vmem S1x4x128x128 .f32) (harg6 : arg6.IsWhole) (arg7 : Memref sig .tc .vmem S1x128x512 .f32) (harg7 : arg7.IsWhole) (arg8 : Memref sig .tc .vmem S1x4x128x128 .f32) (harg8 : arg8.IsWhole) (arg9 : Memref sig .tc .vmem S1x1x512 .f32) (harg9 : arg9.IsWhole) (arg10 : Memref sig .tc .vmem S1x8x512 .f32) (harg10 : arg10.IsWhole) (arg17 : Memref sig .tc .vmem S256x1024 .bf16) (harg17 : arg17.IsWhole) (arg18 : Memref sig .tc .vmem S256x6144 .bf16) (harg18 : arg18.IsWhole) (arg19 : Memref sig .tc .vmem S256x3072 .bf16) (harg19 : arg19.IsWhole) (arg20 : Memref sig .tc .vmem S256x1536 .bf16) (harg20 : arg20.IsWhole) (arg21 : Memref sig .tc .vmem S256x1024 .bf16) (harg21 : arg21.IsWhole) (arg22 : Memref sig .tc .vmem S256x1024 .bf16) (harg22 : arg22.IsWhole) (arg23 : Memref sig .tc .vmem S256x1024 .f32) (harg23 : arg23.IsWhole) (arg24 : Memref sig .tc .vmem S8x1024x768 .bf16) (harg24 : arg24.IsWhole) (arg25 : Memref sig .tc .vmem S512x1024 .bf16) (harg25 : arg25.IsWhole) (arg26 : Memref sig .tc .vmem S512x1024 .bf16) (harg26 : arg26.IsWhole) (arg27 : Memref sig .tc .vmem S512x1024 .bf16) (harg27 : arg27.IsWhole) (arg28 : Memref sig .tc .vmem S1024x1024 .bf16) (harg28 : arg28.IsWhole) (arg29 : Memref sig .tc .vmem S272x512 .f32) (harg29 : arg29.IsWhole) (arg30 : Memref sig .tc .vmem S264x512 .f32) (harg30 : arg30.IsWhole) (arg31 : Memref sig .tc .vmem S256x512 .f32) (harg31 : arg31.IsWhole) (hc0 : ¬cond0_0 i) (hc1 : cond0_1 i)
    (x0 : Vec F S256x1024 .f32) (x1 : Vec F S1x1x8x1024 .f32) (x2 : Vec F S1x1x1024 .f32) (x3 : Vec F S1x1x512 .f32) (x4 : Vec F S1x1x512 .f32) (x5 : Vec F S1x4x128x128 .f32) (x6 : Vec F S1x128x512 .f32) (x7 : Vec F S1x4x128x128 .f32) (x8 : Vec F S1x1x512 .f32) (x9 : Vec F S1x8x512 .f32) (xs0 : Vec F S8x1024x768 .bf16) (xs1 : Vec F S512x1024 .bf16) (xs2 : Vec F S512x1024 .bf16) (xs3 : Vec F S512x1024 .bf16) (xs4 : Vec F S1024x1024 .bf16) (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) :
    Σ' (L10 : List (View.Piece (Elt F) S256x1024 .bf16)), Σ' (L11 : List (View.Piece (Elt F) S256x6144 .bf16)), Σ' (L12 : List (View.Piece (Elt F) S256x3072 .bf16)), Σ' (L13 : List (View.Piece (Elt F) S256x1536 .bf16)), Σ' (L14 : List (View.Piece (Elt F) S256x1024 .bf16)), Σ' (L15 : List (View.Piece (Elt F) S256x1024 .bf16)), Σ' (L16 : List (View.Piece (Elt F) S256x1024 .f32)), Σ' (LS0 : List (View.Piece (Elt F) S8x1024x768 .bf16)), Σ' (LS1 : List (View.Piece (Elt F) S512x1024 .bf16)), Σ' (LS2 : List (View.Piece (Elt F) S512x1024 .bf16)), Σ' (LS3 : List (View.Piece (Elt F) S512x1024 .bf16)), Σ' (LS4 : List (View.Piece (Elt F) S1024x1024 .bf16)), Σ' (LS5 : List (View.Piece (Elt F) S272x512 .f32)), Σ' (LS6 : List (View.Piece (Elt F) S264x512 .f32)), { LT7 : List (View.Piece (Elt F) S256x512 .f32) //
      ∀ (W : Waits sig Unit) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ d, owns (c : Thread nD τ) arg29 fullShare d) ∗ (∃ d, owns (c : Thread nD τ) arg30 fullShare d) ∗ (∃ d, owns (c : Thread nD τ) arg31 fullShare d) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ owes (c : Thread nD τ) 0 W
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ f, arg17.view.loc (c : Thread nD τ) ↦[arg17.view.set]{fullShare} arg17.view.writes (Elt F) f L10) ∗ (∃ f, arg18.view.loc (c : Thread nD τ) ↦[arg18.view.set]{fullShare} arg18.view.writes (Elt F) f L11) ∗ (∃ f, arg19.view.loc (c : Thread nD τ) ↦[arg19.view.set]{fullShare} arg19.view.writes (Elt F) f L12) ∗ (∃ f, arg20.view.loc (c : Thread nD τ) ↦[arg20.view.set]{fullShare} arg20.view.writes (Elt F) f L13) ∗ (∃ f, arg21.view.loc (c : Thread nD τ) ↦[arg21.view.set]{fullShare} arg21.view.writes (Elt F) f L14) ∗ (∃ f, arg22.view.loc (c : Thread nD τ) ↦[arg22.view.set]{fullShare} arg22.view.writes (Elt F) f L15) ∗ (∃ f, arg23.view.loc (c : Thread nD τ) ↦[arg23.view.set]{fullShare} arg23.view.writes (Elt F) f L16) ∗ owns (c : Thread nD τ) arg24 fullShare xs0 ∗ owns (c : Thread nD τ) arg25 fullShare xs1 ∗ owns (c : Thread nD τ) arg26 fullShare xs2 ∗ owns (c : Thread nD τ) arg27 fullShare xs3 ∗ owns (c : Thread nD τ) arg28 fullShare xs4 ∗ (∃ f, arg29.view.loc (c : Thread nD τ) ↦[arg29.view.set]{fullShare} arg29.view.writes (Elt F) f LS5) ∗ (∃ f, arg30.view.loc (c : Thread nD τ) ↦[arg30.view.set]{fullShare} arg30.view.writes (Elt F) f LS6) ∗ (∃ f, arg31.view.loc (c : Thread nD τ) ↦[arg31.view.set]{fullShare} arg31.view.writes (Elt F) f LT7) ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ (∃ W', owes (c : Thread nD τ) 0 W')) -∗ K ⟨⟩))
          ⊢ wp frame (wpE (defs₀ (F := F)) Variants.none c none) Set.univ (cc0_mixer_fwd_0 i arg1 harg1 arg2 harg2 arg3 harg3 arg4 harg4 arg5 harg5 arg6 harg6 arg7 harg7 arg8 harg8 arg9 harg9 arg10 harg10 (Memref.whole main_v10) (Memref.isWhole_whole _) (Memref.whole main_v13) (Memref.isWhole_whole _) (Memref.whole main_v16) (Memref.isWhole_whole _) (Memref.whole main_v19) (Memref.isWhole_whole _) (Memref.whole main_v20) (Memref.isWhole_whole _) (Memref.whole main_v21) (Memref.isWhole_whole _) arg17 harg17 arg18 harg18 arg19 harg19 arg20 harg20 arg21 harg21 arg22 harg22 arg23 harg23 arg24 harg24 arg25 harg25 arg26 harg26 arg27 harg27 arg28 harg28 arg29 harg29 arg30 harg30 arg31 harg31 cc0_scratch8) K } := by
  refine ⟨?_, ?_, ?_, ?_, ?_, ?_, ?_, [], [], [], [], [], ?_, ?_, ?_, fun W K => ?run⟩
  case run =>
    simp only [cc0_mixer_fwd_0_eq_skeleton]; unfold cc0_mixer_fwd_0_skel
    simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, ⟨%fs4, %hfs4, HS4⟩, ⟨%ds5, %fs5, -, HS5⟩, ⟨%ds6, %fs6, -, HS6⟩, ⟨%ds7, %fs7, -, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, HW, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg24.eq_unread hfs0; obtain rfl := harg25.eq_unread hfs1; obtain rfl := harg26.eq_unread hfs2; obtain rfl := harg27.eq_unread hfs3; obtain rfl := harg28.eq_unread hfs4
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [HS0]
    · iexists _; isplitr; · ipureintro; exact harg24.read_unread _
      iexact HS0
    isplitl [HS1]
    · iexists _; isplitr; · ipureintro; exact harg25.read_unread _
      iexact HS1
    isplitl [HS2]
    · iexists _; isplitr; · ipureintro; exact harg26.read_unread _
      iexact HS2
    isplitl [HS3]
    · iexists _; isplitr; · ipureintro; exact harg27.read_unread _
      iexact HS3
    isplitl [HS4]
    · iexists _; isplitr; · ipureintro; exact harg28.read_unread _
      iexact HS4
    isplitl [HS5]; · iexists _; iexact HS5
    isplitl [HS6]; · iexists _; iexact HS6
    isplitl [HS7]; · iexists _; iexact HS7
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    iexists _; iexact HW

end Cert.KernelMixIdeal.Gen

end
-- ==== Proof.MixFrame.lean ====
module

public import proofs.«01_k».proof.Proof.MixRunC
public import Idealize.ShloMosaic.Lib.Claim

@[expose] public section

set_option maxRecDepth 16384

noncomputable section

namespace Cert.KernelMixIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What one point leaves: its output blocks, then the scratch that later points read. -/
abbrev St (F : FTy → Type) : Type := Vec F S256x1024 .bf16 × Vec F S256x6144 .bf16 × Vec F S256x3072 .bf16 × Vec F S256x1536 .bf16 × Vec F S256x1024 .bf16 × Vec F S256x1024 .bf16 × Vec F S256x1024 .f32 × Vec F S8x1024x768 .bf16 × Vec F S512x1024 .bf16 × Vec F S512x1024 .bf16 × Vec F S512x1024 .bf16 × Vec F S1024x1024 .bf16 × Vec F S272x512 .f32 × Vec F S264x512 .f32

/-- The body's run at the first point, which fetches the weights, over that point's blocks. -/
def runA (c : Dev nD) (t : Fin cfg0.N) (h0 : t.val % 32 = 0) (h1 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (V m c main_v10) (V m c main_v13) (V m c main_v16) (V m c main_v19) (V m c main_v20) (V m c main_v21)

theorem cover0_A_10 (c : Dev nD) (t : Fin cfg0.N) (h0 : t.val % 32 = 0) (h1 : t.val % 16 = 0) (y : S256x1024.Idx) :
    ∃ pc ∈ (runA m c t h0 h1).1, y ∈ pc.1.set :=
  View.cover_of_tiledL (runA m c t h0 h1).1 S256x1024.size (by sl_kernel_rfl) y

theorem cover0_A_11 (c : Dev nD) (t : Fin cfg0.N) (h0 : t.val % 32 = 0) (h1 : t.val % 16 = 0) (y : S256x6144.Idx) :
    ∃ pc ∈ (runA m c t h0 h1).2.1, y ∈ pc.1.set :=
  View.cover_of_tiledL (runA m c t h0 h1).2.1 S256x768.size (by sl_kernel_rfl) y

theorem cover0_A_12 (c : Dev nD) (t : Fin cfg0.N) (h0 : t.val % 32 = 0) (h1 : t.val % 16 = 0) (y : S256x3072.Idx) :
    ∃ pc ∈ (runA m c t h0 h1).2.2.1, y ∈ pc.1.set :=
  View.cover_of_tiledL (runA m c t h0 h1).2.2.1 S256x1024.size (by sl_kernel_rfl) y

theorem cover0_A_13 (c : Dev nD) (t : Fin cfg0.N) (h0 : t.val % 32 = 0) (h1 : t.val % 16 = 0) (y : S256x1536.Idx) :
    ∃ pc ∈ (runA m c t h0 h1).2.2.2.1, y ∈ pc.1.set :=
  View.cover_of_tiledL (runA m c t h0 h1).2.2.2.1 S256x512.size (by sl_kernel_rfl) y

theorem cover0_A_14 (c : Dev nD) (t : Fin cfg0.N) (h0 : t.val % 32 = 0) (h1 : t.val % 16 = 0) (y : S256x1024.Idx) :
    ∃ pc ∈ (runA m c t h0 h1).2.2.2.2.1, y ∈ pc.1.set :=
  View.cover_of_tiledL (runA m c t h0 h1).2.2.2.2.1 S256x1024.size (by sl_kernel_rfl) y

theorem cover0_A_15 (c : Dev nD) (t : Fin cfg0.N) (h0 : t.val % 32 = 0) (h1 : t.val % 16 = 0) (y : S256x1024.Idx) :
    ∃ pc ∈ (runA m c t h0 h1).2.2.2.2.2.1, y ∈ pc.1.set :=
  View.cover_of_tiledL (runA m c t h0 h1).2.2.2.2.2.1 S256x1024.size (by sl_kernel_rfl) y

theorem cover0_A_16 (c : Dev nD) (t : Fin cfg0.N) (h0 : t.val % 32 = 0) (h1 : t.val % 16 = 0) (y : S256x1024.Idx) :
    ∃ pc ∈ (runA m c t h0 h1).2.2.2.2.2.2.1, y ∈ pc.1.set :=
  View.cover_of_tiledL (runA m c t h0 h1).2.2.2.2.2.2.1 S256x1024.size (by sl_kernel_rfl) y

theorem scover0_A_0 (c : Dev nD) (t : Fin cfg0.N) (h0 : t.val % 32 = 0) (h1 : t.val % 16 = 0) (y : S8x1024x768.Idx) :
    ∃ pc ∈ (runA m c t h0 h1).2.2.2.2.2.2.2.1, y ∈ pc.1.set :=
  View.cover_of_tiledL (runA m c t h0 h1).2.2.2.2.2.2.2.1 S8x1024x768.size (by sl_kernel_rfl) y

theorem scover0_A_1 (c : Dev nD) (t : Fin cfg0.N) (h0 : t.val % 32 = 0) (h1 : t.val % 16 = 0) (y : S512x1024.Idx) :
    ∃ pc ∈ (runA m c t h0 h1).2.2.2.2.2.2.2.2.1, y ∈ pc.1.set :=
  View.cover_of_tiledL (runA m c t h0 h1).2.2.2.2.2.2.2.2.1 S512x128.size (by sl_kernel_rfl) y

theorem scover0_A_2 (c : Dev nD) (t : Fin cfg0.N) (h0 : t.val % 32 = 0) (h1 : t.val % 16 = 0) (y : S512x1024.Idx) :
    ∃ pc ∈ (runA m c t h0 h1).2.2.2.2.2.2.2.2.2.1, y ∈ pc.1.set :=
  View.cover_of_tiledL (runA m c t h0 h1).2.2.2.2.2.2.2.2.2.1 S512x128.size (by sl_kernel_rfl) y

theorem scover0_A_3 (c : Dev nD) (t : Fin cfg0.N) (h0 : t.val % 32 = 0) (h1 : t.val % 16 = 0) (y : S512x1024.Idx) :
    ∃ pc ∈ (runA m c t h0 h1).2.2.2.2.2.2.2.2.2.2.1, y ∈ pc.1.set :=
  View.cover_of_tiledL (runA m c t h0 h1).2.2.2.2.2.2.2.2.2.2.1 S512x128.size (by sl_kernel_rfl) y

theorem scover0_A_4 (c : Dev nD) (t : Fin cfg0.N) (h0 : t.val % 32 = 0) (h1 : t.val % 16 = 0) (y : S1024x1024.Idx) :
    ∃ pc ∈ (runA m c t h0 h1).2.2.2.2.2.2.2.2.2.2.2.1, y ∈ pc.1.set :=
  View.cover_of_tiledL (runA m c t h0 h1).2.2.2.2.2.2.2.2.2.2.2.1 S1024x1024.size (by sl_kernel_rfl) y

theorem scover0_A_5 (c : Dev nD) (t : Fin cfg0.N) (h0 : t.val % 32 = 0) (h1 : t.val % 16 = 0) (y : S272x512.Idx) :
    ∃ pc ∈ (runA m c t h0 h1).2.2.2.2.2.2.2.2.2.2.2.2.1, y ∈ pc.1.set :=
  View.cover_of_tiledBy (runA m c t h0 h1).2.2.2.2.2.2.2.2.2.2.2.2.1 ![16, 512] (by sl_kernel_rfl) y

theorem scover0_A_6 (c : Dev nD) (t : Fin cfg0.N) (h0 : t.val % 32 = 0) (h1 : t.val % 16 = 0) (y : S264x512.Idx) :
    ∃ pc ∈ (runA m c t h0 h1).2.2.2.2.2.2.2.2.2.2.2.2.2.1, y ∈ pc.1.set :=
  View.cover_of_tiledBy (runA m c t h0 h1).2.2.2.2.2.2.2.2.2.2.2.2.2.1 ![8, 512] (by sl_kernel_rfl) y

/-- What that run leaves. -/
def stA (c : Dev nD) (t : Fin cfg0.N) (h0 : t.val % 32 = 0) (h1 : t.val % 16 = 0) : St F :=
  (VO0_10.read (Elt F) (VO0_10.writes (Elt F) VO0_10.junk (runA m c t h0 h1).1),
   VO0_11.read (Elt F) (VO0_11.writes (Elt F) VO0_11.junk (runA m c t h0 h1).2.1),
   VO0_12.read (Elt F) (VO0_12.writes (Elt F) VO0_12.junk (runA m c t h0 h1).2.2.1),
   VO0_13.read (Elt F) (VO0_13.writes (Elt F) VO0_13.junk (runA m c t h0 h1).2.2.2.1),
   VO0_14.read (Elt F) (VO0_14.writes (Elt F) VO0_14.junk (runA m c t h0 h1).2.2.2.2.1),
   VO0_15.read (Elt F) (VO0_15.writes (Elt F) VO0_15.junk (runA m c t h0 h1).2.2.2.2.2.1),
   VO0_16.read (Elt F) (VO0_16.writes (Elt F) VO0_16.junk (runA m c t h0 h1).2.2.2.2.2.2.1),
   VS0_0.read (Elt F) (VS0_0.writes (Elt F) VS0_0.junk (runA m c t h0 h1).2.2.2.2.2.2.2.1),
   VS0_1.read (Elt F) (VS0_1.writes (Elt F) VS0_1.junk (runA m c t h0 h1).2.2.2.2.2.2.2.2.1),
   VS0_2.read (Elt F) (VS0_2.writes (Elt F) VS0_2.junk (runA m c t h0 h1).2.2.2.2.2.2.2.2.2.1),
   VS0_3.read (Elt F) (VS0_3.writes (Elt F) VS0_3.junk (runA m c t h0 h1).2.2.2.2.2.2.2.2.2.2.1),
   VS0_4.read (Elt F) (VS0_4.writes (Elt F) VS0_4.junk (runA m c t h0 h1).2.2.2.2.2.2.2.2.2.2.2.1),
   VS0_5.read (Elt F) (VS0_5.writes (Elt F) VS0_5.junk (runA m c t h0 h1).2.2.2.2.2.2.2.2.2.2.2.2.1),
   VS0_6.read (Elt F) (VS0_6.writes (Elt F) VS0_6.junk (runA m c t h0 h1).2.2.2.2.2.2.2.2.2.2.2.2.2.1))

/-- The body's run at a point inside a sequence, over that point's blocks. -/
def runB (c : Dev nD) (t : Fin cfg0.N) (h0 : ¬t.val % 32 = 0) (h1 : ¬t.val % 16 = 0) (p : St F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.2.1 p.2.2.2.2.2.2.2.2.1 p.2.2.2.2.2.2.2.2.2.1 p.2.2.2.2.2.2.2.2.2.2.1 p.2.2.2.2.2.2.2.2.2.2.2.1 p.2.2.2.2.2.2.2.2.2.2.2.2.1 p.2.2.2.2.2.2.2.2.2.2.2.2.2 (V m c main_v10) (V m c main_v13) (V m c main_v16) (V m c main_v19) (V m c main_v20) (V m c main_v21)

theorem cover0_B_10 (c : Dev nD) (t : Fin cfg0.N) (h0 : ¬t.val % 32 = 0) (h1 : ¬t.val % 16 = 0) (p : St F) (y : S256x1024.Idx) :
    ∃ pc ∈ (runB m c t h0 h1 p).1, y ∈ pc.1.set :=
  View.cover_of_tiledL (runB m c t h0 h1 p).1 S256x1024.size (by sl_kernel_rfl) y

theorem cover0_B_11 (c : Dev nD) (t : Fin cfg0.N) (h0 : ¬t.val % 32 = 0) (h1 : ¬t.val % 16 = 0) (p : St F) (y : S256x6144.Idx) :
    ∃ pc ∈ (runB m c t h0 h1 p).2.1, y ∈ pc.1.set :=
  View.cover_of_tiledL (runB m c t h0 h1 p).2.1 S256x768.size (by sl_kernel_rfl) y

theorem cover0_B_12 (c : Dev nD) (t : Fin cfg0.N) (h0 : ¬t.val % 32 = 0) (h1 : ¬t.val % 16 = 0) (p : St F) (y : S256x3072.Idx) :
    ∃ pc ∈ (runB m c t h0 h1 p).2.2.1, y ∈ pc.1.set :=
  View.cover_of_tiledL (runB m c t h0 h1 p).2.2.1 S256x1024.size (by sl_kernel_rfl) y

theorem cover0_B_13 (c : Dev nD) (t : Fin cfg0.N) (h0 : ¬t.val % 32 = 0) (h1 : ¬t.val % 16 = 0) (p : St F) (y : S256x1536.Idx) :
    ∃ pc ∈ (runB m c t h0 h1 p).2.2.2.1, y ∈ pc.1.set :=
  View.cover_of_tiledL (runB m c t h0 h1 p).2.2.2.1 S256x512.size (by sl_kernel_rfl) y

theorem cover0_B_14 (c : Dev nD) (t : Fin cfg0.N) (h0 : ¬t.val % 32 = 0) (h1 : ¬t.val % 16 = 0) (p : St F) (y : S256x1024.Idx) :
    ∃ pc ∈ (runB m c t h0 h1 p).2.2.2.2.1, y ∈ pc.1.set :=
  View.cover_of_tiledL (runB m c t h0 h1 p).2.2.2.2.1 S256x1024.size (by sl_kernel_rfl) y

theorem cover0_B_15 (c : Dev nD) (t : Fin cfg0.N) (h0 : ¬t.val % 32 = 0) (h1 : ¬t.val % 16 = 0) (p : St F) (y : S256x1024.Idx) :
    ∃ pc ∈ (runB m c t h0 h1 p).2.2.2.2.2.1, y ∈ pc.1.set :=
  View.cover_of_tiledL (runB m c t h0 h1 p).2.2.2.2.2.1 S256x1024.size (by sl_kernel_rfl) y

theorem cover0_B_16 (c : Dev nD) (t : Fin cfg0.N) (h0 : ¬t.val % 32 = 0) (h1 : ¬t.val % 16 = 0) (p : St F) (y : S256x1024.Idx) :
    ∃ pc ∈ (runB m c t h0 h1 p).2.2.2.2.2.2.1, y ∈ pc.1.set :=
  View.cover_of_tiledL (runB m c t h0 h1 p).2.2.2.2.2.2.1 S256x1024.size (by sl_kernel_rfl) y

theorem scover0_B_5 (c : Dev nD) (t : Fin cfg0.N) (h0 : ¬t.val % 32 = 0) (h1 : ¬t.val % 16 = 0) (p : St F) (y : S272x512.Idx) :
    ∃ pc ∈ (runB m c t h0 h1 p).2.2.2.2.2.2.2.2.2.2.2.2.1, y ∈ pc.1.set :=
  View.cover_of_tiledBy (runB m c t h0 h1 p).2.2.2.2.2.2.2.2.2.2.2.2.1 ![16, 512] (by sl_kernel_rfl) y

theorem scover0_B_6 (c : Dev nD) (t : Fin cfg0.N) (h0 : ¬t.val % 32 = 0) (h1 : ¬t.val % 16 = 0) (p : St F) (y : S264x512.Idx) :
    ∃ pc ∈ (runB m c t h0 h1 p).2.2.2.2.2.2.2.2.2.2.2.2.2.1, y ∈ pc.1.set :=
  View.cover_of_tiledBy (runB m c t h0 h1 p).2.2.2.2.2.2.2.2.2.2.2.2.2.1 ![8, 512] (by sl_kernel_rfl) y

/-- What that run leaves. -/
def stB (c : Dev nD) (t : Fin cfg0.N) (h0 : ¬t.val % 32 = 0) (h1 : ¬t.val % 16 = 0) (p : St F) : St F :=
  (VO0_10.read (Elt F) (VO0_10.writes (Elt F) VO0_10.junk (runB m c t h0 h1 p).1),
   VO0_11.read (Elt F) (VO0_11.writes (Elt F) VO0_11.junk (runB m c t h0 h1 p).2.1),
   VO0_12.read (Elt F) (VO0_12.writes (Elt F) VO0_12.junk (runB m c t h0 h1 p).2.2.1),
   VO0_13.read (Elt F) (VO0_13.writes (Elt F) VO0_13.junk (runB m c t h0 h1 p).2.2.2.1),
   VO0_14.read (Elt F) (VO0_14.writes (Elt F) VO0_14.junk (runB m c t h0 h1 p).2.2.2.2.1),
   VO0_15.read (Elt F) (VO0_15.writes (Elt F) VO0_15.junk (runB m c t h0 h1 p).2.2.2.2.2.1),
   VO0_16.read (Elt F) (VO0_16.writes (Elt F) VO0_16.junk (runB m c t h0 h1 p).2.2.2.2.2.2.1),
   p.2.2.2.2.2.2.2.1,
   p.2.2.2.2.2.2.2.2.1,
   p.2.2.2.2.2.2.2.2.2.1,
   p.2.2.2.2.2.2.2.2.2.2.1,
   p.2.2.2.2.2.2.2.2.2.2.2.1,
   VS0_5.read (Elt F) (VS0_5.writes (Elt F) VS0_5.junk (runB m c t h0 h1 p).2.2.2.2.2.2.2.2.2.2.2.2.1),
   VS0_6.read (Elt F) (VS0_6.writes (Elt F) VS0_6.junk (runB m c t h0 h1 p).2.2.2.2.2.2.2.2.2.2.2.2.2.1))

/-- The body's run at the first point of a later sequence, over that point's blocks. -/
def runC (c : Dev nD) (t : Fin cfg0.N) (h0 : ¬t.val % 32 = 0) (h1 : t.val % 16 = 0) (p : St F) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) p.2.2.2.2.2.2.2.1 p.2.2.2.2.2.2.2.2.1 p.2.2.2.2.2.2.2.2.2.1 p.2.2.2.2.2.2.2.2.2.2.1 p.2.2.2.2.2.2.2.2.2.2.2.1 (V m c main_v10) (V m c main_v13) (V m c main_v16) (V m c main_v19) (V m c main_v20) (V m c main_v21)

theorem cover0_C_10 (c : Dev nD) (t : Fin cfg0.N) (h0 : ¬t.val % 32 = 0) (h1 : t.val % 16 = 0) (p : St F) (y : S256x1024.Idx) :
    ∃ pc ∈ (runC m c t h0 h1 p).1, y ∈ pc.1.set :=
  View.cover_of_tiledL (runC m c t h0 h1 p).1 S256x1024.size (by sl_kernel_rfl) y

theorem cover0_C_11 (c : Dev nD) (t : Fin cfg0.N) (h0 : ¬t.val % 32 = 0) (h1 : t.val % 16 = 0) (p : St F) (y : S256x6144.Idx) :
    ∃ pc ∈ (runC m c t h0 h1 p).2.1, y ∈ pc.1.set :=
  View.cover_of_tiledL (runC m c t h0 h1 p).2.1 S256x768.size (by sl_kernel_rfl) y

theorem cover0_C_12 (c : Dev nD) (t : Fin cfg0.N) (h0 : ¬t.val % 32 = 0) (h1 : t.val % 16 = 0) (p : St F) (y : S256x3072.Idx) :
    ∃ pc ∈ (runC m c t h0 h1 p).2.2.1, y ∈ pc.1.set :=
  View.cover_of_tiledL (runC m c t h0 h1 p).2.2.1 S256x1024.size (by sl_kernel_rfl) y

theorem cover0_C_13 (c : Dev nD) (t : Fin cfg0.N) (h0 : ¬t.val % 32 = 0) (h1 : t.val % 16 = 0) (p : St F) (y : S256x1536.Idx) :
    ∃ pc ∈ (runC m c t h0 h1 p).2.2.2.1, y ∈ pc.1.set :=
  View.cover_of_tiledL (runC m c t h0 h1 p).2.2.2.1 S256x512.size (by sl_kernel_rfl) y

theorem cover0_C_14 (c : Dev nD) (t : Fin cfg0.N) (h0 : ¬t.val % 32 = 0) (h1 : t.val % 16 = 0) (p : St F) (y : S256x1024.Idx) :
    ∃ pc ∈ (runC m c t h0 h1 p).2.2.2.2.1, y ∈ pc.1.set :=
  View.cover_of_tiledL (runC m c t h0 h1 p).2.2.2.2.1 S256x1024.size (by sl_kernel_rfl) y

theorem cover0_C_15 (c : Dev nD) (t : Fin cfg0.N) (h0 : ¬t.val % 32 = 0) (h1 : t.val % 16 = 0) (p : St F) (y : S256x1024.Idx) :
    ∃ pc ∈ (runC m c t h0 h1 p).2.2.2.2.2.1, y ∈ pc.1.set :=
  View.cover_of_tiledL (runC m c t h0 h1 p).2.2.2.2.2.1 S256x1024.size (by sl_kernel_rfl) y

theorem cover0_C_16 (c : Dev nD) (t : Fin cfg0.N) (h0 : ¬t.val % 32 = 0) (h1 : t.val % 16 = 0) (p : St F) (y : S256x1024.Idx) :
    ∃ pc ∈ (runC m c t h0 h1 p).2.2.2.2.2.2.1, y ∈ pc.1.set :=
  View.cover_of_tiledL (runC m c t h0 h1 p).2.2.2.2.2.2.1 S256x1024.size (by sl_kernel_rfl) y

theorem scover0_C_5 (c : Dev nD) (t : Fin cfg0.N) (h0 : ¬t.val % 32 = 0) (h1 : t.val % 16 = 0) (p : St F) (y : S272x512.Idx) :
    ∃ pc ∈ (runC m c t h0 h1 p).2.2.2.2.2.2.2.2.2.2.2.2.1, y ∈ pc.1.set :=
  View.cover_of_tiledBy (runC m c t h0 h1 p).2.2.2.2.2.2.2.2.2.2.2.2.1 ![16, 512] (by sl_kernel_rfl) y

theorem scover0_C_6 (c : Dev nD) (t : Fin cfg0.N) (h0 : ¬t.val % 32 = 0) (h1 : t.val % 16 = 0) (p : St F) (y : S264x512.Idx) :
    ∃ pc ∈ (runC m c t h0 h1 p).2.2.2.2.2.2.2.2.2.2.2.2.2.1, y ∈ pc.1.set :=
  View.cover_of_tiledBy (runC m c t h0 h1 p).2.2.2.2.2.2.2.2.2.2.2.2.2.1 ![8, 512] (by sl_kernel_rfl) y

/-- What that run leaves. -/
def stC (c : Dev nD) (t : Fin cfg0.N) (h0 : ¬t.val % 32 = 0) (h1 : t.val % 16 = 0) (p : St F) : St F :=
  (VO0_10.read (Elt F) (VO0_10.writes (Elt F) VO0_10.junk (runC m c t h0 h1 p).1),
   VO0_11.read (Elt F) (VO0_11.writes (Elt F) VO0_11.junk (runC m c t h0 h1 p).2.1),
   VO0_12.read (Elt F) (VO0_12.writes (Elt F) VO0_12.junk (runC m c t h0 h1 p).2.2.1),
   VO0_13.read (Elt F) (VO0_13.writes (Elt F) VO0_13.junk (runC m c t h0 h1 p).2.2.2.1),
   VO0_14.read (Elt F) (VO0_14.writes (Elt F) VO0_14.junk (runC m c t h0 h1 p).2.2.2.2.1),
   VO0_15.read (Elt F) (VO0_15.writes (Elt F) VO0_15.junk (runC m c t h0 h1 p).2.2.2.2.2.1),
   VO0_16.read (Elt F) (VO0_16.writes (Elt F) VO0_16.junk (runC m c t h0 h1 p).2.2.2.2.2.2.1),
   p.2.2.2.2.2.2.2.1,
   p.2.2.2.2.2.2.2.2.1,
   p.2.2.2.2.2.2.2.2.2.1,
   p.2.2.2.2.2.2.2.2.2.2.1,
   p.2.2.2.2.2.2.2.2.2.2.2.1,
   VS0_5.read (Elt F) (VS0_5.writes (Elt F) VS0_5.junk (runC m c t h0 h1 p).2.2.2.2.2.2.2.2.2.2.2.2.1),
   VS0_6.read (Elt F) (VS0_6.writes (Elt F) VS0_6.junk (runC m c t h0 h1 p).2.2.2.2.2.2.2.2.2.2.2.2.2.1))

/-- What the output blocks and the scratch hold after point `n`. -/
def outsAt0 (c : Dev nD) : (n : ℕ) → n < cfg0.N → St F
  | 0, hn => stA m c ⟨0, hn⟩ (Nat.zero_mod _) (Nat.zero_mod _)
  | n + 1, hn =>
    if h0 : (n + 1) % 32 = 0 then
      False.elim (by have hN : n + 1 < 32 := lt_of_lt_of_eq hn (show cfg0.N = 32 from N_0); omega)
    else
      if h1 : (n + 1) % 16 = 0 then
        stC m c ⟨n + 1, hn⟩ h0 h1 (outsAt0 c n (Nat.lt_of_succ_lt hn))
      else
        stB m c ⟨n + 1, hn⟩ h0 h1 (outsAt0 c n (Nat.lt_of_succ_lt hn))

theorem outsAt0_A (c : Dev nD) (t : Fin cfg0.N) (h0 : t.val % 32 = 0) (h1 : t.val % 16 = 0) :
    outsAt0 m c t.val t.isLt = stA m c t h0 h1 := by
  obtain ⟨n, hn⟩ := t
  have hN : n < 32 := lt_of_lt_of_eq hn (show cfg0.N = 32 from N_0)
  obtain rfl : n = 0 := by dsimp only at h0; omega
  exact rfl

theorem outsAt0_B (c : Dev nD) (t : Fin cfg0.N) (h0 : ¬t.val % 32 = 0) (h1 : ¬t.val % 16 = 0) :
    outsAt0 m c t.val t.isLt = stB m c t h0 h1 (outsAt0 m c (t.val - 1) (lt_of_le_of_lt (Nat.sub_le _ _) t.isLt)) := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 16 = 0) :
    outsAt0 m c t.val t.isLt = stC m c t h0 h1 (outsAt0 m c (t.val - 1) (lt_of_le_of_lt (Nat.sub_le _ _) t.isLt)) := by
  obtain ⟨n, hn⟩ := t
  cases n with
  | zero => exact absurd (Nat.zero_mod _) h0
  | succ n => exact (dif_neg h0).trans (dif_pos h1)

/-- What the region owns before point `n`: after the first point the carried scratch is named. -/
def PhiS (c : Dev nD) : (n : ℕ) → n ≤ cfg0.N → sProp 𝕄
  | 0, _ => Pipeline.ΦD osem0 spec0 H0 (V m) c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2.1) ∗ owns (c : Thread nD τ) scM0_4 fullShare ((outsAt0 m c n hn).2.2.2.2.2.2.2.2.2.2.2.1) ∗ owns (c : Thread nD τ) scM0_5 fullShare ((outsAt0 m c n hn).2.2.2.2.2.2.2.2.2.2.2.2.1) ∗ owns (c : Thread nD τ) scM0_6 fullShare ((outsAt0 m c n hn).2.2.2.2.2.2.2.2.2.2.2.2.2) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21)))

theorem PhiS_zero (c : Dev nD) (n : ℕ) (h : n ≤ cfg0.N) (hz : n = 0) : PhiS m c n h = Pipeline.ΦD osem0 spec0 H0 (V m) c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2.1) ∗ owns (c : Thread nD τ) scM0_3 fullShare ((outsAt0 m c n hn).2.2.2.2.2.2.2.2.2.2.1) ∗ owns (c : Thread nD τ) scM0_4 fullShare ((outsAt0 m c n hn).2.2.2.2.2.2.2.2.2.2.2.1) ∗ owns (c : Thread nD τ) scM0_5 fullShare ((outsAt0 m c n hn).2.2.2.2.2.2.2.2.2.2.2.2.1) ∗ owns (c : Thread nD τ) scM0_6 fullShare ((outsAt0 m c n hn).2.2.2.2.2.2.2.2.2.2.2.2.2) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21))) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2.1) ∗ owns (c : Thread nD τ) scM0_3 fullShare ((outsAt0 m c (n - 1) (by omega)).2.2.2.2.2.2.2.2.2.2.1) ∗ owns (c : Thread nD τ) scM0_4 fullShare ((outsAt0 m c (n - 1) (by omega)).2.2.2.2.2.2.2.2.2.2.2.1) ∗ owns (c : Thread nD τ) scM0_5 fullShare ((outsAt0 m c (n - 1) (by omega)).2.2.2.2.2.2.2.2.2.2.2.2.1) ∗ owns (c : Thread nD τ) scM0_6 fullShare ((outsAt0 m c (n - 1) (by omega)).2.2.2.2.2.2.2.2.2.2.2.2.2) ∗ (∃ d, owns (c : Thread nD τ) scM0_7 fullShare d)) ∗ (∃ r, prngReg c r) ∗ iprop(semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0 ∗ semVal ((c : Thread nD τ), SemLoc.dma 42) 0 ∗ semVal ((c : Thread nD τ), SemLoc.dma 43) 0 ∗ semVal ((c : Thread nD τ), SemLoc.dma 44) 0 ∗ semVal ((c : Thread nD τ), SemLoc.dma 45) 0 ∗ semVal ((c : Thread nD τ), SemLoc.dma 46) 0 ∗ semVal ((c : Thread nD τ), SemLoc.dma 47) 0 ∗ semVal ((c : Thread nD τ), SemLoc.dma 48) 0 ∗ semVal ((c : Thread nD τ), SemLoc.dma 49) 0 ∗ semVal ((c : Thread nD τ), SemLoc.dma 50) 0 ∗ semVal ((c : Thread nD τ), SemLoc.dma 51) 0) ∗ iprop(hbPt0 c hbM0_0 (V m c main_v10) ∗ hbPt0 c hbM0_1 (V m c main_v13) ∗ hbPt0 c hbM0_2 (V m c main_v16) ∗ hbPt0 c hbM0_3 (V m c main_v19) ∗ hbPt0 c hbM0_4 (V m c main_v20) ∗ hbPt0 c hbM0_5 (V m c main_v21))) := by
  cases n with
  | zero => exact absurd rfl hz
  | succ n => rfl

/-- The proof data of the one pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨16, _⟩ => (outsAt0 m c t.val t.isLt).2.2.2.2.2.2.1
    | ⟨_ + 17, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]
theorem after0_16 (c : Dev nD) (t : Fin cfg0.N) : (dats m 0 c).after 16 t = (outsAt0 m c t.val t.isLt).2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 28800000 in
/-- The body at any point, from the invariant and the blocks to the invariant and the blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = PhiS m c (t.val + 1) t.isLt from rfl, PhiS_succ,
    after0_0, after0_1, after0_2, after0_3, after0_4, after0_5, after0_6, after0_7, after0_8, after0_9, after0_10, after0_11, after0_12, after0_13, after0_14, after0_15, after0_16]
  unfold Dat.owesAt Pipeline.owesWithin
  rw [show (dats m 0 c).owed t.castSucc = 0 from rfl, show (dats m 0 c).owed t.succ = 0 from rfl]
  have hN : t.val < 32 := lt_of_lt_of_eq t.isLt (show cfg0.N = 32 from N_0)
  by_cases h0 : t.val % 32 = 0
  · by_cases h1 : t.val % 16 = 0
    · by_cases hz : t.val = 0
      · rw [PhiS_castSucc m c t, PhiS_zero m c _ _ hz, PhiD0_eq]
        rw [outsAt0_A m c t h0 h1]
        unfold stA; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runA m c t h0 h1).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, ⟨%es0, HS0⟩, ⟨%es1, HS1⟩, ⟨%es2, HS2⟩, ⟨%es3, HS3⟩, ⟨%es4, HS4⟩, ⟨%es5, HS5⟩, ⟨%es6, HS6⟩, ⟨%fT7, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]
            · unfold owns; iexists _; isplitr
              swap; · iexact HS0
              ipureintro; exact View.read_writes_of_cover _ _ _ _ _ (scover0_A_0 m c t h0 h1)
            isplitl [HS1]
            · unfold owns; iexists _; isplitr
              swap; · iexact HS1
              ipureintro; exact View.read_writes_of_cover _ _ _ _ _ (scover0_A_1 m c t h0 h1)
            isplitl [HS2]
            · unfold owns; iexists _; isplitr
              swap; · iexact HS2
              ipureintro; exact View.read_writes_of_cover _ _ _ _ _ (scover0_A_2 m c t h0 h1)
            isplitl [HS3]
            · unfold owns; iexists _; isplitr
              swap; · iexact HS3
              ipureintro; exact View.read_writes_of_cover _ _ _ _ _ (scover0_A_3 m c t h0 h1)
            isplitl [HS4]
            · unfold owns; iexists _; isplitr
              swap; · iexact HS4
              ipureintro; exact View.read_writes_of_cover _ _ _ _ _ (scover0_A_4 m c t h0 h1)
            isplitl [HS5]
            · unfold owns; iexists _; isplitr
              swap; · iexact HS5
              ipureintro; exact View.read_writes_of_cover _ _ _ _ _ (scover0_A_5 m c t h0 h1)
            isplitl [HS6]
            · unfold owns; iexists _; isplitr
              swap; · iexact HS6
              ipureintro; exact View.read_writes_of_cover _ _ _ _ _ (scover0_A_6 m c t h0 h1)
            iexists _; unfold owns; iexists _; isplitr
            swap; · iexact HS7
            ipureintro; rfl
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_A_10 m c t h0 h1)
        isplitl [H11]
        · unfold owns; iexists _; isplitr
          swap; · iexact H11
          ipureintro; exact View.read_writes_of_cover _ _ _ _ _ (cover0_A_11 m c t h0 h1)
        isplitl [H12]
        · unfold owns; iexists _; isplitr
          swap; · iexact H12
          ipureintro; exact View.read_writes_of_cover _ _ _ _ _ (cover0_A_12 m c t h0 h1)
        isplitl [H13]
        · unfold owns; iexists _; isplitr
          swap; · iexact H13
          ipureintro; exact View.read_writes_of_cover _ _ _ _ _ (cover0_A_13 m c t h0 h1)
        isplitl [H14]
        · unfold owns; iexists _; isplitr
          swap; · iexact H14
          ipureintro; exact View.read_writes_of_cover _ _ _ _ _ (cover0_A_14 m c t h0 h1)
        isplitl [H15]
        · unfold owns; iexists _; isplitr
          swap; · iexact H15
          ipureintro; exact View.read_writes_of_cover _ _ _ _ _ (cover0_A_15 m c t h0 h1)
        unfold owns; iexists _; isplitr
        swap; · iexact H16
        ipureintro; exact View.read_writes_of_cover _ _ _ _ _ (cover0_A_16 m c t h0 h1)
      · exfalso; have hN : t.val < 32 := lt_of_lt_of_eq t.isLt (show cfg0.N = 32 from N_0); omega
    · exfalso; omega
  · by_cases h1 : t.val % 16 = 0
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        unfold stC; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runC m c t h0 h1 (outsAt0 m c (t.val - 1) (lt_of_le_of_lt (Nat.sub_le _ _) t.isLt))).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexists _; iexact HS5
        isplitl [HS6]; · iexists _; iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1, HS2, HS3, HS4, ⟨%es5, HS5⟩, ⟨%es6, HS6⟩, ⟨%fT7, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]
            · unfold owns; iexists _; isplitr
              swap; · iexact HS5
              ipureintro; exact View.read_writes_of_cover _ _ _ _ _ (scover0_C_5 m c t h0 h1 (outsAt0 m c (t.val - 1) (lt_of_le_of_lt (Nat.sub_le _ _) t.isLt)))
            isplitl [HS6]
            · unfold owns; iexists _; isplitr
              swap; · iexact HS6
              ipureintro; exact View.read_writes_of_cover _ _ _ _ _ (scover0_C_6 m c t h0 h1 (outsAt0 m c (t.val - 1) (lt_of_le_of_lt (Nat.sub_le _ _) t.isLt)))
            iexists _; unfold owns; iexists _; isplitr
            swap; · iexact HS7
            ipureintro; rfl
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_C_10 m c t h0 h1 (outsAt0 m c (t.val - 1) (lt_of_le_of_lt (Nat.sub_le _ _) t.isLt)))
        isplitl [H11]
        · unfold owns; iexists _; isplitr
          swap; · iexact H11
          ipureintro; exact View.read_writes_of_cover _ _ _ _ _ (cover0_C_11 m c t h0 h1 (outsAt0 m c (t.val - 1) (lt_of_le_of_lt (Nat.sub_le _ _) t.isLt)))
        isplitl [H12]
        · unfold owns; iexists _; isplitr
          swap; · iexact H12
          ipureintro; exact View.read_writes_of_cover _ _ _ _ _ (cover0_C_12 m c t h0 h1 (outsAt0 m c (t.val - 1) (lt_of_le_of_lt (Nat.sub_le _ _) t.isLt)))
        isplitl [H13]
        · unfold owns; iexists _; isplitr
          swap; · iexact H13
          ipureintro; exact View.read_writes_of_cover _ _ _ _ _ (cover0_C_13 m c t h0 h1 (outsAt0 m c (t.val - 1) (lt_of_le_of_lt (Nat.sub_le _ _) t.isLt)))
        isplitl [H14]
        · unfold owns; iexists _; isplitr
          swap; · iexact H14
          ipureintro; exact View.read_writes_of_cover _ _ _ _ _ (cover0_C_14 m c t h0 h1 (outsAt0 m c (t.val - 1) (lt_of_le_of_lt (Nat.sub_le _ _) t.isLt)))
        isplitl [H15]
        · unfold owns; iexists _; isplitr
          swap; · iexact H15
          ipureintro; exact View.read_writes_of_cover _ _ _ _ _ (cover0_C_15 m c t h0 h1 (outsAt0 m c (t.val - 1) (lt_of_le_of_lt (Nat.sub_le _ _) t.isLt)))
        unfold owns; iexists _; isplitr
        swap; · iexact H16
        ipureintro; exact View.read_writes_of_cover _ _ _ _ _ (cover0_C_16 m c t h0 h1 (outsAt0 m c (t.val - 1) (lt_of_le_of_lt (Nat.sub_le _ _) t.isLt)))
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        unfold stB; (try dsimp only)
        iintro ⟨⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((runB m c t h0 h1 (outsAt0 m c (t.val - 1) (lt_of_le_of_lt (Nat.sub_le _ _) t.isLt))).2.2.2.2.2.2.2.2.2.2.2.2.2.2.2 W _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [H13]; · iexists _; iexact H13
        isplitl [H14]; · iexists _; iexact H14
        isplitl [H15]; · iexists _; iexact H15
        isplitl [H16]; · iexists _; iexact H16
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        isplitl [Hq15]; · iexact Hq15
        isplitl [Hq16]; · iexact Hq16
        isplitl [Hq17]; · iexact Hq17
        isplitl [Hq18]; · iexact Hq18
        isplitl [Hq19]; · iexact Hq19
        isplitl [Hq20]; · iexact Hq20
        isplitl [Hq21]; · iexact Hq21
        isplitl [Hq22]; · iexact Hq22
        isplitl [Hq23]; · iexact Hq23
        isplitl [Hq24]; · iexact Hq24
        isplitl [Hq25]; · iexact Hq25
        isplitl [Hh0]; · iexact Hh0
        isplitl [Hh1]; · iexact Hh1
        isplitl [Hh2]; · iexact Hh2
        isplitl [Hh3]; · iexact Hh3
        isplitl [Hh4]; · iexact Hh4
        isplitl [Hh5]; · iexact Hh5
        isplitl [HW]; · iexact HW
        iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%e16, H16⟩, HS0, HS1, HS2, HS3, HS4, ⟨%es5, HS5⟩, ⟨%es6, HS6⟩, ⟨%fT7, HS7⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hh0, Hh1, Hh2, Hh3, Hh4, Hh5, ⟨%W', HW'⟩⟩
        isplitl [HS0 HS1 HS2 HS3 HS4 HS5 HS6 HS7 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hh0 Hh1 Hh2 Hh3 Hh4 Hh5]
        · isplitl [HS0 HS1 HS2 HS3 HS4 HS5 HS6 HS7]
          · isplitl [HS0]; · iexact HS0
            isplitl [HS1]; · iexact HS1
            isplitl [HS2]; · iexact HS2
            isplitl [HS3]; · iexact HS3
            isplitl [HS4]; · iexact HS4
            isplitl [HS5]
            · unfold owns; iexists _; isplitr
              swap; · iexact HS5
              ipureintro; exact View.read_writes_of_cover _ _ _ _ _ (scover0_B_5 m c t h0 h1 (outsAt0 m c (t.val - 1) (lt_of_le_of_lt (Nat.sub_le _ _) t.isLt)))
            isplitl [HS6]
            · unfold owns; iexists _; isplitr
              swap; · iexact HS6
              ipureintro; exact View.read_writes_of_cover _ _ _ _ _ (scover0_B_6 m c t h0 h1 (outsAt0 m c (t.val - 1) (lt_of_le_of_lt (Nat.sub_le _ _) t.isLt)))
            iexists _; unfold owns; iexists _; isplitr
            swap; · iexact HS7
            ipureintro; rfl
          isplitl [Hg]
          · iexact Hg
          isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
          · isplitl [Hq0]; · iexact Hq0
            isplitl [Hq1]; · iexact Hq1
            isplitl [Hq2]; · iexact Hq2
            isplitl [Hq3]; · iexact Hq3
            isplitl [Hq4]; · iexact Hq4
            isplitl [Hq5]; · iexact Hq5
            isplitl [Hq6]; · iexact Hq6
            isplitl [Hq7]; · iexact Hq7
            isplitl [Hq8]; · iexact Hq8
            isplitl [Hq9]; · iexact Hq9
            isplitl [Hq10]; · iexact Hq10
            isplitl [Hq11]; · iexact Hq11
            isplitl [Hq12]; · iexact Hq12
            isplitl [Hq13]; · iexact Hq13
            isplitl [Hq14]; · iexact Hq14
            isplitl [Hq15]; · iexact Hq15
            isplitl [Hq16]; · iexact Hq16
            isplitl [Hq17]; · iexact Hq17
            isplitl [Hq18]; · iexact Hq18
            isplitl [Hq19]; · iexact Hq19
            isplitl [Hq20]; · iexact Hq20
            isplitl [Hq21]; · iexact Hq21
            isplitl [Hq22]; · iexact Hq22
            isplitl [Hq23]; · iexact Hq23
            isplitl [Hq24]; · iexact Hq24
            iexact Hq25
          isplitl [Hh0]; · iexact Hh0
          isplitl [Hh1]; · iexact Hh1
          isplitl [Hh2]; · iexact Hh2
          isplitl [Hh3]; · iexact Hh3
          isplitl [Hh4]; · iexact Hh4
          iexact Hh5
        isplitl [HW']
        · iexists W'; isplitr; · ipureintro; exact fun _ _ => Or.inl trivial
          iexact HW'
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]
        · unfold owns; iexists _; isplitr
          swap; · iexact H10
          ipureintro; exact View.read_writes_of_cover _ _ _ _ _ (cover0_B_10 m c t h0 h1 (outsAt0 m c (t.val - 1) (lt_of_le_of_lt (Nat.sub_le _ _) t.isLt)))
        isplitl [H11]
        · unfold owns; iexists _; isplitr
          swap; · iexact H11
          ipureintro; exact View.read_writes_of_cover _ _ _ _ _ (cover0_B_11 m c t h0 h1 (outsAt0 m c (t.val - 1) (lt_of_le_of_lt (Nat.sub_le _ _) t.isLt)))
        isplitl [H12]
        · unfold owns; iexists _; isplitr
          swap; · iexact H12
          ipureintro; exact View.read_writes_of_cover _ _ _ _ _ (cover0_B_12 m c t h0 h1 (outsAt0 m c (t.val - 1) (lt_of_le_of_lt (Nat.sub_le _ _) t.isLt)))
        isplitl [H13]
        · unfold owns; iexists _; isplitr
          swap; · iexact H13
          ipureintro; exact View.read_writes_of_cover _ _ _ _ _ (cover0_B_13 m c t h0 h1 (outsAt0 m c (t.val - 1) (lt_of_le_of_lt (Nat.sub_le _ _) t.isLt)))
        isplitl [H14]
        · unfold owns; iexists _; isplitr
          swap; · iexact H14
          ipureintro; exact View.read_writes_of_cover _ _ _ _ _ (cover0_B_14 m c t h0 h1 (outsAt0 m c (t.val - 1) (lt_of_le_of_lt (Nat.sub_le _ _) t.isLt)))
        isplitl [H15]
        · unfold owns; iexists _; isplitr
          swap; · iexact H15
          ipureintro; exact View.read_writes_of_cover _ _ _ _ _ (cover0_B_15 m c t h0 h1 (outsAt0 m c (t.val - 1) (lt_of_le_of_lt (Nat.sub_le _ _) t.isLt)))
        unfold owns; iexists _; isplitr
        swap; · iexact H16
        ipureintro; exact View.read_writes_of_cover _ _ _ _ _ (cover0_B_16 m c t h0 h1 (outsAt0 m c (t.val - 1) (lt_of_le_of_lt (Nat.sub_le _ _) t.isLt)))

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦD osem0 spec0 H0 (V m) c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦD osem0 spec0 H0 (V m) c := by
  rw [show (dats m 0 c).Φ t = PhiS m c t.val (Nat.le_of_lt_succ t.isLt) from rfl, PhiS_pos m c _ _ ht, PhiD0_eq]
  iintro ⟨⟨HS0, HS1, HS2, HS3, HS4, HS5, HS6, HS7⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25⟩, ⟨Hh0, Hh1, Hh2, Hh3, Hh4, Hh5⟩⟩
  isplitl [HS0 HS1 HS2 HS3 HS4 HS5 HS6 HS7]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    isplitl [HS5]
    · iexists _; iexact HS5
    isplitl [HS6]
    · iexists _; iexact HS6
    iexact HS7
  isplitl [Hg]; · iexact Hg
  isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25]
  · isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    iexact Hq25
  isplitl [Hh0]; · iexact Hh0
  isplitl [Hh1]; · iexact Hh1
  isplitl [Hh2]; · iexact Hh2
  isplitl [Hh3]; · iexact Hh3
  isplitl [Hh4]; · iexact Hh4
  iexact Hh5

theorem hout (c : Dev nD) : (dats m 0 c).Φ (Fin.last cfg0.N) ⊢ Pipeline.ΦD osem0 spec0 H0 (V m) c :=
  Phi_out m c _ (by rw [Fin.val_last]; have : cfg0.N = 32 := N_0; omega)
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- Every run ends with each array at what the proof data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelMixIdeal.Gen

end
-- ==== Proof.Gelu.lean ====
module

public import Idealize.ShloMosaic.Lib.Pointwise
public import Idealize.ShloMosaic.Lib.IdealHost

@[expose] public section

namespace Cert.Gelu

open Idealize.ShloMosaic

/-- The square root of two over pi, as printed in single precision. -/
theorem k_lit : Ideal.ofBits .f32 0x3F4C422A#32 = ((6693141 / 8388608 : ℝ) : EReal) := by
  simp [Ideal.ofBits, Ideal.ieee, -EReal.coe_mul]; norm_num

/-- The coefficient of the cube, as printed in single precision. -/
theorem c_lit : Ideal.ofBits .f32 0x3D372713#32 = ((12003091 / 268435456 : ℝ) : EReal) := by
  simp [Ideal.ofBits, Ideal.ieee, -EReal.coe_mul]; norm_num

/-- One half, as printed in single precision. -/
theorem half : Ideal.ofBits .f32 0x3F000000#32 = ((1 / 2 : ℝ) : EReal) := by
  simp [Ideal.ofBits, Ideal.ieee, -EReal.coe_mul]; norm_num

/-- The tanh form of the Gaussian unit as the reference writes it. -/
noncomputable def gelu (x : EReal) : EReal :=
  x * (Ideal.ofBits .f32 0x3F000000#32 * (1 + Ideal.tanh (Ideal.ofBits .f32 0x3F4C422A#32 * (x + Ideal.ofBits .f32 0x3D372713#32 * (x * x * x)))))

/-- The same unit as the kernel writes it, the product of the two constants a number of its own. -/
theorem gelu_eq (x : EReal) : Ideal.ofBits .f32 0x3F000000#32 * x * (1 + Ideal.tanh (x * (Ideal.ofBits .f32 0x3F4C422A#32 + ((80338380498831 / 2251799813685248 : ℝ) : EReal) * (x * x)))) = gelu x := by
  rw [gelu, k_lit, c_lit, half]
  induction x using EReal.rec with
  | bot =>
    rw [EReal.bot_mul_bot, EReal.coe_mul_top_of_pos (by norm_num), EReal.coe_add_top, EReal.bot_mul_top, EReal.top_mul_bot, EReal.coe_mul_bot_of_pos (by norm_num),
      EReal.coe_mul_bot_of_pos (by norm_num), EReal.bot_add, EReal.coe_mul_bot_of_pos (by norm_num), Ideal.tanh_bot]
    have h : (1 : EReal) + -1 = 0 := by
      rw [show (-1 : EReal) = ((-1 : ℝ) : EReal) from rfl, show (1 : EReal) = ((1 : ℝ) : EReal) from rfl, ← EReal.coe_add]; norm_num
    rw [h, mul_zero, mul_zero, mul_zero]
  | top =>
    rw [EReal.top_mul_top, EReal.coe_mul_top_of_pos (by norm_num), EReal.coe_mul_top_of_pos (by norm_num), EReal.coe_add_top, EReal.top_mul_top,
      EReal.coe_mul_top_of_pos (by norm_num), EReal.top_add_top, EReal.coe_mul_top_of_pos (by norm_num), Ideal.tanh_top]
    rw [show (1 : EReal) = ((1 : ℝ) : EReal) from rfl, ← EReal.coe_add, ← EReal.coe_mul, EReal.top_mul_coe_of_pos (by norm_num), EReal.top_mul_coe_of_pos (by norm_num)]
  | coe r =>
    simp only [show (1 : EReal) = ((1 : ℝ) : EReal) from rfl, ← EReal.coe_add, ← EReal.coe_mul, Ideal.tanh_coe]
    congr 1
    rw [show r * (6693141 / 8388608 + 80338380498831 / 2251799813685248 * (r * r)) = 6693141 / 8388608 * (r + 12003091 / 268435456 * (r * r * r)) by ring]
    ring

end Cert.Gelu
end
-- ==== Proof.MixSpec.lean ====
module

public import proofs.«01_k».proof.Proof.Gelu

@[expose] public section

noncomputable section

namespace Cert.MixSpec

open Idealize.ShloMosaic
open Cert.Gelu (gelu)

/-- The arguments of the sub-layer at the layer in question, as functions of plain indices. -/
structure Args where
  x : Fin 8192 → Fin 1024 → EReal
  shift : Fin 2 → Fin 1024 → EReal
  scale : Fin 2 → Fin 1024 → EReal
  res : Fin 2 → Fin 1024 → EReal
  g : Fin 1024 → EReal
  lg : Fin 512 → EReal
  lb : Fin 512 → EReal
  ws : Fin 4 → Fin 128 → Fin 128 → EReal
  bs : Fin 4 → Fin 128 → EReal
  pw : Fin 4 → Fin 128 → Fin 128 → EReal
  ps : Fin 512 → EReal
  cw : Fin 3 → Fin 512 → EReal
  wi : Fin 1024 → Fin 6144 → EReal
  wa : Fin 512 → Fin 1024 → EReal
  wb : Fin 512 → Fin 1024 → EReal
  wc : Fin 512 → Fin 1024 → EReal
  wo : Fin 1024 → Fin 1024 → EReal

/-- They are read off the fifteen arrays. -/
def args (a0 : FVec Ideal ⟨2, ![8192, 1024]⟩ .f32) (a1 : FVec Ideal ⟨4, ![4, 2, 8, 1024]⟩ .f32) (a2 : FVec Ideal ⟨2, ![4, 1024]⟩ .f32)
    (a3 a4 : FVec Ideal ⟨2, ![4, 512]⟩ .f32) (a5 : FVec Ideal ⟨4, ![4, 4, 128, 128]⟩ .f32) (a6 : FVec Ideal ⟨3, ![4, 4, 128]⟩ .f32)
    (a7 : FVec Ideal ⟨4, ![4, 4, 128, 128]⟩ .f32) (a8 : FVec Ideal ⟨2, ![4, 512]⟩ .f32) (a9 : FVec Ideal ⟨3, ![4, 3, 512]⟩ .f32)
    (a10 : FVec Ideal ⟨2, ![1024, 6144]⟩ .f32) (a11 a12 a13 : FVec Ideal ⟨2, ![512, 1024]⟩ .f32) (a14 : FVec Ideal ⟨2, ![1024, 1024]⟩ .f32) : Args where
  x i q := a0 (ix2 i q)
  shift b q := a1 (ix4 0 b 0 q)
  scale b q := a1 (ix4 0 b 1 q)
  res b q := a1 (ix4 0 b 2 q)
  g q := a2 (ix2 0 q)
  lg q := a3 (ix2 0 q)
  lb q := a4 (ix2 0 q)
  ws h i j := a5 (ix4 0 h i j)
  bs h i := a6 (ix3 0 h i)
  pw h i j := a7 (ix4 0 h i j)
  ps q := a8 (ix2 0 q)
  cw k q := a9 (ix3 0 k q)
  wi k q := a10 (ix2 k q)
  wa k q := a11 (ix2 k q)
  wb k q := a12 (ix2 k q)
  wc k q := a13 (ix2 k q)
  wo k q := a14 (ix2 k q)

variable (A : Args)

/-- The normed and modulated activations. -/
def H (i : Fin 8192) (q : Fin 1024) : EReal :=
  A.x i q * Ideal.rsqrt (Ideal.div (∑ k : Fin 1024, A.x i k * A.x i k) (Ideal.ofBits .f32 0x44800000#32) + Ideal.ofBits .f32 0x358637BD#32)
    * A.g q * (1 + A.scale ⟨i.val / 4096, by omega⟩ q) + A.shift ⟨i.val / 4096, by omega⟩ q

/-- Their projection. -/
def Z (i : Fin 8192) (q : Fin 6144) : EReal := ∑ k : Fin 1024, H A i k * A.wi k q

/-- The second operand of the gated unit. -/
def GV (i : Fin 8192) (q : Fin 512) : EReal := gelu (Z A i ⟨512 + q.val, by omega⟩)

/-- It minus its mean. -/
def CV (i : Fin 8192) (q : Fin 512) : EReal := GV A i q - Ideal.div (∑ k : Fin 512, GV A i k) (Ideal.ofBits .f32 0x44000000#32)

/-- Its layer norm. -/
def LN (i : Fin 8192) (q : Fin 512) : EReal :=
  CV A i q * Ideal.rsqrt (Ideal.div (∑ k : Fin 512, CV A i k * CV A i k) (Ideal.ofBits .f32 0x44000000#32) + Ideal.ofBits .f32 0x358637BD#32) * A.lg q + A.lb q

/-- The spatial gate: each head mixes the positions of its chunk causally. -/
def SG (i : Fin 8192) (q : Fin 512) : EReal :=
  (∑ k : Fin 128, A.ws ⟨q.val / 128, by omega⟩ ⟨i.val % 128, by omega⟩ k * (if k.val ≤ i.val % 128 then 1 else 0) * LN A ⟨128 * (i.val / 128) + k.val, by omega⟩ q)
    + A.bs ⟨q.val / 128, by omega⟩ ⟨i.val % 128, by omega⟩

/-- The first branch before its output product. -/
def OA (i : Fin 8192) (q : Fin 512) : EReal := gelu (Z A i ⟨q.val, by omega⟩) * SG A i q

/-- The input of the pooling branch. -/
def XB (i : Fin 8192) (q : Fin 512) : EReal := Z A i ⟨1024 + q.val, by omega⟩

/-- What a sequence of rows holds `k` positions back, nothing before its start. -/
def back (f : Fin 8192 → Fin 512 → EReal) (i : Fin 8192) (k : ℕ) (q : Fin 512) : EReal :=
  if i.val % 4096 < k then 0 else f ⟨i.val - k, by omega⟩ q

/-- The sum of the last `w` positions over their number, minus the last. -/
def trail (f : Fin 8192 → Fin 512 → EReal) (w : ℕ) (i : Fin 8192) (q : Fin 512) : EReal :=
  Ideal.div (∑ k : Fin w, back f i k.val q) ((min (i.val % 4096 + 1) w : ℕ) : ℝ) - f i q

/-- The window of a head. -/
def win (h : ℕ) : ℕ := if h < 1 then 2 else if h < 2 then 4 else if h < 3 then 8 else 16

/-- The pooled differences. -/
def PD (i : Fin 8192) (q : Fin 512) : EReal := trail (XB A) (win (q.val / 128)) i q

/-- The second branch before its output product. -/
def OB (i : Fin 8192) (q : Fin 512) : EReal :=
  (∑ k : Fin 128, PD A i ⟨q.val / 128 * 128 + k.val, by omega⟩ * A.pw ⟨q.val / 128, by omega⟩ k ⟨q.val % 128, by omega⟩) * A.ps q

/-- The input of the convolution. -/
def ZZ (i : Fin 8192) (q : Fin 512) : EReal := Z A i ⟨2048 + q.val, by omega⟩ * Z A i ⟨2560 + q.val, by omega⟩

/-- The third branch before its output product. -/
def OC (i : Fin 8192) (q : Fin 512) : EReal :=
  Z A i ⟨1536 + q.val, by omega⟩ * (A.cw 0 q * back (ZZ A) i 2 q + A.cw 1 q * back (ZZ A) i 1 q + A.cw 2 q * ZZ A i q)

/-- The branches' outputs. -/
def YA (i : Fin 8192) (q : Fin 1024) : EReal := ∑ k : Fin 512, OA A i k * A.wa k q
def YB (i : Fin 8192) (q : Fin 1024) : EReal := ∑ k : Fin 512, OB A i k * A.wb k q
def YC (i : Fin 8192) (q : Fin 1024) : EReal := ∑ k : Fin 512, OC A i k * A.wc k q

/-- The three branches side by side, before and after their output products. -/
def OCAT (i : Fin 8192) (q : Fin 1536) : EReal :=
  if h : q.val < 512 then OA A i ⟨q.val, h⟩ else if h : q.val - 512 < 512 then OB A i ⟨q.val - 512, h⟩ else OC A i ⟨q.val - 512 - 512, by omega⟩
def YCAT (i : Fin 8192) (q : Fin 3072) : EReal :=
  if h : q.val < 1024 then YA A i ⟨q.val, h⟩ else if h : q.val - 1024 < 1024 then YB A i ⟨q.val - 1024, h⟩ else YC A i ⟨q.val - 1024 - 1024, by omega⟩

/-- The logistic function. -/
def sg (a : EReal) : EReal := Ideal.div 1 (1 + Ideal.exp (-a))

/-- The gated sum of the branches. -/
def MG (i : Fin 8192) (q : Fin 1024) : EReal :=
  sg (Z A i ⟨3072 + q.val, by omega⟩) * YA A i q + sg (Z A i ⟨4096 + q.val, by omega⟩) * YB A i q + sg (Z A i ⟨5120 + q.val, by omega⟩) * YC A i q

/-- Its output product. -/
def MO (i : Fin 8192) (q : Fin 1024) : EReal := ∑ k : Fin 1024, MG A i k * A.wo k q

/-- The residual sum. -/
def XM (i : Fin 8192) (q : Fin 1024) : EReal := A.x i q + A.res ⟨i.val / 4096, by omega⟩ q * MO A i q

end Cert.MixSpec

end
-- ==== Proof.MixWord.lean ====
module

public import proofs.«01_k».proof.Proof.MixSpec
public import Idealize.ShloMosaic.Lib.WordCmp
public import Idealize.ShloMosaic.Lib.Pipeline.ValueKit

@[expose] public section

namespace Cert.MixSpec

open Idealize.ShloMosaic Idealize.ShloMosaic.WordCmp

theorem word (n : ℕ) (h : n < 1048576) : (BitVec.ofNat 32 n).toInt = (n : ℤ) := by
  rw [BitVec.toInt_eq_toNat_of_lt (by rw [BitVec.toNat_ofNat, Nat.mod_eq_of_lt (by omega)]; omega), BitVec.toNat_ofNat, Nat.mod_eq_of_lt (by omega)]

/-- The number of positions a window of `w` covers at position `s`, as the programs count it in words. -/
theorem positions (s w : ℕ) (hs : s < 65536) (hw : w < 65536) :
    (FloatOps.sitofp .f32 (IntOp.minsi (IntOp.addi (BitVec.ofNat 32 s) 1#32) (BitVec.ofNat 32 w)) : Ideal .f32) = (((min (s + 1) w : ℕ) : ℝ) : EReal) := by
  have h1 : IntOp.addi (BitVec.ofNat 32 s) 1#32 = BitVec.ofNat 32 (s + 1) := by rw [IntOp.addi, BitVec.ofNat_add]
  have h2 : IntOp.minsi (BitVec.ofNat 32 (s + 1)) (BitVec.ofNat 32 w) = BitVec.ofNat 32 (min (s + 1) w) := by
    unfold IntOp.minsi
    rw [BitVec.slt, word _ (by omega), word _ (by omega)]
    by_cases h : s + 1 < w
    · rw [if_pos (by simpa using (by omega : (s : ℤ) + 1 < w)), min_eq_left (by omega)]
    · rw [if_neg (by simpa using (by omega : (w : ℤ) ≤ s + 1)), min_eq_right (by omega)]
  rw [h1, h2]
  show (((BitVec.ofNat 32 (min (s + 1) w)).toInt : ℝ) : EReal) = _
  rw [word _ (by omega)]
  norm_cast

theorem zero_word : (FloatOps.sitofp .f32 0#32 : Ideal .f32) = 0 := by
  show (((0#32).toInt : ℝ) : EReal) = 0
  simp

/-- A product with a reciprocal is a quotient. -/
theorem recip (a : EReal) (n : ℕ) (h : 0 < n) : a * Ideal.div 1 ((n : ℝ) : EReal) = Ideal.div a ((n : ℝ) : EReal) := by
  have h0 : ((n : ℝ) : EReal) ≠ 0 := by exact_mod_cast (Nat.pos_iff_ne_zero.mp h)
  rw [Ideal.div, if_neg h0, Ideal.div, if_neg h0, one_mul]

/-- The causal mask, chosen or multiplied. -/
theorem mask_select (i j : ℕ) (hi : i < 128) (hj : j < 128) (x : EReal) :
    Scalar.select (IntOp.cmpi CmpIPredicate.sge (IntOp.addi (BitVec.ofNat 32 i) 0#32) (BitVec.ofNat 32 j)) x 0 = if j ≤ i then x else 0 := by
  have h1 : IntOp.addi (BitVec.ofNat 32 i) 0#32 = BitVec.ofNat 32 i := by simp [IntOp.addi]
  rw [h1, cmpi_sge_ofNat (by omega) (by omega), select_ofBool]
  simp

theorem mask_float (i j : ℕ) (hi : i < 128) (hj : j < 128) :
    (FloatOps.sitofp .f32 ((IntOp.cmpi CmpIPredicate.sge (BitVec.ofNat 32 i) (BitVec.ofNat 32 j)).setWidth 32) : Ideal .f32) = if j ≤ i then (1 : EReal) else 0 := by
  rw [cmpi_sge_ofNat (by omega) (by omega)]
  by_cases h : j ≤ i
  · rw [if_pos h, decide_eq_true h]
    show ((((BitVec.ofBool true).setWidth 32).toInt : ℝ) : EReal) = 1
    rw [show ((BitVec.ofBool true).setWidth 32).toInt = 1 from by decide]; simp
  · rw [if_neg h, decide_eq_false h]
    show ((((BitVec.ofBool false).setWidth 32).toInt : ℝ) : EReal) = 0
    rw [show ((BitVec.ofBool false).setWidth 32).toInt = 0 from by decide]; simp

theorem sum2 (f : ℕ → EReal) : ∑ k : Fin 2, f k.val = f 1 + f 0 := by
  rw [Fin.sum_univ_eq_sum_range f 2]; simp only [Finset.sum_range_succ, Finset.sum_range_zero, zero_add]; exact add_comm _ _

theorem sum4 (f : ℕ → EReal) : ∑ k : Fin 4, f k.val = f 3 + f 2 + f 1 + f 0 := by
  rw [Fin.sum_univ_eq_sum_range f 4]; simp only [Finset.sum_range_succ, Finset.sum_range_zero, zero_add]; ac_rfl

theorem sum8 (f : ℕ → EReal) : ∑ k : Fin 8, f k.val = f 7 + f 6 + f 5 + f 4 + f 3 + f 2 + f 1 + f 0 := by
  rw [Fin.sum_univ_eq_sum_range f 8]; simp only [Finset.sum_range_succ, Finset.sum_range_zero, zero_add]; ac_rfl

theorem sum16 (f : ℕ → EReal) : ∑ k : Fin 16, f k.val = f 15 + f 14 + f 13 + f 12 + f 11 + f 10 + f 9 + f 8 + f 7 + f 6 + f 5 + f 4 + f 3 + f 2 + f 1 + f 0 := by
  rw [Fin.sum_univ_eq_sum_range f 16]; simp only [Finset.sum_range_succ, Finset.sum_range_zero, zero_add]; ac_rfl

end Cert.MixSpec
-- ==== Proof.MixPay.lean ====
module

public import proofs.«01_k».proof.Proof.Gen.KernelMixIdeal.Skeleton
public import proofs.«01_k».proof.Proof.Silu
public import proofs.«01_k».proof.Proof.MixWord
public import Idealize.ShloMosaic.Lib.Pipeline.ValueKit
public import Idealize.ShloMosaic.Lib.KernelVsHost

@[expose] public section

set_option maxRecDepth 16384

noncomputable section

namespace Cert.KernelMixIdeal.Proof

open Cert.KernelMixIdeal Cert.KernelMixIdeal.Gen Idealize.ShloMosaic Idealize.ShloMosaic.TcCoe Idealize.SL.Sem
open Cert.Gelu (gelu)
open Cert.MixSpec

/-- The slabs' columns are columns of the projection. -/
theorem lt0 (k : Fin 768) : 0 + k.val < 6144 := by omega
theorem lt768 (k : Fin 768) : 768 + k.val < 6144 := by omega
theorem lt1536 (k : Fin 768) : 1536 + k.val < 6144 := by omega
theorem lt2304 (k : Fin 768) : 2304 + k.val < 6144 := by omega
theorem lt3072 (k : Fin 768) : 3072 + k.val < 6144 := by omega
theorem lt3840 (k : Fin 768) : 3840 + k.val < 6144 := by omega
theorem lt4608 (k : Fin 768) : 4608 + k.val < 6144 := by omega
theorem lt5376 (k : Fin 768) : 5376 + k.val < 6144 := by omega

theorem kc : (Named.named κ "gelu_kc" 0x3D122279#32 : Ideal .f32) = ((80338380498831 / 2251799813685248 : ℝ) : EReal) :=
  IdealRules.named_const.ideal_named_scalar _ _ _ _ rfl

section Rows

variable (A : Args) (i : Fin 8192) (p : Fin 256)

/-- A row of the normed block. -/
theorem norm_row (x : FVec Ideal S256x1024 .f32) (a b : FVec Ideal S1x1x1x1024 .f32) (g : FVec Ideal S1x1x1024 .f32)
    (hx : ∀ k : Fin 1024, x (ix2 p k) = A.x i k) (ha : ∀ k : Fin 1024, a (ix4 0 0 0 k) = A.shift ⟨i.val / 4096, by omega⟩ k)
    (hb : ∀ k : Fin 1024, b (ix4 0 0 0 k) = A.scale ⟨i.val / 4096, by omega⟩ k) (hg : ∀ k : Fin 1024, g (ix3 0 0 k) = A.g k) (q : Fin 1024) :
    ((k0_pay8 x a b g : FVec Ideal S256x1024 .bf16) (ix2 p q) : EReal) = H A i q := by
  pointwise [k0_pay8, H]
  simp only [hx, ha, hb, hg]

/-- A row of a slab of the projection. -/
theorem slab_row (h : FVec Ideal S256x1024 .bf16) (W : FVec Ideal S1x1024x768 .bf16) (o : ℕ) (ho : o + 768 ≤ 6144)
    (hh : ∀ k : Fin 1024, h (ix2 p k) = H A i k) (q : Fin 768) (hW : ∀ k : Fin 1024, W (ix3 0 k q) = A.wi k ⟨o + q.val, by omega⟩) :
    (∑ k : Fin 1024, h (ix2 p k) * W (ix3 0 k q) : EReal) = Z A i ⟨o + q.val, by omega⟩ := by
  simp only [hh, hW]
  rfl

end Rows

section Slabs

variable (H : FVec Ideal S256x1024 .bf16) (W : FVec Ideal S1x1024x768 .bf16) (p : Fin 256) (q : Fin 768)

theorem slab0_at (x : FVec Ideal S256x1024 .f32) (a b : FVec Ideal S1x1x1x1024 .f32) (g : FVec Ideal S1x1x1024 .f32) :
    ((k0_pay9 x a b g W : FVec Ideal S256x768 .f32) (ix2 p q) : EReal) = ∑ k : Fin 1024, (k0_pay8 x a b g : FVec Ideal S256x1024 .bf16) (ix2 p k) * W (ix3 0 k q) := by pointwise [k0_pay9]
theorem slab1_at : k0_pay11 H W (ix2 p q) = ∑ k : Fin 1024, H (ix2 p k) * W (ix3 0 k q) := by pointwise [k0_pay11]
theorem slab2_at : k0_pay49 H W (ix2 p q) = ∑ k : Fin 1024, H (ix2 p k) * W (ix3 0 k q) := by pointwise [k0_pay49]
theorem slab3_at : k0_pay51 H W (ix2 p q) = ∑ k : Fin 1024, H (ix2 p k) * W (ix3 0 k q) := by pointwise [k0_pay51]
theorem slab4_at : k0_pay61 H W (ix2 p q) = ∑ k : Fin 1024, H (ix2 p k) * W (ix3 0 k q) := by pointwise [k0_pay61]
theorem slab5_at : k0_pay64 H W (ix2 p q) = ∑ k : Fin 1024, H (ix2 p k) * W (ix3 0 k q) := by pointwise [k0_pay64]
theorem slab6_at : k0_pay67 H W (ix2 p q) = ∑ k : Fin 1024, H (ix2 p k) * W (ix3 0 k q) := by pointwise [k0_pay67]
theorem slab7_at : k0_pay69 H W (ix2 p q) = ∑ k : Fin 1024, H (ix2 p k) * W (ix3 0 k q) := by pointwise [k0_pay69]

end Slabs

section Unit

variable (A : Args) (i : Fin 8192) (p : Fin 256)

theorem unit_row (z : FVec Ideal S256x768 .f32) (hz : ∀ k : Fin 768, z (ix2 p k) = Z A i ⟨0 + k.val, by omega⟩) (q : Fin 512) :
    k0_pay14 z (ix2 p q) = gelu (Z A i ⟨q.val, by omega⟩) := by
  pointwise [k0_pay14]
  rw [kc, hz]
  simp only [Nat.zero_add]
  exact Cert.Gelu.gelu_eq _

variable (h : FVec Ideal S256x1024 .bf16) (z : FVec Ideal S256x768 .f32) (W : FVec Ideal S1x1024x768 .bf16)
  (hz : ∀ k : Fin 768, z (ix2 p k) = Z A i ⟨0 + k.val, lt0 k⟩) (hw : ∀ k : Fin 768, k0_pay11 h W (ix2 p k) = Z A i ⟨768 + k.val, lt768 k⟩)

include hz hw

theorem centred_row (q : Fin 512) : k0_pay15 h z W (ix2 p q) = CV A i q := by
  have e : ∀ k : Fin 512, (if h' : k.val < 256 then z (ix2 p ⟨512 + k.val, by omega⟩) else k0_pay11 h W (ix2 p ⟨k.val - 256, by omega⟩)) = Z A i ⟨512 + k.val, by omega⟩ := by
    intro k
    split
    · rw [hz]; exact congrArg (Z A i) (Fin.ext (by show 0 + (512 + k.val) = 512 + k.val; omega))
    · rw [hw]; exact congrArg (Z A i) (Fin.ext (by show 768 + (k.val - 256) = 512 + k.val; omega))
  have s : ∑ k : Fin 512, GV A i k = ∑ k : Fin 256, gelu (z (ix2 p ⟨512 + k.val, by omega⟩)) + ∑ k : Fin 256, gelu (k0_pay11 h W (ix2 p ⟨k.val, by omega⟩)) := by
    rw [Fin.sum_univ_add (a := 256) (b := 256) (fun k => GV A i k)]
    refine Ideal.add_congr (Finset.sum_congr rfl fun k _ => ?_) (Finset.sum_congr rfl fun k _ => ?_)
    · rw [hz]; exact congrArg (fun j => gelu (Z A i j)) (Fin.ext (by show 512 + k.val = 0 + (512 + k.val); omega))
    · rw [hw]; exact congrArg (fun j => gelu (Z A i j)) (Fin.ext (by show 512 + (256 + k.val) = 768 + k.val; omega))
  pointwise [k0_pay15]
  rw [kc, e q]
  unfold CV
  rw [s]
  simp only [GV, ← Cert.Gelu.gelu_eq]

theorem square_row : k0_pay16 h z W (ix2 p 0) = ∑ k : Fin 512, CV A i k * CV A i k := by
  pointwise [k0_pay16]
  simp only [centred_row A i p h z W hz hw]

theorem ln_row (g b : FVec Ideal S1x1x512 .f32) (hg : ∀ k : Fin 512, g (ix3 0 0 k) = A.lg k) (hb : ∀ k : Fin 512, b (ix3 0 0 k) = A.lb k) (q : Fin 512) :
    ((k0_pay22 (k0_pay15 h z W) (k0_pay16 h z W) (Scalar.ofBits .f32 0x44000000#32) g b : FVec Ideal S256x512 .bf16) (ix2 p q) : EReal) = LN A i q := by
  pointwise [k0_pay22, LN]
  rw [centred_row A i p h z W hz hw, square_row A i p h z W hz hw, hg, hb]

end Unit

section Gate

variable (w : FVec Ideal S1x1x128x128 .f32) (i j : Fin 128)

theorem mask_at : (k0_pay17 : FVec Ideal S128x128 .f32) (ix2 i j) = if j.val ≤ i.val then (1 : EReal) else 0 := by
  pointwise [k0_pay17]
  exact mask_float i.val j.val i.isLt j.isLt
theorem mask0_at : ((k0_pay18 w : FVec Ideal S128x128 .bf16) (ix2 i j) : EReal) = w (ix4 0 0 i j) * (if j.val ≤ i.val then 1 else 0) := by
  rw [← mask_at i j]; pointwise [k0_pay18]
theorem mask1_at : ((k0_pay19 w : FVec Ideal S128x128 .bf16) (ix2 i j) : EReal) = w (ix4 0 0 i j) * (if j.val ≤ i.val then 1 else 0) := by
  rw [← mask_at i j]; pointwise [k0_pay19]
theorem mask2_at : ((k0_pay20 w : FVec Ideal S128x128 .bf16) (ix2 i j) : EReal) = w (ix4 0 0 i j) * (if j.val ≤ i.val then 1 else 0) := by
  rw [← mask_at i j]; pointwise [k0_pay20]
theorem mask3_at : ((k0_pay21 w : FVec Ideal S128x128 .bf16) (ix2 i j) : EReal) = w (ix4 0 0 i j) * (if j.val ≤ i.val then 1 else 0) := by
  rw [← mask_at i j]; pointwise [k0_pay21]

variable (m : FVec Ideal S128x128 .bf16) (v : FVec Ideal S256x512 .bf16) (b : FVec Ideal S1x128x512 .f32)

theorem bias_at (q : Fin 512) : k0_pay23 b (ix2 i q) = b (ix3 0 i q) := by pointwise [k0_pay23]
theorem tile0_at : k0_pay24 m v b (ix2 i j) = (∑ k : Fin 128, m (ix2 i k) * v (ix2 ⟨0 + k.val, by omega⟩ ⟨0 + j.val, by omega⟩)) + b (ix3 0 i ⟨0 + j.val, by omega⟩) := by
  pointwise [k0_pay24, k0_pay23]
theorem tile1_at : k0_pay25 m v b (ix2 i j) = (∑ k : Fin 128, m (ix2 i k) * v (ix2 ⟨0 + k.val, by omega⟩ ⟨128 + j.val, by omega⟩)) + b (ix3 0 i ⟨128 + j.val, by omega⟩) := by
  pointwise [k0_pay25, k0_pay23]
theorem tile2_at : k0_pay26 m v b (ix2 i j) = (∑ k : Fin 128, m (ix2 i k) * v (ix2 ⟨0 + k.val, by omega⟩ ⟨256 + j.val, by omega⟩)) + b (ix3 0 i ⟨256 + j.val, by omega⟩) := by
  pointwise [k0_pay26, k0_pay23]
theorem tile3_at : k0_pay27 m v b (ix2 i j) = (∑ k : Fin 128, m (ix2 i k) * v (ix2 ⟨0 + k.val, by omega⟩ ⟨384 + j.val, by omega⟩)) + b (ix3 0 i ⟨384 + j.val, by omega⟩) := by
  pointwise [k0_pay27, k0_pay23]
theorem tile4_at : k0_pay28 m v b (ix2 i j) = (∑ k : Fin 128, m (ix2 i k) * v (ix2 ⟨128 + k.val, by omega⟩ ⟨0 + j.val, by omega⟩)) + b (ix3 0 i ⟨0 + j.val, by omega⟩) := by
  pointwise [k0_pay28, k0_pay23]
theorem tile5_at : k0_pay29 m v (k0_pay23 b) (ix2 i j) = (∑ k : Fin 128, m (ix2 i k) * v (ix2 ⟨128 + k.val, by omega⟩ ⟨128 + j.val, by omega⟩)) + b (ix3 0 i ⟨128 + j.val, by omega⟩) := by
  pointwise [k0_pay29, k0_pay23]
theorem tile6_at : k0_pay30 m v (k0_pay23 b) (ix2 i j) = (∑ k : Fin 128, m (ix2 i k) * v (ix2 ⟨128 + k.val, by omega⟩ ⟨256 + j.val, by omega⟩)) + b (ix3 0 i ⟨256 + j.val, by omega⟩) := by
  pointwise [k0_pay30, k0_pay23]
theorem tile7_at : k0_pay31 m v (k0_pay23 b) (ix2 i j) = (∑ k : Fin 128, m (ix2 i k) * v (ix2 ⟨128 + k.val, by omega⟩ ⟨384 + j.val, by omega⟩)) + b (ix3 0 i ⟨384 + j.val, by omega⟩) := by
  pointwise [k0_pay31, k0_pay23]

end Gate

theorem oa_at (u s : FVec Ideal S256x512 .f32) (p : Fin 256) (q : Fin 512) : ((k0_pay32 u s : FVec Ideal S256x512 .bf16) (ix2 p q) : EReal) = u (ix2 p q) * s (ix2 p q) := by pointwise [k0_pay32]

theorem ya_at (u s : FVec Ideal S256x512 .f32) (w : FVec Ideal S512x1024 .bf16) (p : Fin 256) (q : Fin 1024) : k0_pay33 u s w (ix2 p q) = ∑ k : Fin 512, u (ix2 p k) * s (ix2 p k) * w (ix2 k q) := by pointwise [k0_pay33, k0_pay32]

section Pool

/-- A column of the carried block, by rows. -/
def col (x : FVec Ideal S272x128 .f32) (q : Fin 128) (k : ℕ) : EReal := x (ix2 ⟨k % 272, Nat.mod_lt _ (by omega)⟩ q)

variable (x : FVec Ideal S272x128 .f32) (p : Fin 256) (q : Fin 128)

theorem col_at (k : Fin 272) : x (ix2 k q) = col x q k.val := congrArg (fun k => x (ix2 k q)) (Fin.ext (Nat.mod_eq_of_lt k.isLt).symm)

omit p in
/-- Adding a block to itself moved down by `n` rows adds what stood `n` rows above. -/
theorem moved_at (y : FVec Ideal S272x128 .f32) (n : ℕ) (w : BitVec 32) (hw : w.toNat = n) (hn : n ≤ 8) (f : ℕ → EReal) (l : ℕ)
    (hf : ∀ k : Fin 272, l ≤ k.val → y (ix2 k q) = f k.val) (k : Fin 272) (hk : l + n ≤ k.val) :
    (addf y (dynamicRotate 0 w none y rotates_S272x128_d0) : FVec Ideal S272x128 .f32) (ix2 k q) = f k.val + f (k.val - n) := by
  subst hw
  have e : (k.val + 272 - w.toNat) % 272 = k.val - w.toNat := by
    rw [show k.val + 272 - w.toNat = (k.val - w.toNat) + 272 by omega, Nat.add_mod_right]; exact Nat.mod_eq_of_lt (by omega)
  pointwise
  rw [hf k (by omega), hf ⟨_, _⟩ (by show l ≤ (k.val + 272 - w.toNat % 272) % 272; rw [Nat.mod_eq_of_lt (by omega : w.toNat < 272), e]; omega)]
  refine congrArg (f k.val + f ·) ?_
  show (k.val + 272 - w.toNat % 272) % 272 = k.val - w.toNat
  rw [Nat.mod_eq_of_lt (by omega : w.toNat < 272), e]

theorem lower_at (y : FVec Ideal S272x128 .f32) : (extractStridedSlice S256x128 ![16, 0] y slices_S272x128_o16_0_S256x128 : FVec Ideal S256x128 .f32) (ix2 p q) = y (ix2 ⟨16 + p.val, by omega⟩ q) := by
  pointwise

omit p in
theorem sums2 (k : Fin 272) (hk : 1 ≤ k.val) : (k0_pay36 x : FVec Ideal S272x128 .f32) (ix2 k q) = col x q k.val + col x q (k.val - 1) :=
  moved_at q x 1 1#32 rfl (by omega) (col x q) 0 (fun k _ => col_at x q k) k hk

omit p in
theorem sums4 (k : Fin 272) (hk : 3 ≤ k.val) : (addf (k0_pay36 x) (dynamicRotate 0 2#32 none (k0_pay36 x) rotates_S272x128_d0) : FVec Ideal S272x128 .f32) (ix2 k q) = (col x q k.val + col x q (k.val - 1)) + (col x q (k.val - 2) + col x q (k.val - 2 - 1)) :=
  moved_at q _ 2 2#32 rfl (by omega) (fun k => col x q k + col x q (k - 1)) 1 (fun k h => sums2 x q k h) k (by omega)

omit p in
theorem sums8 (k : Fin 272) (hk : 7 ≤ k.val) : (addf (addf (k0_pay36 x) (dynamicRotate 0 2#32 none (k0_pay36 x) rotates_S272x128_d0)) (dynamicRotate 0 4#32 none (addf (k0_pay36 x) (dynamicRotate 0 2#32 none (k0_pay36 x) rotates_S272x128_d0)) rotates_S272x128_d0) : FVec Ideal S272x128 .f32) (ix2 k q)
    = ((col x q k.val + col x q (k.val - 1)) + (col x q (k.val - 2) + col x q (k.val - 2 - 1))) + ((col x q (k.val - 4) + col x q (k.val - 4 - 1)) + (col x q (k.val - 4 - 2) + col x q (k.val - 4 - 2 - 1))) :=
  moved_at q _ 4 4#32 rfl (by omega) (fun k => (col x q k + col x q (k - 1)) + (col x q (k - 2) + col x q (k - 2 - 1))) 3 (fun k h => sums4 x q k h) k (by omega)

/-- The doubled sums are the sums over the last rows. -/
theorem window2_at : (k0_pay36 x : FVec Ideal S272x128 .f32) (ix2 ⟨16 + p.val, by omega⟩ q) = ∑ j : Fin 2, col x q (16 + p.val - j.val) := by
  rw [sum2 (fun j => col x q (16 + p.val - j)), sums2 x q _ (by show 1 ≤ 16 + p.val; omega)]
  exact add_comm _ _

theorem window4_at : (k0_pay37 x : FVec Ideal S256x128 .f32) (ix2 p q) = ∑ j : Fin 4, col x q (16 + p.val - j.val) := by
  rw [sum4 (fun j => col x q (16 + p.val - j))]
  refine ((lower_at p q _).trans (sums4 x q ⟨16 + p.val, by omega⟩ (by show 3 ≤ 16 + p.val; omega))).trans ?_
  simp only [Nat.sub_sub, Nat.reduceAdd, Nat.sub_zero]
  ac_rfl

theorem window8_at : (k0_pay38 x : FVec Ideal S256x128 .f32) (ix2 p q) = ∑ j : Fin 8, col x q (16 + p.val - j.val) := by
  rw [sum8 (fun j => col x q (16 + p.val - j))]
  refine ((lower_at p q _).trans (sums8 x q ⟨16 + p.val, by omega⟩ (by show 7 ≤ 16 + p.val; omega))).trans ?_
  simp only [Nat.sub_sub, Nat.reduceAdd, Nat.sub_zero]
  ac_rfl

theorem window16_at : (k0_pay39 x : FVec Ideal S256x128 .f32) (ix2 p q) = ∑ j : Fin 16, col x q (16 + p.val - j.val) := by
  rw [sum16 (fun j => col x q (16 + p.val - j))]
  refine ((lower_at p q _).trans (moved_at q _ 8 8#32 rfl (by omega) (fun k => ((col x q k + col x q (k - 1)) + (col x q (k - 2) + col x q (k - 2 - 1))) + ((col x q (k - 4) + col x q (k - 4 - 1)) + (col x q (k - 4 - 2) + col x q (k - 4 - 2 - 1)))) 7 (fun k h => sums8 x q k h) ⟨16 + p.val, by omega⟩ (by show 15 ≤ 16 + p.val; omega))).trans ?_
  simp only [Nat.sub_sub, Nat.reduceAdd, Nat.sub_zero]
  ac_rfl

end Pool

section Means

variable (A : Args) (i : Fin 8192) (p : Fin 256) (q : Fin 128) (t : ℕ) (z : FVec Ideal S256x512 .f32) (s : ℕ → EReal)

/-- The word of a position. -/
theorem place (ht : i.val % 4096 = 256 * (t % 16) + p.val) : IntOp.addi (Scalar.muli (BitVec.ofNat 32 (t % 16)) 256#32) (BitVec.ofNat 32 p.val) = BitVec.ofNat 32 (i.val % 4096) := by
  rw [ht, BitVec.ofNat_add, Nat.mul_comm, BitVec.ofNat_mul]; rfl

/-- The mean over a window, minus the block's own entry. -/
theorem mean_eq (f : ℕ → EReal) (w : ℕ) (c : Fin 512) (hw : 0 < w) (hw' : w ≤ 16) (ht : i.val % 4096 = 256 * (t % 16) + p.val) (x : EReal) (hx : x = XB A i c)
    (hf : ∀ j, j < w → f j = back (XB A) i j c) :
    (∑ j : Fin w, f j.val) * Ideal.div 1 (FloatOps.sitofp .f32 (IntOp.minsi (IntOp.addi (IntOp.addi (Scalar.muli (BitVec.ofNat 32 (t % 16)) 256#32) (BitVec.ofNat 32 p.val)) 1#32) (BitVec.ofNat 32 w)) : Ideal .f32) - x
      = trail (XB A) w i c := by
  rw [place i p t ht, positions _ _ (by omega) (by omega), recip _ _ (by omega), hx, trail]
  exact congrArg (fun a => Ideal.div a _ - _) (Finset.sum_congr rfl fun j _ => hf j.val j.isLt)

end Means

theorem mean2_at (x : FVec Ideal S256x512 .f32) (i : BitVec 32) (s : FVec Ideal S272x128 .f32) (p : Fin 256) (q : Fin 128) : (k0_pay40 x (k0_pay35 i) s : FVec Ideal S256x128 .f32) (ix2 p q)
    = s (ix2 ⟨16 + p.val, by omega⟩ q) * Ideal.div 1 (FloatOps.sitofp .f32 (IntOp.minsi (IntOp.addi (IntOp.addi (Scalar.muli i 256#32) (BitVec.ofNat 32 p.val)) 1#32) (BitVec.ofNat 32 2)) : Ideal .f32) - x (ix2 p ⟨q.val, by omega⟩) := by
  pointwise [k0_pay40, k0_pay35]

theorem mean16_at (x : FVec Ideal S256x512 .f32) (i : BitVec 32) (s : FVec Ideal S256x128 .f32) (p : Fin 256) (q : Fin 128) : (k0_pay42 x (k0_pay35 i) s : FVec Ideal S256x128 .f32) (ix2 p q)
    = s (ix2 p q) * Ideal.div 1 (FloatOps.sitofp .f32 (IntOp.minsi (IntOp.addi (IntOp.addi (Scalar.muli i 256#32) (BitVec.ofNat 32 p.val)) 1#32) (BitVec.ofNat 32 16)) : Ideal .f32) - x (ix2 p ⟨384 + q.val, by omega⟩) := by
  pointwise [k0_pay42, k0_pay35]

theorem mean8_at (x : FVec Ideal S256x512 .f32) (i : BitVec 32) (s : FVec Ideal S256x128 .f32) (p : Fin 256) (q : Fin 128) : ((k0_pay45 x (k0_pay35 i) s : FVec Ideal S256x128 .bf16) (ix2 p q) : EReal)
    = s (ix2 p q) * Ideal.div 1 (FloatOps.sitofp .f32 (IntOp.minsi (IntOp.addi (IntOp.addi (Scalar.muli i 256#32) (BitVec.ofNat 32 p.val)) 1#32) (BitVec.ofNat 32 8)) : Ideal .f32) - x (ix2 p ⟨256 + q.val, by omega⟩) := by
  pointwise [k0_pay45, k0_pay35]

theorem head0_at (y : FVec Ideal S256x128 .f32) (w : FVec Ideal S1x1x128x128 .f32) (p : Fin 256) (q : Fin 128) : (k0_pay43 y w : FVec Ideal S256x128 .f32) (ix2 p q) = ∑ k : Fin 128, y (ix2 p k) * w (ix4 0 0 k q) := by
  pointwise [k0_pay43]

theorem head1_at (x : FVec Ideal S256x512 .f32) (i : BitVec 32) (s : FVec Ideal S256x128 .f32) (w : FVec Ideal S1x1x128x128 .f32) (p : Fin 256) (q : Fin 128) : (k0_pay44 x s (k0_pay41 (k0_pay35 i)) w : FVec Ideal S256x128 .f32) (ix2 p q)
    = ∑ k : Fin 128, (s (ix2 p k) * Ideal.div 1 (FloatOps.sitofp .f32 (IntOp.minsi (IntOp.addi (IntOp.addi (Scalar.muli i 256#32) (BitVec.ofNat 32 p.val)) 1#32) (BitVec.ofNat 32 4)) : Ideal .f32) - x (ix2 p ⟨128 + k.val, by omega⟩)) * w (ix4 0 0 k q) := by
  pointwise [k0_pay44, k0_pay41, k0_pay35]

theorem heads_at (r s y : FVec Ideal S256x128 .f32) (z : FVec Ideal S256x128 .bf16) (w w' : FVec Ideal S1x1x128x128 .f32) (sc : FVec Ideal S1x1x512 .f32) (p : Fin 256) (q : Fin 512) :
    ((k0_pay46 r s y z w w' sc : FVec Ideal S256x512 .bf16) (ix2 p q) : EReal) = (if h : q.val < 128 then s (ix2 p ⟨q.val, h⟩)
      else if h : q.val - 128 < 128 then y (ix2 p ⟨q.val - 128, h⟩)
        else if h : q.val - 128 - 128 < 128 then ∑ k : Fin 128, z (ix2 p k) * w (ix4 0 0 k ⟨q.val - 128 - 128, h⟩)
          else ∑ k : Fin 128, r (ix2 p k) * w' (ix4 0 0 k ⟨q.val - 128 - 128 - 128, by omega⟩)) * sc (ix3 0 0 q) := by
  pointwise [k0_pay46]

theorem yb_at (r s y : FVec Ideal S256x128 .f32) (z : FVec Ideal S256x128 .bf16) (w w' : FVec Ideal S1x1x128x128 .f32) (sc : FVec Ideal S1x1x512 .f32) (W : FVec Ideal S512x1024 .bf16) (p : Fin 256) (q : Fin 1024) :
    (k0_pay47 r s y z w w' sc W : FVec Ideal S256x1024 .f32) (ix2 p q) = ∑ k : Fin 512, (k0_pay46 r s y z w w' sc : FVec Ideal S256x512 .bf16) (ix2 p k) * W (ix2 k q) := by
  pointwise [k0_pay47]

section Conv

variable (A : Args) (i : Fin 8192) (p : Fin 256) (a b : FVec Ideal S256x768 .f32)
  (ha : ∀ k : Fin 768, a (ix2 p k) = Z A i ⟨1536 + k.val, lt1536 k⟩) (hb : ∀ k : Fin 768, b (ix2 p k) = Z A i ⟨2304 + k.val, lt2304 k⟩)

include ha hb

theorem zz_row (q : Fin 512) : k0_pay53 a b (ix2 p q) = ZZ A i q := by
  pointwise [k0_pay53]
  unfold ZZ
  refine Ideal.mul_congr ?_ ?_
  · split
    · rw [ha]; exact congrArg (Z A i) (Fin.ext (by show 1536 + (512 + q.val) = 2048 + q.val; omega))
    · rw [hb]; exact congrArg (Z A i) (Fin.ext (by show 2304 + (q.val - 256) = 2048 + q.val; omega))
  · rw [hb]; exact congrArg (Z A i) (Fin.ext (by show 2304 + (256 + q.val) = 2560 + q.val; omega))

theorem oc_row (w0 w1 w2 : FVec Ideal S1x1x512 .f32) (z0 z1 : FVec Ideal S256x512 .f32) (q : Fin 512)
    (h0 : w0 (ix3 0 0 q) = A.cw 0 q) (h1 : w1 (ix3 0 0 q) = A.cw 1 q) (h2 : w2 (ix3 0 0 q) = A.cw 2 q) (z0' : z0 (ix2 p q) = back (ZZ A) i 2 q) (z1' : z1 (ix2 p q) = back (ZZ A) i 1 q) :
    ((k0_pay55 a b w0 z0 w1 z1 w2 : FVec Ideal S256x512 .bf16) (ix2 p q) : EReal) = OC A i q := by
  have e : ((k0_pay55 a b w0 z0 w1 z1 w2 : FVec Ideal S256x512 .bf16) (ix2 p q) : EReal) = a (ix2 p ⟨q.val, by omega⟩) * (w0 (ix3 0 0 q) * z0 (ix2 p q) + w1 (ix3 0 0 q) * z1 (ix2 p q) + w2 (ix3 0 0 q) * k0_pay53 a b (ix2 p q)) := by
    pointwise [k0_pay55]
  rw [e, ha, h0, h1, h2, z0', z1', zz_row A i p a b ha hb]
  rfl

end Conv

theorem yc_at (a b : FVec Ideal S256x768 .f32) (w0 w1 w2 : FVec Ideal S1x1x512 .f32) (z0 z1 : FVec Ideal S256x512 .f32) (W : FVec Ideal S512x1024 .bf16) (p : Fin 256) (q : Fin 1024) :
    (k0_pay56 a b w0 z0 w1 z1 w2 W : FVec Ideal S256x1024 .f32) (ix2 p q) = ∑ k : Fin 512, (k0_pay55 a b w0 z0 w1 z1 w2 : FVec Ideal S256x512 .bf16) (ix2 p k) * W (ix2 k q) := by
  pointwise [k0_pay56]

section Gates

variable (A : Args) (i : Fin 8192) (p : Fin 256) (h : FVec Ideal S256x1024 .bf16) (a b c W : FVec Ideal S1x1024x768 .bf16)
  (ha : ∀ k : Fin 768, k0_pay61 h a (ix2 p k) = Z A i ⟨3072 + k.val, lt3072 k⟩) (hb : ∀ k : Fin 768, k0_pay64 h b (ix2 p k) = Z A i ⟨3840 + k.val, lt3840 k⟩)
  (hc : ∀ k : Fin 768, k0_pay67 h c (ix2 p k) = Z A i ⟨4608 + k.val, lt4608 k⟩) (hd : ∀ k : Fin 768, k0_pay69 h W (ix2 p k) = Z A i ⟨5376 + k.val, lt5376 k⟩)

include ha hb hc hd

theorem gates_row (q : Fin 3072) : ((k0_pay71 h (k0_pay62 h a) (k0_pay65 h b) (k0_pay67 h c) W : FVec Ideal S256x3072 .bf16) (ix2 p q) : EReal) = Z A i ⟨3072 + q.val, by omega⟩ := by
  pointwise [k0_pay71]
  split
  · exact (ha _).trans (congrArg (Z A i) (Fin.ext (by show 3072 + q.val = 3072 + q.val; omega)))
  split
  · exact (hb _).trans (congrArg (Z A i) (Fin.ext (by show 3840 + (q.val - 768) = 3072 + q.val; omega)))
  split
  · exact (hc _).trans (congrArg (Z A i) (Fin.ext (by show 4608 + (q.val - 768 - 768) = 3072 + q.val; omega)))
  · exact (hd _).trans (congrArg (Z A i) (Fin.ext (by show 5376 + (q.val - 768 - 768 - 768) = 3072 + q.val; omega)))

end Gates

end Cert.KernelMixIdeal.Proof

end
-- ==== Proof.MixBlk.lean ====
module

public import proofs.«01_k».proof.Proof.MixPay
public import Idealize.ShloMosaic.Lib.Pipeline.ReadBack

@[expose] public section

set_option maxRecDepth 16384

noncomputable section

namespace Cert.KernelMixIdeal.Proof

open Cert.KernelMixIdeal Cert.KernelMixIdeal.Gen Idealize.ShloMosaic Idealize.ShloMosaic.TcCoe Idealize.SL.Sem
open Cert.Gelu (gelu)
open Cert.MixSpec

/-- What one grid point works from: its blocks, the weights held in scratch, the four column blocks of the pooling
    branch's rows with their predecessors, and the convolution's rows moved back by two and by one. -/
structure Pt where
  X : FVec Ideal S256x1024 .f32
  R : FVec Ideal S1x1x8x1024 .f32
  G : FVec Ideal S1x1x1024 .f32
  lg : FVec Ideal S1x1x512 .f32
  lb : FVec Ideal S1x1x512 .f32
  ws : FVec Ideal S1x4x128x128 .f32
  b : FVec Ideal S1x128x512 .f32
  pw : FVec Ideal S1x4x128x128 .f32
  ps : FVec Ideal S1x1x512 .f32
  cw : FVec Ideal S1x8x512 .f32
  i : BitVec 32
  s0 : FVec Ideal S8x1024x768 .bf16
  s1 : FVec Ideal S512x1024 .bf16
  s2 : FVec Ideal S512x1024 .bf16
  s3 : FVec Ideal S512x1024 .bf16
  s4 : FVec Ideal S1024x1024 .bf16
  x0 : FVec Ideal S272x128 .f32
  x1 : FVec Ideal S272x128 .f32
  x2 : FVec Ideal S272x128 .f32
  x3 : FVec Ideal S272x128 .f32
  z2 : FVec Ideal S256x512 .f32
  z1 : FVec Ideal S256x512 .f32

namespace Pt

variable (D : Pt)

/-- The normed block and its products with the slabs of the projection. -/
def h : FVec Ideal S256x1024 .bf16 := k0_pay8 D.X (View.ld (Val := Elt Ideal) (S := S1x1x8x1024) (e' := .f32) D.R (Rect.unit (s := S1x1x8x1024) ![0, 0, 0, 0] ![1, 1, 1, 1024] inb_S1x1x8x1024_S1x1x1x1024_0_0_0_0)) (View.ld (Val := Elt Ideal) (S := S1x1x8x1024) (e' := .f32) D.R (Rect.unit (s := S1x1x8x1024) ![0, 0, 1, 0] ![1, 1, 1, 1024] inb_S1x1x8x1024_S1x1x1x1024_0_0_1_0)) D.G
def p0 : FVec Ideal S256x768 .f32 := k0_pay9 D.X (View.ld (Val := Elt Ideal) (S := S1x1x8x1024) (e' := .f32) D.R (Rect.unit (s := S1x1x8x1024) ![0, 0, 0, 0] ![1, 1, 1, 1024] inb_S1x1x8x1024_S1x1x1x1024_0_0_0_0)) (View.ld (Val := Elt Ideal) (S := S1x1x8x1024) (e' := .f32) D.R (Rect.unit (s := S1x1x8x1024) ![0, 0, 1, 0] ![1, 1, 1, 1024] inb_S1x1x8x1024_S1x1x1x1024_0_0_1_0)) D.G (View.ld (Val := Elt Ideal) (S := S8x1024x768) (e' := .bf16) D.s0 (Rect.unit (s := S8x1024x768) ![0, 0, 0] ![1, 1024, 768] inb_S8x1024x768_S1x1024x768_0_0_0))
def w0 : FVec Ideal S1x1024x768 .bf16 := (View.ld (Val := Elt Ideal) (S := S8x1024x768) (e' := .bf16) D.s0 (Rect.unit (s := S8x1024x768) ![0, 0, 0] ![1, 1024, 768] inb_S8x1024x768_S1x1024x768_0_0_0))
def w1 : FVec Ideal S1x1024x768 .bf16 := (View.ld (Val := Elt Ideal) (S := S8x1024x768) (e' := .bf16) D.s0 (Rect.unit (s := S8x1024x768) ![1, 0, 0] ![1, 1024, 768] inb_S8x1024x768_S1x1024x768_1_0_0))
def w2 : FVec Ideal S1x1024x768 .bf16 := (View.ld (Val := Elt Ideal) (S := S8x1024x768) (e' := .bf16) D.s0 (Rect.unit (s := S8x1024x768) ![2, 0, 0] ![1, 1024, 768] inb_S8x1024x768_S1x1024x768_2_0_0))
def w3 : FVec Ideal S1x1024x768 .bf16 := (View.ld (Val := Elt Ideal) (S := S8x1024x768) (e' := .bf16) D.s0 (Rect.unit (s := S8x1024x768) ![3, 0, 0] ![1, 1024, 768] inb_S8x1024x768_S1x1024x768_3_0_0))
def w4 : FVec Ideal S1x1024x768 .bf16 := (View.ld (Val := Elt Ideal) (S := S8x1024x768) (e' := .bf16) D.s0 (Rect.unit (s := S8x1024x768) ![4, 0, 0] ![1, 1024, 768] inb_S8x1024x768_S1x1024x768_4_0_0))
def w5 : FVec Ideal S1x1024x768 .bf16 := (View.ld (Val := Elt Ideal) (S := S8x1024x768) (e' := .bf16) D.s0 (Rect.unit (s := S8x1024x768) ![5, 0, 0] ![1, 1024, 768] inb_S8x1024x768_S1x1024x768_5_0_0))
def w6 : FVec Ideal S1x1024x768 .bf16 := (View.ld (Val := Elt Ideal) (S := S8x1024x768) (e' := .bf16) D.s0 (Rect.unit (s := S8x1024x768) ![6, 0, 0] ![1, 1024, 768] inb_S8x1024x768_S1x1024x768_6_0_0))
def w7 : FVec Ideal S1x1024x768 .bf16 := (View.ld (Val := Elt Ideal) (S := S8x1024x768) (e' := .bf16) D.s0 (Rect.unit (s := S8x1024x768) ![7, 0, 0] ![1, 1024, 768] inb_S8x1024x768_S1x1024x768_7_0_0))

/-- The gated unit's normed operand and its mixture over the positions of a chunk. -/
def vn : FVec Ideal S256x512 .bf16 := k0_pay22 (k0_pay15 D.h D.p0 D.w1) (k0_pay16 D.h D.p0 D.w1) (Scalar.ofBits .f32 0x44000000#32) D.lg D.lb
def tiles : List (View.Piece (Elt Ideal) S256x512 .f32) :=
  [⟨Rect.unit (s := S256x512) ![128, 384] ![128, 128] inb_S256x512_S128x128_128_384, k0_pay31 (k0_pay21 (View.ld (Val := Elt Ideal) (S := S1x4x128x128) (e' := .f32) D.ws (Rect.unit (s := S1x4x128x128) ![0, 3, 0, 0] ![1, 1, 128, 128] inb_S1x4x128x128_S1x1x128x128_0_3_0_0))) D.vn (k0_pay23 D.b)⟩,
   ⟨Rect.unit (s := S256x512) ![128, 256] ![128, 128] inb_S256x512_S128x128_128_256, k0_pay30 (k0_pay20 (View.ld (Val := Elt Ideal) (S := S1x4x128x128) (e' := .f32) D.ws (Rect.unit (s := S1x4x128x128) ![0, 2, 0, 0] ![1, 1, 128, 128] inb_S1x4x128x128_S1x1x128x128_0_2_0_0))) D.vn (k0_pay23 D.b)⟩,
   ⟨Rect.unit (s := S256x512) ![128, 128] ![128, 128] inb_S256x512_S128x128_128_128, k0_pay29 (k0_pay19 (View.ld (Val := Elt Ideal) (S := S1x4x128x128) (e' := .f32) D.ws (Rect.unit (s := S1x4x128x128) ![0, 1, 0, 0] ![1, 1, 128, 128] inb_S1x4x128x128_S1x1x128x128_0_1_0_0))) D.vn (k0_pay23 D.b)⟩,
   ⟨Rect.unit (s := S256x512) ![128, 0] ![128, 128] inb_S256x512_S128x128_128_0, k0_pay28 (k0_pay18 (View.ld (Val := Elt Ideal) (S := S1x4x128x128) (e' := .f32) D.ws (Rect.unit (s := S1x4x128x128) ![0, 0, 0, 0] ![1, 1, 128, 128] inb_S1x4x128x128_S1x1x128x128_0_0_0_0))) D.vn D.b⟩,
   ⟨Rect.unit (s := S256x512) ![0, 384] ![128, 128] inb_S256x512_S128x128_0_384, k0_pay27 (k0_pay21 (View.ld (Val := Elt Ideal) (S := S1x4x128x128) (e' := .f32) D.ws (Rect.unit (s := S1x4x128x128) ![0, 3, 0, 0] ![1, 1, 128, 128] inb_S1x4x128x128_S1x1x128x128_0_3_0_0))) D.vn D.b⟩,
   ⟨Rect.unit (s := S256x512) ![0, 256] ![128, 128] inb_S256x512_S128x128_0_256, k0_pay26 (k0_pay20 (View.ld (Val := Elt Ideal) (S := S1x4x128x128) (e' := .f32) D.ws (Rect.unit (s := S1x4x128x128) ![0, 2, 0, 0] ![1, 1, 128, 128] inb_S1x4x128x128_S1x1x128x128_0_2_0_0))) D.vn D.b⟩,
   ⟨Rect.unit (s := S256x512) ![0, 128] ![128, 128] inb_S256x512_S128x128_0_128, k0_pay25 (k0_pay19 (View.ld (Val := Elt Ideal) (S := S1x4x128x128) (e' := .f32) D.ws (Rect.unit (s := S1x4x128x128) ![0, 1, 0, 0] ![1, 1, 128, 128] inb_S1x4x128x128_S1x1x128x128_0_1_0_0))) D.vn D.b⟩,
   ⟨Rect.unit (s := S256x512) ![0, 0] ![128, 128] inb_S256x512_S128x128_0_0, k0_pay24 (k0_pay18 (View.ld (Val := Elt Ideal) (S := S1x4x128x128) (e' := .f32) D.ws (Rect.unit (s := S1x4x128x128) ![0, 0, 0, 0] ![1, 1, 128, 128] inb_S1x4x128x128_S1x1x128x128_0_0_0_0))) D.vn D.b⟩]
def sp : FVec Ideal S256x512 .f32 := View.ld (Val := Elt Ideal) (S := S256x512) (e' := .f32) (View.canon D.tiles) (Rect.unit (s := S256x512) ![0, 0] ![256, 512] inb_S256x512_S256x512_0_0)

/-- The three branches, before and after their output products. -/
def oa : FVec Ideal S256x512 .bf16 := k0_pay32 (k0_pay14 D.p0) D.sp
def ya : FVec Ideal S256x1024 .f32 := k0_pay33 (k0_pay14 D.p0) D.sp D.s1
def xg : FVec Ideal S256x512 .f32 := k0_pay34 (k0_pay13 D.h D.w1)
def d0 : FVec Ideal S256x128 .f32 := k0_pay40 (k0_pay13 D.h D.w1) (k0_pay35 D.i) (k0_pay36 D.x0)
def d3 : FVec Ideal S256x128 .f32 := k0_pay42 (k0_pay13 D.h D.w1) (k0_pay35 D.i) (k0_pay39 D.x3)
def d2 : FVec Ideal S256x128 .bf16 := k0_pay45 (k0_pay13 D.h D.w1) (k0_pay35 D.i) (k0_pay38 D.x2)
def e1 : FVec Ideal S256x128 .f32 := k0_pay44 (k0_pay13 D.h D.w1) (k0_pay37 D.x1) (k0_pay41 (k0_pay35 D.i)) (View.ld (Val := Elt Ideal) (S := S1x4x128x128) (e' := .f32) D.pw (Rect.unit (s := S1x4x128x128) ![0, 1, 0, 0] ![1, 1, 128, 128] inb_S1x4x128x128_S1x1x128x128_0_1_0_0))
def ob : FVec Ideal S256x512 .bf16 := k0_pay46 D.d3 (k0_pay43 D.d0 (View.ld (Val := Elt Ideal) (S := S1x4x128x128) (e' := .f32) D.pw (Rect.unit (s := S1x4x128x128) ![0, 0, 0, 0] ![1, 1, 128, 128] inb_S1x4x128x128_S1x1x128x128_0_0_0_0))) D.e1 D.d2 (View.ld (Val := Elt Ideal) (S := S1x4x128x128) (e' := .f32) D.pw (Rect.unit (s := S1x4x128x128) ![0, 2, 0, 0] ![1, 1, 128, 128] inb_S1x4x128x128_S1x1x128x128_0_2_0_0)) (View.ld (Val := Elt Ideal) (S := S1x4x128x128) (e' := .f32) D.pw (Rect.unit (s := S1x4x128x128) ![0, 3, 0, 0] ![1, 1, 128, 128] inb_S1x4x128x128_S1x1x128x128_0_3_0_0)) D.ps
def yb : FVec Ideal S256x1024 .f32 := k0_pay47 D.d3 (k0_pay43 D.d0 (View.ld (Val := Elt Ideal) (S := S1x4x128x128) (e' := .f32) D.pw (Rect.unit (s := S1x4x128x128) ![0, 0, 0, 0] ![1, 1, 128, 128] inb_S1x4x128x128_S1x1x128x128_0_0_0_0))) D.e1 D.d2 (View.ld (Val := Elt Ideal) (S := S1x4x128x128) (e' := .f32) D.pw (Rect.unit (s := S1x4x128x128) ![0, 2, 0, 0] ![1, 1, 128, 128] inb_S1x4x128x128_S1x1x128x128_0_2_0_0)) (View.ld (Val := Elt Ideal) (S := S1x4x128x128) (e' := .f32) D.pw (Rect.unit (s := S1x4x128x128) ![0, 3, 0, 0] ![1, 1, 128, 128] inb_S1x4x128x128_S1x1x128x128_0_3_0_0)) D.ps D.s2
def zz : FVec Ideal S256x512 .f32 := k0_pay54 (k0_pay49 D.h D.w2) (k0_pay51 D.h D.w3)
def oc : FVec Ideal S256x512 .bf16 := k0_pay55 (k0_pay49 D.h D.w2) (k0_pay51 D.h D.w3) (View.ld (Val := Elt Ideal) (S := S1x8x512) (e' := .f32) D.cw (Rect.unit (s := S1x8x512) ![0, 0, 0] ![1, 1, 512] inb_S1x8x512_S1x1x512_0_0_0)) D.z2 (View.ld (Val := Elt Ideal) (S := S1x8x512) (e' := .f32) D.cw (Rect.unit (s := S1x8x512) ![0, 1, 0] ![1, 1, 512] inb_S1x8x512_S1x1x512_0_1_0)) D.z1 (View.ld (Val := Elt Ideal) (S := S1x8x512) (e' := .f32) D.cw (Rect.unit (s := S1x8x512) ![0, 2, 0] ![1, 1, 512] inb_S1x8x512_S1x1x512_0_2_0))
def yc : FVec Ideal S256x1024 .f32 := k0_pay56 (k0_pay49 D.h D.w2) (k0_pay51 D.h D.w3) (View.ld (Val := Elt Ideal) (S := S1x8x512) (e' := .f32) D.cw (Rect.unit (s := S1x8x512) ![0, 0, 0] ![1, 1, 512] inb_S1x8x512_S1x1x512_0_0_0)) D.z2 (View.ld (Val := Elt Ideal) (S := S1x8x512) (e' := .f32) D.cw (Rect.unit (s := S1x8x512) ![0, 1, 0] ![1, 1, 512] inb_S1x8x512_S1x1x512_0_1_0)) D.z1 (View.ld (Val := Elt Ideal) (S := S1x8x512) (e' := .f32) D.cw (Rect.unit (s := S1x8x512) ![0, 2, 0] ![1, 1, 512] inb_S1x8x512_S1x1x512_0_2_0)) D.s3

/-- What the point leaves in its seven output blocks. -/
def o1 : FVec Ideal S256x6144 .bf16 := View.canon (Val := Elt Ideal) (s := S256x6144) (e := .bf16) [⟨Rect.unit (s := S256x6144) ![0, 5376] ![256, 768] inb_S256x6144_S256x768_0_5376, k0_pay70 D.h D.w7⟩, ⟨Rect.unit (s := S256x6144) ![0, 4608] ![256, 768] inb_S256x6144_S256x768_0_4608, k0_pay68 (k0_pay67 D.h D.w6)⟩, ⟨Rect.unit (s := S256x6144) ![0, 3840] ![256, 768] inb_S256x6144_S256x768_0_3840, k0_pay65 D.h D.w5⟩, ⟨Rect.unit (s := S256x6144) ![0, 3072] ![256, 768] inb_S256x6144_S256x768_0_3072, k0_pay62 D.h D.w4⟩, ⟨Rect.unit (s := S256x6144) ![0, 2304] ![256, 768] inb_S256x6144_S256x768_0_2304, k0_pay52 D.h D.w3⟩, ⟨Rect.unit (s := S256x6144) ![0, 1536] ![256, 768] inb_S256x6144_S256x768_0_1536, k0_pay50 D.h D.w2⟩, ⟨Rect.unit (s := S256x6144) ![0, 768] ![256, 768] inb_S256x6144_S256x768_0_768, k0_pay12 D.h D.w1⟩, ⟨Rect.unit (s := S256x6144) ![0, 0] ![256, 768] inb_S256x6144_S256x768_0_0, k0_pay10 D.X (View.ld (Val := Elt Ideal) (S := S1x1x8x1024) (e' := .f32) D.R (Rect.unit (s := S1x1x8x1024) ![0, 0, 0, 0] ![1, 1, 1, 1024] inb_S1x1x8x1024_S1x1x1x1024_0_0_0_0)) (View.ld (Val := Elt Ideal) (S := S1x1x8x1024) (e' := .f32) D.R (Rect.unit (s := S1x1x8x1024) ![0, 0, 1, 0] ![1, 1, 1, 1024] inb_S1x1x8x1024_S1x1x1x1024_0_0_1_0)) D.G D.w0⟩]
def o2 : FVec Ideal S256x3072 .bf16 := View.canon (Val := Elt Ideal) (s := S256x3072) (e := .bf16) [⟨Rect.unit (s := S256x3072) ![0, 2048] ![256, 1024] inb_S256x3072_S256x1024_0_2048, k0_pay60 D.yc⟩, ⟨Rect.unit (s := S256x3072) ![0, 1024] ![256, 1024] inb_S256x3072_S256x1024_0_1024, k0_pay59 D.yb⟩, ⟨Rect.unit (s := S256x3072) ![0, 0] ![256, 1024] inb_S256x3072_S256x1024_0_0, k0_pay58 D.ya⟩]
def o3 : FVec Ideal S256x1536 .bf16 := View.canon (Val := Elt Ideal) (s := S256x1536) (e := .bf16) [⟨Rect.unit (s := S256x1536) ![0, 1024] ![256, 512] inb_S256x1536_S256x512_0_1024, D.oc⟩, ⟨Rect.unit (s := S256x1536) ![0, 512] ![256, 512] inb_S256x1536_S256x512_0_512, D.ob⟩, ⟨Rect.unit (s := S256x1536) ![0, 0] ![256, 512] inb_S256x1536_S256x512_0_0, D.oa⟩]
def m0 : FVec Ideal S256x1024 .bf16 := k0_pay72 D.h D.ya D.yb (k0_pay63 D.h D.w4) (k0_pay66 D.h D.w5) (k0_pay67 D.h D.w6) D.w7
def m1 : FVec Ideal S256x1024 .bf16 := k0_pay73 D.h D.yc (k0_pay63 D.h D.w4) (k0_pay66 D.h D.w5) (k0_pay67 D.h D.w6) D.w7
def o4 : FVec Ideal S256x1024 .bf16 := k0_pay1 D.m0 D.m1
def o5 : FVec Ideal S256x1024 .bf16 := k0_pay3 D.m0 D.m1 D.s4
def o6 : FVec Ideal S256x1024 .f32 := k0_pay4 D.X (k0_pay7 (View.ld (Val := Elt Ideal) (S := S1x1x8x1024) (e' := .f32) D.R (Rect.unit (s := S1x1x8x1024) ![0, 0, 2, 0] ![1, 1, 1, 1024] inb_S1x1x8x1024_S1x1x1x1024_0_0_2_0))) D.m0 D.m1 D.s4

end Pt

/-- The row of the arrays that row `p` of point `t` is. -/
def row (t : ℕ) (ht : t < 32) (p : Fin 256) : Fin 8192 := ⟨256 * t + p.val, by omega⟩

/-- What a carried buffer with `n` rows above a point's own holds in its row `k`. -/
def ext (f : Fin 8192 → Fin 512 → EReal) (t n k : ℕ) (q : Fin 512) : EReal :=
  if k < n ∧ t % 16 = 0 then 0 else f ⟨(256 * t + k - n) % 8192, Nat.mod_lt _ (by omega)⟩ q

theorem ext_back (f : Fin 8192 → Fin 512 → EReal) (t n j : ℕ) (ht : t < 32) (p : Fin 256) (hj : j ≤ n) (hn : n ≤ 16) (q : Fin 512) :
    ext f t n (n + p.val - j) q = back f (row t ht p) j q := by
  have hp := p.isLt
  have e : (row t ht p).val % 4096 = 256 * (t % 16) + p.val := by show (256 * t + p.val) % 4096 = _; omega
  unfold ext back
  rw [e]
  by_cases h : n + p.val - j < n ∧ t % 16 = 0
  · rw [if_pos h, if_pos (by omega)]
  · rw [if_neg h, if_neg (by omega)]
    refine congrArg (fun i => f i q) (Fin.ext ?_)
    show (256 * t + (n + p.val - j) - n) % 8192 = 256 * t + p.val - j
    omega

/-- The data of point `t` come from the arguments. -/
structure Pt.Ok (D : Pt) (A : Args) (t : ℕ) (ht : t < 32) : Prop where
  X : ∀ (p : Fin 256) (k : Fin 1024), D.X (ix2 p k) = A.x (row t ht p) k
  R0 : ∀ (p : Fin 256) (k : Fin 1024), D.R (ix4 0 0 0 k) = A.shift ⟨(row t ht p).val / 4096, by omega⟩ k
  R1 : ∀ (p : Fin 256) (k : Fin 1024), D.R (ix4 0 0 1 k) = A.scale ⟨(row t ht p).val / 4096, by omega⟩ k
  R2 : ∀ (p : Fin 256) (k : Fin 1024), D.R (ix4 0 0 2 k) = A.res ⟨(row t ht p).val / 4096, by omega⟩ k
  G : ∀ k : Fin 1024, D.G (ix3 0 0 k) = A.g k
  lg : ∀ k : Fin 512, D.lg (ix3 0 0 k) = A.lg k
  lb : ∀ k : Fin 512, D.lb (ix3 0 0 k) = A.lb k
  ws : ∀ (h : Fin 4) (i j : Fin 128), D.ws (ix4 0 h i j) = A.ws h i j
  b : ∀ (i : Fin 128) (q : Fin 512), D.b (ix3 0 i q) = A.bs ⟨q.val / 128, by omega⟩ i
  pw : ∀ (h : Fin 4) (i j : Fin 128), D.pw (ix4 0 h i j) = A.pw h i j
  ps : ∀ k : Fin 512, D.ps (ix3 0 0 k) = A.ps k
  cw : ∀ (j : Fin 3) (k : Fin 512), D.cw (ix3 0 ⟨j.val, by omega⟩ k) = A.cw j k
  i : D.i = BitVec.ofNat 32 (t % 16)
  s0 : ∀ (j : Fin 8) (k : Fin 1024) (q : Fin 768), D.s0 (ix3 j k q) = A.wi k ⟨768 * j.val + q.val, by omega⟩
  s1 : ∀ (k : Fin 512) (q : Fin 1024), D.s1 (ix2 k q) = A.wa k q
  s2 : ∀ (k : Fin 512) (q : Fin 1024), D.s2 (ix2 k q) = A.wb k q
  s3 : ∀ (k : Fin 512) (q : Fin 1024), D.s3 (ix2 k q) = A.wc k q
  s4 : ∀ (k : Fin 1024) (q : Fin 1024), D.s4 (ix2 k q) = A.wo k q

/-- So do the rows that other points left. -/
structure Pt.Ex (D : Pt) (A : Args) (t : ℕ) : Prop where
  x0 : ∀ (k : Fin 272) (q : Fin 128), D.x0 (ix2 k q) = ext (XB A) t 16 k.val ⟨0 + q.val, by omega⟩
  x1 : ∀ (k : Fin 272) (q : Fin 128), D.x1 (ix2 k q) = ext (XB A) t 16 k.val ⟨128 + q.val, by omega⟩
  x2 : ∀ (k : Fin 272) (q : Fin 128), D.x2 (ix2 k q) = ext (XB A) t 16 k.val ⟨256 + q.val, by omega⟩
  x3 : ∀ (k : Fin 272) (q : Fin 128), D.x3 (ix2 k q) = ext (XB A) t 16 k.val ⟨384 + q.val, by omega⟩
  z2 : ∀ (p : Fin 256) (q : Fin 512), D.z2 (ix2 p q) = ext (ZZ A) t 8 (8 + p.val - 2) q
  z1 : ∀ (p : Fin 256) (q : Fin 512), D.z1 (ix2 p q) = ext (ZZ A) t 8 (8 + p.val - 1) q

namespace Pt

section Rows

variable {D : Pt} {A : Args} {t : ℕ} {ht : t < 32} (g : D.Ok A t ht) (p : Fin 256)

theorem w_at (s : FVec Ideal S8x1024x768 .bf16) (j : Fin 8) (inb) (k : Fin 1024) (q : Fin 768) :
    View.ld (Val := Elt Ideal) (S := S8x1024x768) (e' := .bf16) s (Rect.unit (s := S8x1024x768) ![j.val, 0, 0] ![1, 1024, 768] inb) (ix3 0 k q) = s (ix3 j k q) := by
  pointwise
  blk_ext

theorem head_at (s : FVec Ideal S1x4x128x128 .f32) (h : Fin 4) (inb) (i j : Fin 128) :
    View.ld (Val := Elt Ideal) (S := S1x4x128x128) (e' := .f32) s (Rect.unit (s := S1x4x128x128) ![0, h.val, 0, 0] ![1, 1, 128, 128] inb) (ix4 0 0 i j) = s (ix4 0 h i j) := by
  pointwise
  blk_ext

theorem mod_at (s : FVec Ideal S1x1x8x1024 .f32) (h : Fin 8) (inb) (j : Fin 1024) :
    View.ld (Val := Elt Ideal) (S := S1x1x8x1024) (e' := .f32) s (Rect.unit (s := S1x1x8x1024) ![0, 0, h.val, 0] ![1, 1, 1, 1024] inb) (ix4 0 0 0 j) = s (ix4 0 0 h j) := by
  pointwise
  blk_ext

theorem conv_at (s : FVec Ideal S1x8x512 .f32) (h : Fin 8) (inb) (j : Fin 512) :
    View.ld (Val := Elt Ideal) (S := S1x8x512) (e' := .f32) s (Rect.unit (s := S1x8x512) ![0, h.val, 0] ![1, 1, 512] inb) (ix3 0 0 j) = s (ix3 0 h j) := by
  pointwise
  blk_ext

include g

theorem h_row (q : Fin 1024) : (D.h (ix2 p q) : EReal) = H A (row t ht p) q :=
  norm_row A (row t ht p) p _ _ _ _ (g.X p) (fun k => (mod_at D.R 0 _ k).trans (g.R0 p k)) (fun k => (mod_at D.R 1 _ k).trans (g.R1 p k)) g.G q

theorem p0_row (q : Fin 768) : D.p0 (ix2 p q) = Z A (row t ht p) ⟨0 + q.val, by omega⟩ :=
  (slab0_at _ p q _ _ _ _).trans (slab_row A _ p D.h _ 0 (by omega) (h_row g p) q fun k => (w_at D.s0 0 _ k q).trans (g.s0 0 k q))

theorem p1_row (q : Fin 768) : k0_pay11 D.h D.w1 (ix2 p q) = Z A (row t ht p) ⟨768 + q.val, by omega⟩ :=
  (slab1_at _ _ p q).trans (slab_row A _ p D.h _ 768 (by omega) (h_row g p) q fun k => (w_at D.s0 1 _ k q).trans (g.s0 1 k q))

theorem p2_row (q : Fin 768) : k0_pay49 D.h D.w2 (ix2 p q) = Z A (row t ht p) ⟨1536 + q.val, by omega⟩ :=
  (slab2_at _ _ p q).trans (slab_row A _ p D.h _ 1536 (by omega) (h_row g p) q fun k => (w_at D.s0 2 _ k q).trans (g.s0 2 k q))

theorem p3_row (q : Fin 768) : k0_pay51 D.h D.w3 (ix2 p q) = Z A (row t ht p) ⟨2304 + q.val, by omega⟩ :=
  (slab3_at _ _ p q).trans (slab_row A _ p D.h _ 2304 (by omega) (h_row g p) q fun k => (w_at D.s0 3 _ k q).trans (g.s0 3 k q))

theorem p4_row (q : Fin 768) : k0_pay61 D.h D.w4 (ix2 p q) = Z A (row t ht p) ⟨3072 + q.val, by omega⟩ :=
  (slab4_at _ _ p q).trans (slab_row A _ p D.h _ 3072 (by omega) (h_row g p) q fun k => (w_at D.s0 4 _ k q).trans (g.s0 4 k q))

theorem p5_row (q : Fin 768) : k0_pay64 D.h D.w5 (ix2 p q) = Z A (row t ht p) ⟨3840 + q.val, by omega⟩ :=
  (slab5_at _ _ p q).trans (slab_row A _ p D.h _ 3840 (by omega) (h_row g p) q fun k => (w_at D.s0 5 _ k q).trans (g.s0 5 k q))

theorem p6_row (q : Fin 768) : k0_pay67 D.h D.w6 (ix2 p q) = Z A (row t ht p) ⟨4608 + q.val, by omega⟩ :=
  (slab6_at _ _ p q).trans (slab_row A _ p D.h _ 4608 (by omega) (h_row g p) q fun k => (w_at D.s0 6 _ k q).trans (g.s0 6 k q))

theorem p7_row (q : Fin 768) : k0_pay69 D.h D.w7 (ix2 p q) = Z A (row t ht p) ⟨5376 + q.val, by omega⟩ :=
  (slab7_at _ _ p q).trans (slab_row A _ p D.h _ 5376 (by omega) (h_row g p) q fun k => (w_at D.s0 7 _ k q).trans (g.s0 7 k q))

theorem vn_row (q : Fin 512) : (D.vn (ix2 p q) : EReal) = LN A (row t ht p) q :=
  ln_row A _ p D.h D.p0 D.w1 (p0_row g p) (p1_row g p) D.lg D.lb g.lg g.lb q

/-- A tile of the spatial gate. -/
theorem gate_row (o c : ℕ) (ho : o = 0 ∨ o = 128) (n : Fin 4) (hc : c = 128 * n.val) (m : FVec Ideal S128x128 .bf16) (hm : ∀ i k : Fin 128, (m (ix2 i k) : EReal) = A.ws n i k * (if k.val ≤ i.val then 1 else 0))
    (i j : Fin 128) (q : Fin 512) (hp : p.val = o + i.val) (hq : q.val = c + j.val) (lo : ∀ k : Fin 128, o + k.val < 256) (lc : c + j.val < 512) :
    (∑ k : Fin 128, m (ix2 i k) * D.vn (ix2 ⟨o + k.val, lo k⟩ ⟨c + j.val, lc⟩) : EReal) + D.b (ix3 0 i ⟨c + j.val, lc⟩) = SG A (row t ht p) q := by
  have hr : (row t ht p).val % 128 = i.val := by show (256 * t + p.val) % 128 = i.val; omega
  have hn : q.val / 128 = n.val := by omega
  unfold SG
  refine Ideal.add_congr (Finset.sum_congr rfl fun k _ => ?_) ?_
  · rw [hm, vn_row g]
    refine Ideal.mul_congr ?_ ?_
    · simp only [hr]
      exact congrArg (fun a => A.ws a i k * _) (Fin.ext hn.symm)
    · refine congrArg₂ (LN A) (Fin.ext ?_) (Fin.ext hq.symm)
      show 256 * t + (o + k.val) = 128 * ((256 * t + p.val) / 128) + k.val
      omega
  · rw [g.b]
    exact congrArg₂ A.bs (Fin.ext (by show (c + j.val) / 128 = q.val / 128; omega)) (Fin.ext hr.symm)

theorem cell0 (i j : Fin 128) (q : Fin 512) (hp : p.val = 0 + i.val) (hq : q.val = 0 + j.val) :
    k0_pay24 (k0_pay18 (View.ld (Val := Elt Ideal) (S := S1x4x128x128) (e' := .f32) D.ws (Rect.unit (s := S1x4x128x128) ![0, 0, 0, 0] ![1, 1, 128, 128] inb_S1x4x128x128_S1x1x128x128_0_0_0_0))) D.vn D.b (ix2 i j) = SG A (row t ht p) q := by
  rw [tile0_at]
  exact gate_row g p 0 0 (by omega) 0 rfl _ (fun a k => (mask0_at _ a k).trans (congrArg (· * _) ((head_at D.ws 0 _ a k).trans (g.ws 0 a k)))) i j q hp hq _ _

theorem cell1 (i j : Fin 128) (q : Fin 512) (hp : p.val = 0 + i.val) (hq : q.val = 128 + j.val) :
    k0_pay25 (k0_pay19 (View.ld (Val := Elt Ideal) (S := S1x4x128x128) (e' := .f32) D.ws (Rect.unit (s := S1x4x128x128) ![0, 1, 0, 0] ![1, 1, 128, 128] inb_S1x4x128x128_S1x1x128x128_0_1_0_0))) D.vn D.b (ix2 i j) = SG A (row t ht p) q := by
  rw [tile1_at]
  exact gate_row g p 0 128 (by omega) 1 rfl _ (fun a k => (mask1_at _ a k).trans (congrArg (· * _) ((head_at D.ws 1 _ a k).trans (g.ws 1 a k)))) i j q hp hq _ _

theorem cell2 (i j : Fin 128) (q : Fin 512) (hp : p.val = 0 + i.val) (hq : q.val = 256 + j.val) :
    k0_pay26 (k0_pay20 (View.ld (Val := Elt Ideal) (S := S1x4x128x128) (e' := .f32) D.ws (Rect.unit (s := S1x4x128x128) ![0, 2, 0, 0] ![1, 1, 128, 128] inb_S1x4x128x128_S1x1x128x128_0_2_0_0))) D.vn D.b (ix2 i j) = SG A (row t ht p) q := by
  rw [tile2_at]
  exact gate_row g p 0 256 (by omega) 2 rfl _ (fun a k => (mask2_at _ a k).trans (congrArg (· * _) ((head_at D.ws 2 _ a k).trans (g.ws 2 a k)))) i j q hp hq _ _

theorem cell3 (i j : Fin 128) (q : Fin 512) (hp : p.val = 0 + i.val) (hq : q.val = 384 + j.val) :
    k0_pay27 (k0_pay21 (View.ld (Val := Elt Ideal) (S := S1x4x128x128) (e' := .f32) D.ws (Rect.unit (s := S1x4x128x128) ![0, 3, 0, 0] ![1, 1, 128, 128] inb_S1x4x128x128_S1x1x128x128_0_3_0_0))) D.vn D.b (ix2 i j) = SG A (row t ht p) q := by
  rw [tile3_at]
  exact gate_row g p 0 384 (by omega) 3 rfl _ (fun a k => (mask3_at _ a k).trans (congrArg (· * _) ((head_at D.ws 3 _ a k).trans (g.ws 3 a k)))) i j q hp hq _ _

theorem cell4 (i j : Fin 128) (q : Fin 512) (hp : p.val = 128 + i.val) (hq : q.val = 0 + j.val) :
    k0_pay28 (k0_pay18 (View.ld (Val := Elt Ideal) (S := S1x4x128x128) (e' := .f32) D.ws (Rect.unit (s := S1x4x128x128) ![0, 0, 0, 0] ![1, 1, 128, 128] inb_S1x4x128x128_S1x1x128x128_0_0_0_0))) D.vn D.b (ix2 i j) = SG A (row t ht p) q := by
  rw [tile4_at]
  exact gate_row g p 128 0 (by omega) 0 rfl _ (fun a k => (mask0_at _ a k).trans (congrArg (· * _) ((head_at D.ws 0 _ a k).trans (g.ws 0 a k)))) i j q hp hq _ _

theorem cell5 (i j : Fin 128) (q : Fin 512) (hp : p.val = 128 + i.val) (hq : q.val = 128 + j.val) :
    k0_pay29 (k0_pay19 (View.ld (Val := Elt Ideal) (S := S1x4x128x128) (e' := .f32) D.ws (Rect.unit (s := S1x4x128x128) ![0, 1, 0, 0] ![1, 1, 128, 128] inb_S1x4x128x128_S1x1x128x128_0_1_0_0))) D.vn (k0_pay23 D.b) (ix2 i j) = SG A (row t ht p) q := by
  rw [tile5_at]
  exact gate_row g p 128 128 (by omega) 1 rfl _ (fun a k => (mask1_at _ a k).trans (congrArg (· * _) ((head_at D.ws 1 _ a k).trans (g.ws 1 a k)))) i j q hp hq _ _

theorem cell6 (i j : Fin 128) (q : Fin 512) (hp : p.val = 128 + i.val) (hq : q.val = 256 + j.val) :
    k0_pay30 (k0_pay20 (View.ld (Val := Elt Ideal) (S := S1x4x128x128) (e' := .f32) D.ws (Rect.unit (s := S1x4x128x128) ![0, 2, 0, 0] ![1, 1, 128, 128] inb_S1x4x128x128_S1x1x128x128_0_2_0_0))) D.vn (k0_pay23 D.b) (ix2 i j) = SG A (row t ht p) q := by
  rw [tile6_at]
  exact gate_row g p 128 256 (by omega) 2 rfl _ (fun a k => (mask2_at _ a k).trans (congrArg (· * _) ((head_at D.ws 2 _ a k).trans (g.ws 2 a k)))) i j q hp hq _ _

theorem cell7 (i j : Fin 128) (q : Fin 512) (hp : p.val = 128 + i.val) (hq : q.val = 384 + j.val) :
    k0_pay31 (k0_pay21 (View.ld (Val := Elt Ideal) (S := S1x4x128x128) (e' := .f32) D.ws (Rect.unit (s := S1x4x128x128) ![0, 3, 0, 0] ![1, 1, 128, 128] inb_S1x4x128x128_S1x1x128x128_0_3_0_0))) D.vn (k0_pay23 D.b) (ix2 i j) = SG A (row t ht p) q := by
  rw [tile7_at]
  exact gate_row g p 128 384 (by omega) 3 rfl _ (fun a k => (mask3_at _ a k).trans (congrArg (· * _) ((head_at D.ws 3 _ a k).trans (g.ws 3 a k)))) i j q hp hq _ _

/-- The eight tiles fill it. -/
theorem sp_row (q : Fin 512) : D.sp (ix2 p q) = SG A (row t ht p) q := by
  have e : D.sp = View.canon D.tiles := funext fun j => congrArg (View.canon D.tiles) (by funext a; refine Fin.ext ?_; fin_cases a <;> show 0 + 1 * _ = _ <;> omega)
  rw [e]
  unfold tiles
  generalize hy : (ix2 p q : S256x512.Idx) = y
  have hp : (y 0).val = p.val := by rw [← hy]; rfl
  have hq : (y 1).val = q.val := by rw [← hy]; rfl
  canon_tiles x h
  · rw [eq_ix2 x]; exact cell7 g p (x 0) (x 1) q (hp.symm.trans h0) (hq.symm.trans h1)
  · rw [eq_ix2 x]; exact cell6 g p (x 0) (x 1) q (hp.symm.trans h0) (hq.symm.trans h1)
  · rw [eq_ix2 x]; exact cell5 g p (x 0) (x 1) q (hp.symm.trans h0) (hq.symm.trans h1)
  · rw [eq_ix2 x]; exact cell4 g p (x 0) (x 1) q (hp.symm.trans h0) (hq.symm.trans (h1.trans (Nat.zero_add _).symm))
  · rw [eq_ix2 x]; exact cell3 g p (x 0) (x 1) q (hp.symm.trans (h0.trans (Nat.zero_add _).symm)) (hq.symm.trans h1)
  · rw [eq_ix2 x]; exact cell2 g p (x 0) (x 1) q (hp.symm.trans (h0.trans (Nat.zero_add _).symm)) (hq.symm.trans h1)
  · rw [eq_ix2 x]; exact cell1 g p (x 0) (x 1) q (hp.symm.trans (h0.trans (Nat.zero_add _).symm)) (hq.symm.trans h1)
  · rw [eq_ix2 x]; exact cell0 g p (x 0) (x 1) q (hp.symm.trans (h0.trans (Nat.zero_add _).symm)) (hq.symm.trans (h1.trans (Nat.zero_add _).symm))

theorem oa_row (q : Fin 512) : (D.oa (ix2 p q) : EReal) = OA A (row t ht p) q := by
  refine (oa_at _ _ p q).trans ?_
  rw [sp_row g, unit_row A _ p D.p0 (p0_row g p)]
  rfl

theorem ya_row (q : Fin 1024) : D.ya (ix2 p q) = YA A (row t ht p) q := by
  refine (ya_at _ _ _ p q).trans (Finset.sum_congr rfl fun k _ => ?_)
  rw [sp_row g, unit_row A _ p D.p0 (p0_row g p), g.s1]
  rfl

theorem xg_row (q : Fin 512) : k0_pay13 D.h D.w1 (ix2 p q) = XB A (row t ht p) q := by
  have e : k0_pay13 D.h D.w1 (ix2 p q) = k0_pay11 D.h D.w1 (ix2 p ⟨256 + q.val, by omega⟩) := by pointwise [k0_pay13]
  rw [e, p1_row g]
  exact congrArg (Z A _) (Fin.ext (by show 768 + (256 + q.val) = 1024 + q.val; omega))

theorem stored_row (q : Fin 512) : D.xg (ix2 p q) = XB A (row t ht p) q := by
  have e : D.xg (ix2 p q) = k0_pay13 D.h D.w1 (ix2 p q) := by pointwise [xg, k0_pay34]
  rw [e, xg_row g]

theorem zz_row' (q : Fin 512) : k0_pay53 (k0_pay49 D.h D.w2) (k0_pay51 D.h D.w3) (ix2 p q) = ZZ A (row t ht p) q :=
  zz_row A _ p _ _ (p2_row g p) (p3_row g p) q

theorem kept_row (q : Fin 512) : D.zz (ix2 p q) = ZZ A (row t ht p) q := by
  have e : D.zz (ix2 p q) = k0_pay53 (k0_pay49 D.h D.w2) (k0_pay51 D.h D.w3) (ix2 p q) := by pointwise [zz, k0_pay54]
  rw [e, zz_row' g]

variable (x : D.Ex A t)

include x

theorem place_row : (row t ht p).val % 4096 = 256 * (t % 16) + p.val := by
  have hp := p.isLt
  show (256 * t + p.val) % 4096 = _
  omega

/-- What the pooling branch finds in a column. -/
theorem col_row (y : FVec Ideal S272x128 .f32) (o : ℕ) (ho : o + 128 ≤ 512) (hy : ∀ (k : Fin 272) (q : Fin 128), y (ix2 k q) = ext (XB A) t 16 k.val ⟨o + q.val, by omega⟩) (q : Fin 128) (j : ℕ) (hj : j < 16) :
    col y q (16 + p.val - j) = back (XB A) (row t ht p) j ⟨o + q.val, by omega⟩ := by
  refine (hy _ q).trans ?_
  rw [← ext_back (XB A) t 16 j ht p (by omega) (by omega)]
  exact congrArg (fun k => ext (XB A) t 16 k _) (Nat.mod_eq_of_lt (by omega))

theorem d0_row (q : Fin 128) : D.d0 (ix2 p q) = trail (XB A) 2 (row t ht p) ⟨0 + q.val, by omega⟩ := by
  unfold d0
  rw [g.i, mean2_at, window2_at]
  exact mean_eq A _ p t (fun j => col D.x0 q (16 + p.val - j)) 2 ⟨0 + q.val, by omega⟩ (by omega) (by omega) (place_row g p x) _ ((xg_row g p _).trans (congrArg (XB A _) (Fin.ext (by show q.val = 0 + q.val; omega)))) fun j hj => col_row g p x D.x0 0 (by omega) x.x0 q j (by omega)

theorem d1_row (q : Fin 128) : ((k0_pay37 D.x1 : FVec Ideal S256x128 .f32) (ix2 p q) : EReal) * Ideal.div 1 (FloatOps.sitofp .f32 (IntOp.minsi (IntOp.addi (IntOp.addi (Scalar.muli (BitVec.ofNat 32 (t % 16)) 256#32) (BitVec.ofNat 32 p.val)) 1#32) (BitVec.ofNat 32 4)) : Ideal .f32) - k0_pay13 D.h D.w1 (ix2 p ⟨128 + q.val, by omega⟩)
    = trail (XB A) 4 (row t ht p) ⟨128 + q.val, by omega⟩ := by
  rw [window4_at]
  exact mean_eq A _ p t (fun j => col D.x1 q (16 + p.val - j)) 4 ⟨128 + q.val, by omega⟩ (by omega) (by omega) (place_row g p x) _ (xg_row g p _) fun j hj => col_row g p x D.x1 128 (by omega) x.x1 q j (by omega)

theorem d2_row (q : Fin 128) : (D.d2 (ix2 p q) : EReal) = trail (XB A) 8 (row t ht p) ⟨256 + q.val, by omega⟩ := by
  unfold d2
  rw [g.i, mean8_at, window8_at]
  exact mean_eq A _ p t (fun j => col D.x2 q (16 + p.val - j)) 8 ⟨256 + q.val, by omega⟩ (by omega) (by omega) (place_row g p x) _ (xg_row g p _) fun j hj => col_row g p x D.x2 256 (by omega) x.x2 q j (by omega)

theorem d3_row (q : Fin 128) : D.d3 (ix2 p q) = trail (XB A) 16 (row t ht p) ⟨384 + q.val, by omega⟩ := by
  unfold d3
  rw [g.i, mean16_at, window16_at]
  exact mean_eq A _ p t (fun j => col D.x3 q (16 + p.val - j)) 16 ⟨384 + q.val, by omega⟩ (by omega) (by omega) (place_row g p x) _ (xg_row g p _) fun j hj => col_row g p x D.x3 384 (by omega) x.x3 q j (by omega)

/-- A product of a head's pooled differences with its weight is a column of the branch, but for the scale. -/
theorem ob_col (n : Fin 4) (w : ℕ) (hw : w = win n.val) (q : Fin 512) (j : Fin 128) (hq : q.val = 128 * n.val + j.val) (f : Fin 128 → EReal) (hf : ∀ k : Fin 128, f k = trail (XB A) w (row t ht p) ⟨128 * n.val + k.val, by omega⟩) :
    (∑ k : Fin 128, f k * A.pw n k j) = ∑ k : Fin 128, PD A (row t ht p) ⟨q.val / 128 * 128 + k.val, by omega⟩ * A.pw ⟨q.val / 128, by omega⟩ k ⟨q.val % 128, by omega⟩ := by
  subst hw
  have hn : q.val / 128 = n.val := by omega
  refine Finset.sum_congr rfl fun k _ => ?_
  rw [hf]
  unfold PD
  refine Ideal.mul_congr ?_ ?_
  · have e : (q.val / 128 * 128 + k.val) / 128 = n.val := by omega
    show _ = trail (XB A) (win ((q.val / 128 * 128 + k.val) / 128)) _ _
    rw [e]
    exact congrArg (trail (XB A) _ _) (Fin.ext (by show 128 * n.val + k.val = q.val / 128 * 128 + k.val; omega))
  · have e : (⟨q.val % 128, by omega⟩ : Fin 128) = j := Fin.ext (by show q.val % 128 = j.val; omega)
    rw [e]
    exact congrArg (fun a => A.pw a k j) (Fin.ext hn.symm)

theorem ob_row (q : Fin 512) : (D.ob (ix2 p q) : EReal) = OB A (row t ht p) q := by
  refine (heads_at _ _ _ _ _ _ _ p q).trans ?_
  rw [g.ps]
  unfold OB
  refine Ideal.mul_congr ?_ rfl
  split
  · rename_i h
    rw [← ob_col g p x 0 2 rfl q ⟨q.val, h⟩ (by show q.val = 128 * 0 + q.val; omega) (fun k => D.d0 (ix2 p k)) fun k => d0_row g p x k]
    refine (head0_at _ _ p _).trans (Finset.sum_congr rfl fun k _ => Ideal.mul_congr rfl ((head_at D.pw 0 _ k _).trans (g.pw 0 k _)))
  split
  · rename_i h' h
    rw [← ob_col g p x 1 4 rfl q ⟨q.val - 128, h⟩ (by show q.val = 128 * 1 + (q.val - 128); omega) _ fun k => d1_row g p x k]
    unfold e1
    rw [g.i]
    refine (head1_at _ _ _ _ p _).trans (Finset.sum_congr rfl fun k _ => Ideal.mul_congr rfl ((head_at D.pw 1 _ k _).trans (g.pw 1 k _)))
  split
  · rename_i h'' h' h
    rw [← ob_col g p x 2 8 rfl q ⟨q.val - 128 - 128, h⟩ (by show q.val = 128 * 2 + (q.val - 128 - 128); omega) (fun k => D.d2 (ix2 p k)) fun k => d2_row g p x k]
    exact Finset.sum_congr rfl fun k _ => Ideal.mul_congr rfl ((head_at D.pw 2 _ k _).trans (g.pw 2 k _))
  · rw [← ob_col g p x 3 16 rfl q ⟨q.val - 128 - 128 - 128, by omega⟩ (by show q.val = 128 * 3 + (q.val - 128 - 128 - 128); omega) (fun k => D.d3 (ix2 p k)) fun k => d3_row g p x k]
    exact Finset.sum_congr rfl fun k _ => Ideal.mul_congr rfl ((head_at D.pw 3 _ k _).trans (g.pw 3 k _))

theorem yb_row (q : Fin 1024) : D.yb (ix2 p q) = YB A (row t ht p) q :=
  (yb_at _ _ _ _ _ _ _ _ p q).trans (Finset.sum_congr rfl fun k _ => Ideal.mul_congr (ob_row g p x k) (g.s2 k q))

theorem oc_row' (q : Fin 512) : (D.oc (ix2 p q) : EReal) = OC A (row t ht p) q :=
  oc_row A _ p _ _ (p2_row g p) (p3_row g p) _ _ _ _ _ q ((conv_at D.cw 0 _ q).trans (g.cw 0 q)) ((conv_at D.cw 1 _ q).trans (g.cw 1 q)) ((conv_at D.cw 2 _ q).trans (g.cw 2 q))
    ((x.z2 p q).trans (ext_back (ZZ A) t 8 2 ht p (by omega) (by omega) q)) ((x.z1 p q).trans (ext_back (ZZ A) t 8 1 ht p (by omega) (by omega) q))

theorem yc_row (q : Fin 1024) : D.yc (ix2 p q) = YC A (row t ht p) q :=
  (yc_at _ _ _ _ _ _ _ _ p q).trans (Finset.sum_congr rfl fun k _ => Ideal.mul_congr (oc_row' g p x k) (g.s3 k q))

theorem gate_at (q : Fin 3072) : (k0_pay71 D.h (k0_pay63 D.h D.w4) (k0_pay66 D.h D.w5) (k0_pay67 D.h D.w6) D.w7 (ix2 p q) : EReal) = Z A (row t ht p) ⟨3072 + q.val, by omega⟩ :=
  gates_row A _ p D.h D.w4 D.w5 D.w6 D.w7 (p4_row g p) (p5_row g p) (p6_row g p) (p7_row g p) q

theorem o4_row (q : Fin 1024) : (D.o4 (ix2 p q) : EReal) = MG A (row t ht p) q := by
  have e : (D.o4 (ix2 p q) : EReal) = (Ideal.ofBits .bf16 0x3F00#16 * Ideal.tanh (Ideal.ofBits .bf16 0x3F00#16 * k0_pay71 D.h (k0_pay63 D.h D.w4) (k0_pay66 D.h D.w5) (k0_pay67 D.h D.w6) D.w7 (ix2 p ⟨q.val, by omega⟩)) + Ideal.ofBits .bf16 0x3F00#16) * D.ya (ix2 p q)
      + (Ideal.ofBits .bf16 0x3F00#16 * Ideal.tanh (Ideal.ofBits .bf16 0x3F00#16 * k0_pay71 D.h (k0_pay63 D.h D.w4) (k0_pay66 D.h D.w5) (k0_pay67 D.h D.w6) D.w7 (ix2 p ⟨1024 + q.val, by omega⟩)) + Ideal.ofBits .bf16 0x3F00#16) * D.yb (ix2 p q)
      + (Ideal.ofBits .bf16 0x3F00#16 * Ideal.tanh (Ideal.ofBits .bf16 0x3F00#16 * k0_pay71 D.h (k0_pay63 D.h D.w4) (k0_pay66 D.h D.w5) (k0_pay67 D.h D.w6) D.w7 (ix2 p ⟨2048 + q.val, by omega⟩)) + Ideal.ofBits .bf16 0x3F00#16) * D.yc (ix2 p q) := by
    pointwise [o4, m0, m1, k0_pay1, k0_pay72, k0_pay73]
  rw [e, gate_at g p x, gate_at g p x, gate_at g p x, ya_row g, yb_row g p x, yc_row g p x, Cert.Silu.half]
  simp only [Cert.Silu.logistic]
  unfold MG sg
  refine Ideal.add_congr (Ideal.add_congr rfl ?_) ?_
  · exact congrArg (fun k => Ideal.div 1 (1 + Ideal.exp (-Z A (row t ht p) k)) * _) (Fin.ext (by show 3072 + (1024 + q.val) = 4096 + q.val; omega))
  · exact congrArg (fun k => Ideal.div 1 (1 + Ideal.exp (-Z A (row t ht p) k)) * _) (Fin.ext (by show 3072 + (2048 + q.val) = 5120 + q.val; omega))

theorem o5_row (q : Fin 1024) : (D.o5 (ix2 p q) : EReal) = MO A (row t ht p) q := by
  have e : (D.o5 (ix2 p q) : EReal) = ∑ k : Fin 1024, (D.o4 (ix2 p k) : EReal) * D.s4 (ix2 k q) := by pointwise [o5, o4, k0_pay3, k0_pay2]
  rw [e]
  exact Finset.sum_congr rfl fun k _ => Ideal.mul_congr (o4_row g p x k) (g.s4 k q)

theorem o6_row (q : Fin 1024) : D.o6 (ix2 p q) = XM A (row t ht p) q := by
  have e : D.o6 (ix2 p q) = D.X (ix2 p q) + View.ld (Val := Elt Ideal) (S := S1x1x8x1024) (e' := .f32) D.R (Rect.unit (s := S1x1x8x1024) ![0, 0, 2, 0] ![1, 1, 1, 1024] inb_S1x1x8x1024_S1x1x1x1024_0_0_2_0) (ix4 0 0 0 q) * D.o5 (ix2 p q) := by
    pointwise [o6, o5, k0_pay3, k0_pay4, k0_pay7]
  exact e.trans (Ideal.add_congr (g.X p q) (Ideal.mul_congr ((mod_at D.R 2 _ q).trans (g.R2 p q)) (o5_row g p x q)))

theorem o3_row (q : Fin 1536) : (D.o3 (ix2 p q) : EReal) = OCAT A (row t ht p) q := by
  unfold o3
  generalize hy : (ix2 p q : S256x1536.Idx) = y
  have hp : (y 0).val = p.val := by rw [← hy]; rfl
  have hq : (y 1).val = q.val := by rw [← hy]; rfl
  canon_tiles z h
  all_goals
    rw [eq_ix2 z, show z 0 = p from Fin.ext (h0.symm.trans hp)]
    replace h1 := hq.symm.trans h1
    have hz := z1_lt
    generalize z 1 = j at *
    unfold OCAT
  · rw [dif_neg (by omega), dif_neg (by omega)]
    exact (oc_row' g p x _).trans (congrArg (OC A _) (Fin.ext (by show j.val = q.val - 512 - 512; omega)))
  · rw [dif_neg (by omega), dif_pos (by omega)]
    exact (ob_row g p x _).trans (congrArg (OB A _) (Fin.ext (by show j.val = q.val - 512; omega)))
  · rw [dif_pos (by omega)]
    exact (oa_row g p _).trans (congrArg (OA A _) (Fin.ext (by show j.val = q.val; omega)))

theorem o2_row (q : Fin 3072) : (D.o2 (ix2 p q) : EReal) = YCAT A (row t ht p) q := by
  unfold o2
  generalize hy : (ix2 p q : S256x3072.Idx) = y
  have hp : (y 0).val = p.val := by rw [← hy]; rfl
  have hq : (y 1).val = q.val := by rw [← hy]; rfl
  canon_tiles z h
  all_goals
    rw [eq_ix2 z, show z 0 = p from Fin.ext (h0.symm.trans hp)]
    replace h1 := hq.symm.trans h1
    have hz := z1_lt
    generalize z 1 = j at *
    unfold YCAT
  · rw [dif_neg (by omega), dif_neg (by omega)]
    exact (yc_row g p x j).trans (congrArg (YC A _) (Fin.ext (by show j.val = q.val - 1024 - 1024; omega)))
  · rw [dif_neg (by omega), dif_pos (by omega)]
    exact (yb_row g p x j).trans (congrArg (YB A _) (Fin.ext (by show j.val = q.val - 1024; omega)))
  · rw [dif_pos (by omega)]
    exact (ya_row g p j).trans (congrArg (YA A _) (Fin.ext (by show j.val = q.val; omega)))

omit x in
theorem o1_row (q : Fin 6144) : (D.o1 (ix2 p q) : EReal) = Z A (row t ht p) q := by
  unfold o1
  generalize hy : (ix2 p q : S256x6144.Idx) = y
  have hp : (y 0).val = p.val := by rw [← hy]; rfl
  have hq : (y 1).val = q.val := by rw [← hy]; rfl
  canon_tiles z h
  all_goals
    rw [eq_ix2 z, show z 0 = p from Fin.ext (h0.symm.trans hp)]
    replace h1 := hq.symm.trans h1
    have hz := z1_lt
    generalize z 1 = j at *
  · exact (p7_row g p j).trans (congrArg (Z A _) (Fin.ext (by show 5376 + j.val = q.val; omega)))
  · exact (p6_row g p j).trans (congrArg (Z A _) (Fin.ext (by show 4608 + j.val = q.val; omega)))
  · exact (p5_row g p j).trans (congrArg (Z A _) (Fin.ext (by show 3840 + j.val = q.val; omega)))
  · exact (p4_row g p j).trans (congrArg (Z A _) (Fin.ext (by show 3072 + j.val = q.val; omega)))
  · exact (p3_row g p j).trans (congrArg (Z A _) (Fin.ext (by show 2304 + j.val = q.val; omega)))
  · exact (p2_row g p j).trans (congrArg (Z A _) (Fin.ext (by show 1536 + j.val = q.val; omega)))
  · exact (p1_row g p j).trans (congrArg (Z A _) (Fin.ext (by show 768 + j.val = q.val; omega)))
  · exact (p0_row g p j).trans (congrArg (Z A _) (Fin.ext (by show 0 + j.val = q.val; omega)))

end Rows

end Pt

end Cert.KernelMixIdeal.Proof

end
-- ==== Proof.MixPoint.lean ====
module

public import proofs.«01_k».proof.Proof.MixFrame
public import proofs.«01_k».proof.Proof.MixBlk
public import Idealize.ShloMosaic.Lib.ValueLayout

@[expose] public section

set_option maxRecDepth 16384

noncomputable section

namespace Cert.KernelMixIdeal.Proof

open Cert.KernelMixIdeal Cert.KernelMixIdeal.Gen Idealize.ShloMosaic Idealize.ShloMosaic.TcCoe Idealize.SL.Sem

/-- A load from a buffer that stores filled is a load from what they left. -/
theorem read_stored {s : Shape} {e : EltTy} (v : View sig .tc .vmem s e) (L : List (View.Piece (Elt Ideal) s e)) (r : Rect s) :
    v.readCov L r.toLoadRect = View.ld (View.canon L) r := View.readCov_eq_canon' v L _

theorem canon_copy {s : Shape} {e : EltTy} (Z : s.Idx → Elt Ideal e) : View.canon [⟨Rect.whole s, Z⟩] = Z :=
  View.canon_cons_unit_lit _ Z [] fun _ => rfl

theorem ld_full (X : FVec Ideal S512x1024 .bf16) (inb) : View.ld (Val := Elt Ideal) (S := S512x1024) (e' := .bf16) X (Rect.unit (s := S512x1024) ![0, 0] ![512, 1024] inb) = X :=
  funext fun j => congrArg X (by funext a; refine Fin.ext ?_; fin_cases a <;> show 0 + 1 * _ = _ <;> omega)

theorem ld_full' (X : FVec Ideal S1024x1024 .bf16) (inb) : View.ld (Val := Elt Ideal) (S := S1024x1024) (e' := .bf16) X (Rect.unit (s := S1024x1024) ![0, 0] ![1024, 1024] inb) = X :=
  funext fun j => congrArg X (by funext a; refine Fin.ext ?_; fin_cases a <;> show 0 + 1 * _ = _ <;> omega)

/-- The carried rows under a point's own: `a` from before, or zeros. -/
def pool (a : FVec Ideal S272x512 .f32) (x : FVec Ideal S256x512 .f32) : FVec Ideal S272x512 .f32 :=
  View.read (Elt Ideal) (View.whole cc0_scratch5) ((View.whole cc0_scratch5).writes (Elt Ideal) ((Memref.isWhole_whole cc0_scratch5).unread a) [⟨Rect.unit (s := S272x512) ![16, 0] ![256, 512] inb_S272x512_S256x512_16_0, x⟩])
def conv (a : FVec Ideal S264x512 .f32) (x : FVec Ideal S256x512 .f32) : FVec Ideal S264x512 .f32 :=
  View.read (Elt Ideal) (View.whole cc0_scratch6) ((View.whole cc0_scratch6).writes (Elt Ideal) ((Memref.isWhole_whole cc0_scratch6).unread a) [⟨Rect.unit (s := S264x512) ![8, 0] ![256, 512] inb_S264x512_S256x512_8_0, x⟩])
def pool0 (x : FVec Ideal S256x512 .f32) : FVec Ideal S272x512 .f32 :=
  View.canon (Val := Elt Ideal) (s := S272x512) (e := .f32) [⟨Rect.unit (s := S272x512) ![16, 0] ![256, 512] inb_S272x512_S256x512_16_0, x⟩, ⟨Rect.unit (s := S272x512) ![0, 0] ![16, 512] inb_S272x512_S16x512_0_0, (k0_pay5 : FVec Ideal S16x512 .f32)⟩]
def conv0 (x : FVec Ideal S256x512 .f32) : FVec Ideal S264x512 .f32 :=
  View.canon (Val := Elt Ideal) (s := S264x512) (e := .f32) [⟨Rect.unit (s := S264x512) ![8, 0] ![256, 512] inb_S264x512_S256x512_8_0, x⟩, ⟨Rect.unit (s := S264x512) ![0, 0] ![8, 512] inb_S264x512_S8x512_0_0, (k0_pay6 : FVec Ideal S8x512 .f32)⟩]
def pool1 (x : FVec Ideal S256x512 .f32) : FVec Ideal S272x512 .f32 :=
  View.canon (Val := Elt Ideal) (s := S272x512) (e := .f32) [⟨Rect.unit (s := S272x512) ![16, 0] ![256, 512] inb_S272x512_S256x512_16_0, x⟩]
def conv1 (x : FVec Ideal S256x512 .f32) : FVec Ideal S264x512 .f32 :=
  View.canon (Val := Elt Ideal) (s := S264x512) (e := .f32) [⟨Rect.unit (s := S264x512) ![8, 0] ![256, 512] inb_S264x512_S256x512_8_0, x⟩]

/-- What a point leaves for the next: its last rows above its own. -/
def poolN (L : FVec Ideal S272x512 .f32) (T : List (View.Piece (Elt Ideal) S272x512 .f32)) : FVec Ideal S272x512 .f32 :=
  View.canon (Val := Elt Ideal) (s := S272x512) (e := .f32) (⟨Rect.unit (s := S272x512) ![0, 0] ![16, 512] inb_S272x512_S16x512_0_0, k0_pay48 (View.ld (Val := Elt Ideal) (S := S272x512) (e' := .f32) L (Rect.unit (s := S272x512) ![256, 0] ![16, 512] inb_S272x512_S16x512_256_0))⟩ :: T)
def convN (L : FVec Ideal S264x512 .f32) (T : List (View.Piece (Elt Ideal) S264x512 .f32)) : FVec Ideal S264x512 .f32 :=
  View.canon (Val := Elt Ideal) (s := S264x512) (e := .f32) (⟨Rect.unit (s := S264x512) ![0, 0] ![8, 512] inb_S264x512_S8x512_0_0, k0_pay57 (View.ld (Val := Elt Ideal) (S := S264x512) (e' := .f32) L (Rect.unit (s := S264x512) ![256, 0] ![8, 512] inb_S264x512_S8x512_256_0))⟩ :: T)

/-- A point's data with the rows it finds in the two carried buffers. -/
def Pt.over (D : Pt) (x : FVec Ideal S272x512 .f32) (z : FVec Ideal S264x512 .f32) : Pt :=
  { D with
    x0 := View.ld (Val := Elt Ideal) (S := S272x512) (e' := .f32) x (Rect.unit (s := S272x512) ![0, 0] ![272, 128] inb_S272x512_S272x128_0_0)
    x1 := View.ld (Val := Elt Ideal) (S := S272x512) (e' := .f32) x (Rect.unit (s := S272x512) ![0, 128] ![272, 128] inb_S272x512_S272x128_0_128)
    x2 := View.ld (Val := Elt Ideal) (S := S272x512) (e' := .f32) x (Rect.unit (s := S272x512) ![0, 256] ![272, 128] inb_S272x512_S272x128_0_256)
    x3 := View.ld (Val := Elt Ideal) (S := S272x512) (e' := .f32) x (Rect.unit (s := S272x512) ![0, 384] ![272, 128] inb_S272x512_S272x128_0_384)
    z2 := View.ld (Val := Elt Ideal) (S := S264x512) (e' := .f32) z (Rect.unit (s := S264x512) ![6, 0] ![256, 512] inb_S264x512_S256x512_6_0)
    z1 := View.ld (Val := Elt Ideal) (S := S264x512) (e' := .f32) z (Rect.unit (s := S264x512) ![7, 0] ![256, 512] inb_S264x512_S256x512_7_0) }

/-- What a point leaves in every buffer. -/
def Pt.out (D : Pt) (x : FVec Ideal S272x512 .f32) (z : FVec Ideal S264x512 .f32) : St Ideal :=
  (D.h, D.o1, D.o2, D.o3, D.o4, D.o5, D.o6, D.s0, D.s1, D.s2, D.s3, D.s4, x, z)

variable (m : (ℓ : Loc nD τ sig) → Buf (Elt Ideal) ℓ)

/-- The number of a point's chunk in its sequence, as the kernel computes it. -/
def pos (t : Fin cfg0.N) : BitVec 32 :=
  Scalar.select (Scalar.andi (Scalar.xori (Scalar.cmpi .slt (Scalar.remsi (BitVec.ofNat 32 ↑(grid0.coords t 0)) 16#32) 0#32) 0#1) (Scalar.cmpi .ne (Scalar.remsi (BitVec.ofNat 32 ↑(grid0.coords t 0)) 16#32) 0#32))
    (Scalar.addi (Scalar.remsi (BitVec.ofNat 32 ↑(grid0.coords t 0)) 16#32) 16#32) (Scalar.remsi (BitVec.ofNat 32 ↑(grid0.coords t 0)) 16#32)

/-- The data of a point over given weights. -/
def base (c : Dev nD) (t : Fin cfg0.N) (s0 : FVec Ideal S8x1024x768 .bf16) (s1 s2 s3 : FVec Ideal S512x1024 .bf16) (s4 : FVec Ideal S1024x1024 .bf16) : Pt where
  X := iblk m c 0 t
  R := iblk m c 1 t
  G := iblk m c 2 t
  lg := iblk m c 3 t
  lb := iblk m c 4 t
  ws := iblk m c 5 t
  b := iblk m c 6 t
  pw := iblk m c 7 t
  ps := iblk m c 8 t
  cw := iblk m c 9 t
  i := pos t
  s0 := s0
  s1 := s1
  s2 := s2
  s3 := s3
  s4 := s4
  x0 := fun _ => 0
  x1 := fun _ => 0
  x2 := fun _ => 0
  x3 := fun _ => 0
  z2 := fun _ => 0
  z1 := fun _ => 0

theorem le0 : 0 + 1 ≤ 8 := by omega
theorem le1 : 1 + 1 ≤ 8 := by omega
theorem le2 : 2 + 1 ≤ 8 := by omega
theorem le3 : 3 + 1 ≤ 8 := by omega
theorem le4 : 4 + 1 ≤ 8 := by omega
theorem le5 : 5 + 1 ≤ 8 := by omega
theorem le6 : 6 + 1 ≤ 8 := by omega
theorem le7 : 7 + 1 ≤ 8 := by omega

theorem fits (o : ℕ) (h : o + 128 ≤ 1024) : ∀ a, (![0, o] : Fin 2 → ℕ) a + (![512, 128] : Fin 2 → ℕ) a ≤ S512x1024.size a := by
  intro a
  fin_cases a
  · exact Nat.le_refl 512
  · exact h

theorem held (k : ℕ) (h : k + 1 ≤ 8) : ∀ a, (![k, 0, 0] : Fin 3 → ℕ) a + (![1, 512, 128] : Fin 3 → ℕ) a ≤ S8x512x128.size a := by
  intro a
  fin_cases a
  · exact h
  · exact Nat.le_refl 512
  · exact Nat.le_refl 128

theorem same_size (k : ℕ) (h : k + 1 ≤ 8) : S512x128.numel = (Rect.unit (s := S8x512x128) ![k, 0, 0] ![1, 512, 128] (held k h)).shape.numel := by
  unfold Shape.numel
  rw [Fin.prod_univ_two, Fin.prod_univ_three]
  show (512 * 128 : ℕ) = 1 * 512 * 128
  norm_num

/-- A column block of a weight as it is copied. -/
def piece13 (X : FVec Ideal S8x512x128 .bf16) (k : ℕ) (hk : ∀ a, (![k, 0, 0] : Fin 3 → ℕ) a + (![1, 512, 128] : Fin 3 → ℕ) a ≤ S8x512x128.size a) (hn : S512x128.numel = (Rect.unit (s := S8x512x128) ![k, 0, 0] ![1, 512, 128] hk).shape.numel) : FVec Ideal S512x128 .bf16 :=
  View.read (Elt Ideal) (((View.whole main_v13).slice (Rect.unit (s := S8x512x128) ![k, 0, 0] ![1, 512, 128] hk)).reshape S512x128 hn) X

/-- A weight put together from eight copied column blocks. -/
def copied13 (X : FVec Ideal S8x512x128 .bf16) : FVec Ideal S512x1024 .bf16 :=
  View.canon (Val := Elt Ideal) (s := S512x1024) (e := .bf16) [⟨Rect.unit (s := S512x1024) ![0, 896] ![512, 128] (fits 896 (by omega)), ReadAs.same.apply (piece13 X 7 (held 7 le7) (same_size 7 le7))⟩,
    ⟨Rect.unit (s := S512x1024) ![0, 768] ![512, 128] (fits 768 (by omega)), ReadAs.same.apply (piece13 X 6 (held 6 le6) (same_size 6 le6))⟩,
    ⟨Rect.unit (s := S512x1024) ![0, 640] ![512, 128] (fits 640 (by omega)), ReadAs.same.apply (piece13 X 5 (held 5 le5) (same_size 5 le5))⟩,
    ⟨Rect.unit (s := S512x1024) ![0, 512] ![512, 128] (fits 512 (by omega)), ReadAs.same.apply (piece13 X 4 (held 4 le4) (same_size 4 le4))⟩,
    ⟨Rect.unit (s := S512x1024) ![0, 384] ![512, 128] (fits 384 (by omega)), ReadAs.same.apply (piece13 X 3 (held 3 le3) (same_size 3 le3))⟩,
    ⟨Rect.unit (s := S512x1024) ![0, 256] ![512, 128] (fits 256 (by omega)), ReadAs.same.apply (piece13 X 2 (held 2 le2) (same_size 2 le2))⟩,
    ⟨Rect.unit (s := S512x1024) ![0, 128] ![512, 128] (fits 128 (by omega)), ReadAs.same.apply (piece13 X 1 (held 1 le1) (same_size 1 le1))⟩,
    ⟨Rect.unit (s := S512x1024) ![0, 0] ![512, 128] (fits 0 (by omega)), ReadAs.same.apply (piece13 X 0 (held 0 le0) (same_size 0 le0))⟩]

theorem part13_at (X : FVec Ideal S8x512x128 .bf16) (k : ℕ) (hk : k + 1 ≤ 8) (z : S512x128.Idx) (q : Fin 1024) (p : Fin 512) (hp : p.val = (z 0).val) (hq : q.val = 128 * k + (z 1).val) :
    piece13 X k (held k hk) (same_size k hk) z = X (ix3 ⟨q.val / 128, by omega⟩ p ⟨q.val % 128, by omega⟩) := by
  have hz : (z 1).val < 128 := (z 1).isLt
  have e : Shape.reshapeEquiv (same_size k hk) z = (ix3 (0 : Fin 1) (z 0) (z 1) : (⟨3, ![1, 512, 128]⟩ : Shape).Idx) := by
    rw [eq_ix2 z]; exact Idealize.ShloMosaic.ValueIdx.reshapeEquiv_ix2_1ab _ _ _
  show X ((Rect.unit (s := S8x512x128) ![k, 0, 0] ![1, 512, 128] (held k hk)).emb (Shape.reshapeEquiv (same_size k hk) z)) = _
  rw [e]
  refine congrArg X (funext fun a => Fin.ext ?_)
  fin_cases a
  · show k + 1 * 0 = q.val / 128; omega
  · show 0 + 1 * (z 0).val = p.val; omega
  · show 0 + 1 * (z 1).val = q.val % 128; omega

theorem copied13_at (X : FVec Ideal S8x512x128 .bf16) (k : Fin 512) (q : Fin 1024) : copied13 X (ix2 k q) = X (ix3 ⟨q.val / 128, by omega⟩ k ⟨q.val % 128, by omega⟩) := by
  unfold copied13
  generalize hy : (ix2 k q : S512x1024.Idx) = y
  have hp : (y 0).val = k.val := by rw [← hy]; rfl
  have hq : (y 1).val = q.val := by rw [← hy]; rfl
  canon_tiles z h
  · exact part13_at X 7 le7 z q k (hp.symm.trans h0) (hq.symm.trans h1)
  · exact part13_at X 6 le6 z q k (hp.symm.trans h0) (hq.symm.trans h1)
  · exact part13_at X 5 le5 z q k (hp.symm.trans h0) (hq.symm.trans h1)
  · exact part13_at X 4 le4 z q k (hp.symm.trans h0) (hq.symm.trans h1)
  · exact part13_at X 3 le3 z q k (hp.symm.trans h0) (hq.symm.trans h1)
  · exact part13_at X 2 le2 z q k (hp.symm.trans h0) (hq.symm.trans h1)
  · exact part13_at X 1 le1 z q k (hp.symm.trans h0) (hq.symm.trans h1)
  · exact part13_at X 0 le0 z q k (hp.symm.trans h0) (hq.symm.trans (h1.trans (Nat.zero_add _).symm))

/-- A column block of a weight as it is copied. -/
def piece16 (X : FVec Ideal S8x512x128 .bf16) (k : ℕ) (hk : ∀ a, (![k, 0, 0] : Fin 3 → ℕ) a + (![1, 512, 128] : Fin 3 → ℕ) a ≤ S8x512x128.size a) (hn : S512x128.numel = (Rect.unit (s := S8x512x128) ![k, 0, 0] ![1, 512, 128] hk).shape.numel) : FVec Ideal S512x128 .bf16 :=
  View.read (Elt Ideal) (((View.whole main_v16).slice (Rect.unit (s := S8x512x128) ![k, 0, 0] ![1, 512, 128] hk)).reshape S512x128 hn) X

/-- A weight put together from eight copied column blocks. -/
def copied16 (X : FVec Ideal S8x512x128 .bf16) : FVec Ideal S512x1024 .bf16 :=
  View.canon (Val := Elt Ideal) (s := S512x1024) (e := .bf16) [⟨Rect.unit (s := S512x1024) ![0, 896] ![512, 128] (fits 896 (by omega)), ReadAs.same.apply (piece16 X 7 (held 7 le7) (same_size 7 le7))⟩,
    ⟨Rect.unit (s := S512x1024) ![0, 768] ![512, 128] (fits 768 (by omega)), ReadAs.same.apply (piece16 X 6 (held 6 le6) (same_size 6 le6))⟩,
    ⟨Rect.unit (s := S512x1024) ![0, 640] ![512, 128] (fits 640 (by omega)), ReadAs.same.apply (piece16 X 5 (held 5 le5) (same_size 5 le5))⟩,
    ⟨Rect.unit (s := S512x1024) ![0, 512] ![512, 128] (fits 512 (by omega)), ReadAs.same.apply (piece16 X 4 (held 4 le4) (same_size 4 le4))⟩,
    ⟨Rect.unit (s := S512x1024) ![0, 384] ![512, 128] (fits 384 (by omega)), ReadAs.same.apply (piece16 X 3 (held 3 le3) (same_size 3 le3))⟩,
    ⟨Rect.unit (s := S512x1024) ![0, 256] ![512, 128] (fits 256 (by omega)), ReadAs.same.apply (piece16 X 2 (held 2 le2) (same_size 2 le2))⟩,
    ⟨Rect.unit (s := S512x1024) ![0, 128] ![512, 128] (fits 128 (by omega)), ReadAs.same.apply (piece16 X 1 (held 1 le1) (same_size 1 le1))⟩,
    ⟨Rect.unit (s := S512x1024) ![0, 0] ![512, 128] (fits 0 (by omega)), ReadAs.same.apply (piece16 X 0 (held 0 le0) (same_size 0 le0))⟩]

theorem part16_at (X : FVec Ideal S8x512x128 .bf16) (k : ℕ) (hk : k + 1 ≤ 8) (z : S512x128.Idx) (q : Fin 1024) (p : Fin 512) (hp : p.val = (z 0).val) (hq : q.val = 128 * k + (z 1).val) :
    piece16 X k (held k hk) (same_size k hk) z = X (ix3 ⟨q.val / 128, by omega⟩ p ⟨q.val % 128, by omega⟩) := by
  have hz : (z 1).val < 128 := (z 1).isLt
  have e : Shape.reshapeEquiv (same_size k hk) z = (ix3 (0 : Fin 1) (z 0) (z 1) : (⟨3, ![1, 512, 128]⟩ : Shape).Idx) := by
    rw [eq_ix2 z]; exact Idealize.ShloMosaic.ValueIdx.reshapeEquiv_ix2_1ab _ _ _
  show X ((Rect.unit (s := S8x512x128) ![k, 0, 0] ![1, 512, 128] (held k hk)).emb (Shape.reshapeEquiv (same_size k hk) z)) = _
  rw [e]
  refine congrArg X (funext fun a => Fin.ext ?_)
  fin_cases a
  · show k + 1 * 0 = q.val / 128; omega
  · show 0 + 1 * (z 0).val = p.val; omega
  · show 0 + 1 * (z 1).val = q.val % 128; omega

theorem copied16_at (X : FVec Ideal S8x512x128 .bf16) (k : Fin 512) (q : Fin 1024) : copied16 X (ix2 k q) = X (ix3 ⟨q.val / 128, by omega⟩ k ⟨q.val % 128, by omega⟩) := by
  unfold copied16
  generalize hy : (ix2 k q : S512x1024.Idx) = y
  have hp : (y 0).val = k.val := by rw [← hy]; rfl
  have hq : (y 1).val = q.val := by rw [← hy]; rfl
  canon_tiles z h
  · exact part16_at X 7 le7 z q k (hp.symm.trans h0) (hq.symm.trans h1)
  · exact part16_at X 6 le6 z q k (hp.symm.trans h0) (hq.symm.trans h1)
  · exact part16_at X 5 le5 z q k (hp.symm.trans h0) (hq.symm.trans h1)
  · exact part16_at X 4 le4 z q k (hp.symm.trans h0) (hq.symm.trans h1)
  · exact part16_at X 3 le3 z q k (hp.symm.trans h0) (hq.symm.trans h1)
  · exact part16_at X 2 le2 z q k (hp.symm.trans h0) (hq.symm.trans h1)
  · exact part16_at X 1 le1 z q k (hp.symm.trans h0) (hq.symm.trans h1)
  · exact part16_at X 0 le0 z q k (hp.symm.trans h0) (hq.symm.trans (h1.trans (Nat.zero_add _).symm))

/-- A column block of a weight as it is copied. -/
def piece19 (X : FVec Ideal S8x512x128 .bf16) (k : ℕ) (hk : ∀ a, (![k, 0, 0] : Fin 3 → ℕ) a + (![1, 512, 128] : Fin 3 → ℕ) a ≤ S8x512x128.size a) (hn : S512x128.numel = (Rect.unit (s := S8x512x128) ![k, 0, 0] ![1, 512, 128] hk).shape.numel) : FVec Ideal S512x128 .bf16 :=
  View.read (Elt Ideal) (((View.whole main_v19).slice (Rect.unit (s := S8x512x128) ![k, 0, 0] ![1, 512, 128] hk)).reshape S512x128 hn) X

/-- A weight put together from eight copied column blocks. -/
def copied19 (X : FVec Ideal S8x512x128 .bf16) : FVec Ideal S512x1024 .bf16 :=
  View.canon (Val := Elt Ideal) (s := S512x1024) (e := .bf16) [⟨Rect.unit (s := S512x1024) ![0, 896] ![512, 128] (fits 896 (by omega)), ReadAs.same.apply (piece19 X 7 (held 7 le7) (same_size 7 le7))⟩,
    ⟨Rect.unit (s := S512x1024) ![0, 768] ![512, 128] (fits 768 (by omega)), ReadAs.same.apply (piece19 X 6 (held 6 le6) (same_size 6 le6))⟩,
    ⟨Rect.unit (s := S512x1024) ![0, 640] ![512, 128] (fits 640 (by omega)), ReadAs.same.apply (piece19 X 5 (held 5 le5) (same_size 5 le5))⟩,
    ⟨Rect.unit (s := S512x1024) ![0, 512] ![512, 128] (fits 512 (by omega)), ReadAs.same.apply (piece19 X 4 (held 4 le4) (same_size 4 le4))⟩,
    ⟨Rect.unit (s := S512x1024) ![0, 384] ![512, 128] (fits 384 (by omega)), ReadAs.same.apply (piece19 X 3 (held 3 le3) (same_size 3 le3))⟩,
    ⟨Rect.unit (s := S512x1024) ![0, 256] ![512, 128] (fits 256 (by omega)), ReadAs.same.apply (piece19 X 2 (held 2 le2) (same_size 2 le2))⟩,
    ⟨Rect.unit (s := S512x1024) ![0, 128] ![512, 128] (fits 128 (by omega)), ReadAs.same.apply (piece19 X 1 (held 1 le1) (same_size 1 le1))⟩,
    ⟨Rect.unit (s := S512x1024) ![0, 0] ![512, 128] (fits 0 (by omega)), ReadAs.same.apply (piece19 X 0 (held 0 le0) (same_size 0 le0))⟩]

theorem part19_at (X : FVec Ideal S8x512x128 .bf16) (k : ℕ) (hk : k + 1 ≤ 8) (z : S512x128.Idx) (q : Fin 1024) (p : Fin 512) (hp : p.val = (z 0).val) (hq : q.val = 128 * k + (z 1).val) :
    piece19 X k (held k hk) (same_size k hk) z = X (ix3 ⟨q.val / 128, by omega⟩ p ⟨q.val % 128, by omega⟩) := by
  have hz : (z 1).val < 128 := (z 1).isLt
  have e : Shape.reshapeEquiv (same_size k hk) z = (ix3 (0 : Fin 1) (z 0) (z 1) : (⟨3, ![1, 512, 128]⟩ : Shape).Idx) := by
    rw [eq_ix2 z]; exact Idealize.ShloMosaic.ValueIdx.reshapeEquiv_ix2_1ab _ _ _
  show X ((Rect.unit (s := S8x512x128) ![k, 0, 0] ![1, 512, 128] (held k hk)).emb (Shape.reshapeEquiv (same_size k hk) z)) = _
  rw [e]
  refine congrArg X (funext fun a => Fin.ext ?_)
  fin_cases a
  · show k + 1 * 0 = q.val / 128; omega
  · show 0 + 1 * (z 0).val = p.val; omega
  · show 0 + 1 * (z 1).val = q.val % 128; omega

theorem copied19_at (X : FVec Ideal S8x512x128 .bf16) (k : Fin 512) (q : Fin 1024) : copied19 X (ix2 k q) = X (ix3 ⟨q.val / 128, by omega⟩ k ⟨q.val % 128, by omega⟩) := by
  unfold copied19
  generalize hy : (ix2 k q : S512x1024.Idx) = y
  have hp : (y 0).val = k.val := by rw [← hy]; rfl
  have hq : (y 1).val = q.val := by rw [← hy]; rfl
  canon_tiles z h
  · exact part19_at X 7 le7 z q k (hp.symm.trans h0) (hq.symm.trans h1)
  · exact part19_at X 6 le6 z q k (hp.symm.trans h0) (hq.symm.trans h1)
  · exact part19_at X 5 le5 z q k (hp.symm.trans h0) (hq.symm.trans h1)
  · exact part19_at X 4 le4 z q k (hp.symm.trans h0) (hq.symm.trans h1)
  · exact part19_at X 3 le3 z q k (hp.symm.trans h0) (hq.symm.trans h1)
  · exact part19_at X 2 le2 z q k (hp.symm.trans h0) (hq.symm.trans h1)
  · exact part19_at X 1 le1 z q k (hp.symm.trans h0) (hq.symm.trans h1)
  · exact part19_at X 0 le0 z q k (hp.symm.trans h0) (hq.symm.trans (h1.trans (Nat.zero_add _).symm))

/-- The rest of a point's data when the weights are those of the point before. -/
def late (c : Dev nD) (t : Fin cfg0.N) (p : St Ideal) : Pt :=
  base m c t p.2.2.2.2.2.2.2.1 p.2.2.2.2.2.2.2.2.1 p.2.2.2.2.2.2.2.2.2.1 p.2.2.2.2.2.2.2.2.2.2.1 p.2.2.2.2.2.2.2.2.2.2.2.1

/-- The data of the first point. -/
def first (c : Dev nD) (t : Fin cfg0.N) : Pt :=
  base m c t (V m c main_v10) (copied13 (V m c main_v13)) (copied16 (V m c main_v16)) (copied19 (V m c main_v19)) (V m c main_v20)

end Cert.KernelMixIdeal.Proof

end
-- ==== Proof.MixOk.lean ====
module

public import proofs.«01_k».proof.Proof.MixPoint
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.KernelMixIdeal.Proof

open Cert.KernelMixIdeal Cert.KernelMixIdeal.Gen Cert.MixSpec Idealize.ShloMosaic Idealize.ShloMosaic.TcCoe Idealize.SL.Sem

variable (m : (ℓ : Loc nD τ sig) → Buf (Elt Ideal) ℓ)

/-- The sub-layer's arguments as the kernel is launched with them. -/
def ka (c : Dev nD) : Args :=
  args (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

theorem idx : ∀ t : Fin cfg0.N, win0_0.index t = ![t.val, 0] ∧ win0_1.index t = ![0, t.val / 16, 0, 0] ∧ win0_2.index t = ![0, 0, 0] ∧ win0_3.index t = ![0, 0, 0]
    ∧ win0_4.index t = ![0, 0, 0] ∧ win0_5.index t = ![0, 0, 0, 0] ∧ win0_6.index t = ![0, 0, 0] ∧ win0_7.index t = ![0, 0, 0, 0] ∧ win0_8.index t = ![0, 0, 0] ∧ win0_9.index t = ![0, 0, 0]
    ∧ win0_10.index t = ![t.val, 0] ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

theorem pos_eq : ∀ t : Fin cfg0.N, pos t = BitVec.ofNat 32 (t.val % 16) :=
  (by unfold pos; decide +kernel : ∀ t : Fin grid0.N, _)

theorem x_blk (c : Dev nD) (t : Fin cfg0.N) (p : Fin 256) (k : Fin 1024) : (show FVec Ideal S256x1024 .f32 from iblk m c 0 t) (ix2 p k) = (ka m c).x (row t.val t.isLt p) k := by
  show _ = (show FVec Ideal S8192x1024 .f32 from m ((c : Thread nD τ).loc main_arg0)) (ix2 (row t.val t.isLt p) k)
  unfold row
  blk_ext [iblk, V, idx t]

theorem mod_blk (c : Dev nD) (t : Fin cfg0.N) (r : Fin 8) (q : Fin 1024) (i : Fin 8192) (hi : i.val / 256 = t.val) : (show FVec Ideal S1x1x8x1024 .f32 from iblk m c 1 t) (ix4 0 0 r q)
    = (show FVec Ideal S4x2x8x1024 .f32 from m ((c : Thread nD τ).loc main_arg1)) (ix4 0 ⟨i.val / 4096, by omega⟩ r q) := by
  blk_ext [iblk, V, idx t]

theorem g_arr (c : Dev nD) (k : Fin 1024) : (show FVec Ideal S4x1x1024 .f32 from V m c main_v4) (ix3 0 0 k) = (show FVec Ideal S4x1024 .f32 from m ((c : Thread nD τ).loc main_arg2)) (ix2 0 k) := by
  simp only [V, hostOps0, hostOps0_1, hostOps0_2, List.flatten_cons, List.flatten_nil, List.append_nil, List.cons_append, List.nil_append]
  entry_read; pointwise

theorem g_blk (c : Dev nD) (t : Fin cfg0.N) (k : Fin 1024) : (show FVec Ideal S1x1x1024 .f32 from iblk m c 2 t) (ix3 0 0 k) = (show FVec Ideal S4x1024 .f32 from m ((c : Thread nD τ).loc main_arg2)) (ix2 0 k) := by
  refine Eq.trans ?_ (g_arr m c k)
  show _ = (show FVec Ideal S4x1x1024 .f32 from V m c main_v4) (ix3 0 0 k)
  blk_ext [iblk, idx t]

theorem lg_arr (c : Dev nD) (k : Fin 512) : (show FVec Ideal S4x1x512 .f32 from V m c main_v5) (ix3 0 0 k) = (show FVec Ideal S4x512 .f32 from m ((c : Thread nD τ).loc main_arg3)) (ix2 0 k) := by
  simp only [V, hostOps0, hostOps0_1, hostOps0_2, List.flatten_cons, List.flatten_nil, List.append_nil, List.cons_append, List.nil_append]
  entry_read; pointwise

theorem lg_blk (c : Dev nD) (t : Fin cfg0.N) (k : Fin 512) : (show FVec Ideal S1x1x512 .f32 from iblk m c 3 t) (ix3 0 0 k) = (show FVec Ideal S4x512 .f32 from m ((c : Thread nD τ).loc main_arg3)) (ix2 0 k) := by
  refine Eq.trans ?_ (lg_arr m c k)
  show _ = (show FVec Ideal S4x1x512 .f32 from V m c main_v5) (ix3 0 0 k)
  blk_ext [iblk, idx t]

theorem lb_arr (c : Dev nD) (k : Fin 512) : (show FVec Ideal S4x1x512 .f32 from V m c main_v6) (ix3 0 0 k) = (show FVec Ideal S4x512 .f32 from m ((c : Thread nD τ).loc main_arg4)) (ix2 0 k) := by
  simp only [V, hostOps0, hostOps0_1, hostOps0_2, List.flatten_cons, List.flatten_nil, List.append_nil, List.cons_append, List.nil_append]
  entry_read; pointwise

theorem lb_blk (c : Dev nD) (t : Fin cfg0.N) (k : Fin 512) : (show FVec Ideal S1x1x512 .f32 from iblk m c 4 t) (ix3 0 0 k) = (show FVec Ideal S4x512 .f32 from m ((c : Thread nD τ).loc main_arg4)) (ix2 0 k) := by
  refine Eq.trans ?_ (lb_arr m c k)
  show _ = (show FVec Ideal S4x1x512 .f32 from V m c main_v6) (ix3 0 0 k)
  blk_ext [iblk, idx t]

theorem ws_blk (c : Dev nD) (t : Fin cfg0.N) (h : Fin 4) (i j : Fin 128) : (show FVec Ideal S1x4x128x128 .f32 from iblk m c 5 t) (ix4 0 h i j) = (show FVec Ideal S4x4x128x128 .f32 from m ((c : Thread nD τ).loc main_arg5)) (ix4 0 h i j) := by
  blk_ext [iblk, V, idx t]

theorem b_arr (c : Dev nD) (i : Fin 128) (q : Fin 512) : (show FVec Ideal S4x128x512 .f32 from V m c main_v2) (ix3 0 i q) = (show FVec Ideal S4x4x128 .f32 from m ((c : Thread nD τ).loc main_arg6)) (ix3 0 ⟨q.val / 128, by omega⟩ i) := by
  simp only [V, hostOps0, hostOps0_1, hostOps0_2, List.flatten_cons, List.flatten_nil, List.append_nil, List.cons_append, List.nil_append]
  entry_read; pointwise

theorem b_blk (c : Dev nD) (t : Fin cfg0.N) (i : Fin 128) (q : Fin 512) : (show FVec Ideal S1x128x512 .f32 from iblk m c 6 t) (ix3 0 i q) = (show FVec Ideal S4x4x128 .f32 from m ((c : Thread nD τ).loc main_arg6)) (ix3 0 ⟨q.val / 128, by omega⟩ i) := by
  refine Eq.trans ?_ (b_arr m c i q)
  show _ = (show FVec Ideal S4x128x512 .f32 from V m c main_v2) (ix3 0 i q)
  blk_ext [iblk, idx t]

theorem pw_blk (c : Dev nD) (t : Fin cfg0.N) (h : Fin 4) (i j : Fin 128) : (show FVec Ideal S1x4x128x128 .f32 from iblk m c 7 t) (ix4 0 h i j) = (show FVec Ideal S4x4x128x128 .f32 from m ((c : Thread nD τ).loc main_arg7)) (ix4 0 h i j) := by
  blk_ext [iblk, V, idx t]

theorem ps_arr (c : Dev nD) (k : Fin 512) : (show FVec Ideal S4x1x512 .f32 from V m c main_v7) (ix3 0 0 k) = (show FVec Ideal S4x512 .f32 from m ((c : Thread nD τ).loc main_arg8)) (ix2 0 k) := by
  simp only [V, hostOps0, hostOps0_1, hostOps0_2, List.flatten_cons, List.flatten_nil, List.append_nil, List.cons_append, List.nil_append]
  entry_read; pointwise

theorem ps_blk (c : Dev nD) (t : Fin cfg0.N) (k : Fin 512) : (show FVec Ideal S1x1x512 .f32 from iblk m c 8 t) (ix3 0 0 k) = (show FVec Ideal S4x512 .f32 from m ((c : Thread nD τ).loc main_arg8)) (ix2 0 k) := by
  refine Eq.trans ?_ (ps_arr m c k)
  show _ = (show FVec Ideal S4x1x512 .f32 from V m c main_v7) (ix3 0 0 k)
  blk_ext [iblk, idx t]

theorem cw_arr (c : Dev nD) (j : Fin 3) (k : Fin 512) : (show FVec Ideal S4x8x512 .f32 from V m c main_v3) (ix3 0 ⟨j.val, by omega⟩ k) = (show FVec Ideal S4x3x512 .f32 from m ((c : Thread nD τ).loc main_arg9)) (ix3 0 j k) := by
  simp only [V, hostOps0, hostOps0_1, hostOps0_2, List.flatten_cons, List.flatten_nil, List.append_nil, List.cons_append, List.nil_append]
  entry_read
  refine Eq.trans (show _ = pad S4x8x512 ![0, 0, 0] ![0, 5, 0] ![0, 0, 0] (show FVec Ideal S4x3x512 .f32 from m ((c : Thread nD τ).loc main_arg9)) (sitofp .f32 (constantI S_ 32 0#32)) pads_S4x3x512_S4x8x512_000_050_000 h_S_ (ix3 0 ⟨j.val, by omega⟩ k) from rfl) ?_
  pointwise

theorem cw_blk (c : Dev nD) (t : Fin cfg0.N) (j : Fin 3) (k : Fin 512) : (show FVec Ideal S1x8x512 .f32 from iblk m c 9 t) (ix3 0 ⟨j.val, by omega⟩ k) = (show FVec Ideal S4x3x512 .f32 from m ((c : Thread nD τ).loc main_arg9)) (ix3 0 j k) := by
  refine Eq.trans ?_ (cw_arr m c j k)
  show _ = (show FVec Ideal S4x8x512 .f32 from V m c main_v3) (ix3 0 ⟨j.val, by omega⟩ k)
  blk_ext [iblk, idx t]

/-- The weights as the kernel takes them: slabs of columns. -/
theorem wi_at (c : Dev nD) (j : Fin 8) (k : Fin 1024) (q : Fin 768) : (show FVec Ideal S8x1024x768 .bf16 from V m c main_v10) (ix3 j k q)
    = (show FVec Ideal S1024x6144 .f32 from m ((c : Thread nD τ).loc main_arg10)) (ix2 k ⟨768 * j.val + q.val, by omega⟩) := by
  simp only [V, hostOps0, hostOps0_1, hostOps0_2, List.flatten_cons, List.flatten_nil, List.append_nil, List.cons_append, List.nil_append]
  entry_read; pointwise
  exact congrArg _ (congrArg (ix2 k) (Fin.ext (by show j.val * 768 + q.val = 768 * j.val + q.val; omega)))

theorem wa_at (c : Dev nD) (j : Fin 8) (k : Fin 512) (q : Fin 128) : (show FVec Ideal S8x512x128 .bf16 from V m c main_v13) (ix3 j k q)
    = (show FVec Ideal S512x1024 .f32 from m ((c : Thread nD τ).loc main_arg11)) (ix2 k ⟨128 * j.val + q.val, by omega⟩) := by
  simp only [V, hostOps0, hostOps0_1, hostOps0_2, List.flatten_cons, List.flatten_nil, List.append_nil, List.cons_append, List.nil_append]
  entry_read; pointwise
  exact congrArg _ (congrArg (ix2 k) (Fin.ext (by show j.val * 128 + q.val = 128 * j.val + q.val; omega)))

theorem wb_at (c : Dev nD) (j : Fin 8) (k : Fin 512) (q : Fin 128) : (show FVec Ideal S8x512x128 .bf16 from V m c main_v16) (ix3 j k q)
    = (show FVec Ideal S512x1024 .f32 from m ((c : Thread nD τ).loc main_arg12)) (ix2 k ⟨128 * j.val + q.val, by omega⟩) := by
  simp only [V, hostOps0, hostOps0_1, hostOps0_2, List.flatten_cons, List.flatten_nil, List.append_nil, List.cons_append, List.nil_append]
  entry_read; pointwise
  exact congrArg _ (congrArg (ix2 k) (Fin.ext (by show j.val * 128 + q.val = 128 * j.val + q.val; omega)))

theorem wc_at (c : Dev nD) (j : Fin 8) (k : Fin 512) (q : Fin 128) : (show FVec Ideal S8x512x128 .bf16 from V m c main_v19) (ix3 j k q)
    = (show FVec Ideal S512x1024 .f32 from m ((c : Thread nD τ).loc main_arg13)) (ix2 k ⟨128 * j.val + q.val, by omega⟩) := by
  simp only [V, hostOps0, hostOps0_1, hostOps0_2, List.flatten_cons, List.flatten_nil, List.append_nil, List.cons_append, List.nil_append]
  entry_read; pointwise
  exact congrArg _ (congrArg (ix2 k) (Fin.ext (by show j.val * 128 + q.val = 128 * j.val + q.val; omega)))

theorem wo_at (c : Dev nD) (j) : (show FVec Ideal S1024x1024 .bf16 from V m c main_v20) j
    = (show FVec Ideal S1024x1024 .f32 from m ((c : Thread nD τ).loc main_arg14)) j := by
  simp only [V, hostOps0, hostOps0_1, hostOps0_2, List.flatten_cons, List.flatten_nil, List.append_nil, List.cons_append, List.nil_append]
  entry_read; pointwise

theorem copied13_eq (c : Dev nD) (k : Fin 512) (q : Fin 1024) : copied13 (V m c main_v13) (ix2 k q) = (ka m c).wa k q := by
  rw [copied13_at]
  refine (wa_at m c _ _ _).trans ?_
  show _ = (show FVec Ideal S512x1024 .f32 from m ((c : Thread nD τ).loc main_arg11)) (ix2 k q)
  exact congrArg _ (congrArg (ix2 k) (Fin.ext (by show 128 * (q.val / 128) + q.val % 128 = q.val; omega)))

theorem copied16_eq (c : Dev nD) (k : Fin 512) (q : Fin 1024) : copied16 (V m c main_v16) (ix2 k q) = (ka m c).wb k q := by
  rw [copied16_at]
  refine (wb_at m c _ _ _).trans ?_
  show _ = (show FVec Ideal S512x1024 .f32 from m ((c : Thread nD τ).loc main_arg12)) (ix2 k q)
  exact congrArg _ (congrArg (ix2 k) (Fin.ext (by show 128 * (q.val / 128) + q.val % 128 = q.val; omega)))

theorem copied19_eq (c : Dev nD) (k : Fin 512) (q : Fin 1024) : copied19 (V m c main_v19) (ix2 k q) = (ka m c).wc k q := by
  rw [copied19_at]
  refine (wc_at m c _ _ _).trans ?_
  show _ = (show FVec Ideal S512x1024 .f32 from m ((c : Thread nD τ).loc main_arg13)) (ix2 k q)
  exact congrArg _ (congrArg (ix2 k) (Fin.ext (by show 128 * (q.val / 128) + q.val % 128 = q.val; omega)))

/-- What the weights' buffers must hold. -/
structure Held (A : Args) (s0 : FVec Ideal S8x1024x768 .bf16) (s1 s2 s3 : FVec Ideal S512x1024 .bf16) (s4 : FVec Ideal S1024x1024 .bf16) : Prop where
  s0 : ∀ (j : Fin 8) (k : Fin 1024) (q : Fin 768), s0 (ix3 j k q) = A.wi k ⟨768 * j.val + q.val, by omega⟩
  s1 : ∀ (k : Fin 512) (q : Fin 1024), s1 (ix2 k q) = A.wa k q
  s2 : ∀ (k : Fin 512) (q : Fin 1024), s2 (ix2 k q) = A.wb k q
  s3 : ∀ (k : Fin 512) (q : Fin 1024), s3 (ix2 k q) = A.wc k q
  s4 : ∀ (k : Fin 1024) (q : Fin 1024), s4 (ix2 k q) = A.wo k q

theorem held_first (c : Dev nD) : Held (ka m c) (V m c main_v10) (copied13 (V m c main_v13)) (copied16 (V m c main_v16)) (copied19 (V m c main_v19)) (V m c main_v20) :=
  ⟨wi_at m c, copied13_eq m c, copied16_eq m c, copied19_eq m c, fun k q => wo_at m c (ix2 k q)⟩

set_option maxHeartbeats 2000000 in
/-- A point's data are what its rows need. -/
theorem base_ok (c : Dev nD) (t : Fin cfg0.N) (s0 : FVec Ideal S8x1024x768 .bf16) (s1 s2 s3 : FVec Ideal S512x1024 .bf16) (s4 : FVec Ideal S1024x1024 .bf16)
    (w : Held (ka m c) s0 s1 s2 s3 s4) : (base m c t s0 s1 s2 s3 s4).Ok (ka m c) t.val t.isLt := by
  constructor
  · exact x_blk m c t
  · exact fun p k => mod_blk m c t 0 k (row t.val t.isLt p) (by show (256 * t.val + p.val) / 256 = t.val; omega)
  · exact fun p k => mod_blk m c t 1 k (row t.val t.isLt p) (by show (256 * t.val + p.val) / 256 = t.val; omega)
  · exact fun p k => mod_blk m c t 2 k (row t.val t.isLt p) (by show (256 * t.val + p.val) / 256 = t.val; omega)
  · exact g_blk m c t
  · exact lg_blk m c t
  · exact lb_blk m c t
  · exact ws_blk m c t
  · exact b_blk m c t
  · exact pw_blk m c t
  · exact ps_blk m c t
  · exact cw_blk m c t
  · exact pos_eq t
  · exact w.s0
  · exact w.s1
  · exact w.s2
  · exact w.s3
  · exact w.s4

theorem over_ok (D : Pt) (A : Args) (t : ℕ) (ht : t < 32) (x : FVec Ideal S272x512 .f32) (z : FVec Ideal S264x512 .f32) (g : D.Ok A t ht) : (D.over x z).Ok A t ht :=
  ⟨g.X, g.R0, g.R1, g.R2, g.G, g.lg, g.lb, g.ws, g.b, g.pw, g.ps, g.cw, g.i, g.s0, g.s1, g.s2, g.s3, g.s4⟩

end Cert.KernelMixIdeal.Proof

end
-- ==== Proof.MixHalo.lean ====
module

public import proofs.«01_k».proof.Proof.MixPoint
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.KernelMixIdeal.Proof

open Cert.KernelMixIdeal Cert.KernelMixIdeal.Gen Cert.MixSpec Idealize.ShloMosaic Idealize.ShloMosaic.TcCoe Idealize.SL.Sem

theorem pool_lo (a : FVec Ideal S272x512 .f32) (x : FVec Ideal S256x512 .f32) (k : Fin 272) (q : Fin 512) (hk : k.val < 16) : pool a x (ix2 k q) = a (ix2 k q) := by
  unfold pool
  rw [View.read_writes_cons_rows_of_not_mem (o := 16) (W := 256) _ _ _ _ _ _ rfl rfl (Or.inl hk)]
  show View.read (Elt Ideal) (View.whole cc0_scratch5) ((Memref.isWhole_whole cc0_scratch5).unread a) (ix2 k q) = a (ix2 k q)
  rw [Memref.IsWhole.read_unread (Memref.isWhole_whole cc0_scratch5)]

theorem pool_hi (a : FVec Ideal S272x512 .f32) (x : FVec Ideal S256x512 .f32) (k : Fin 272) (q : Fin 512) (p : Fin 256) (hk : k.val = 16 + p.val) : pool a x (ix2 k q) = x (ix2 p q) := by
  unfold pool
  exact View.read_writes_cons_rows_of_mem (o := 16) _ _ _ _ _ _ (ix2 p q) rfl hk rfl

/-- The same of a buffer known by what was stored. -/
theorem pool_top (x : FVec Ideal S256x512 .f32) (T : List (View.Piece (Elt Ideal) S272x512 .f32)) (k : Fin 272) (q : Fin 512) (p : Fin 256) (hk : k.val = 16 + p.val) :
    View.canon (Val := Elt Ideal) (s := S272x512) (e := .f32) (⟨Rect.unit (s := S272x512) ![16, 0] ![256, 512] inb_S272x512_S256x512_16_0, x⟩ :: T) (ix2 k q) = x (ix2 p q) := by
  have e : (Rect.unit (s := S272x512) ![16, 0] ![256, 512] inb_S272x512_S256x512_16_0).emb (ix2 p q) = ix2 k q :=
    funext fun a => Fin.ext (by fin_cases a; exacts [(by show 16 + 1 * p.val = k.val; omega), (by show 0 + 1 * q.val = q.val; omega)])
  rw [← e]
  exact View.canon_cons_emb _ _ _ _

theorem pool_skip (x : FVec Ideal S256x512 .f32) (T : List (View.Piece (Elt Ideal) S272x512 .f32)) (k : Fin 272) (q : Fin 512) (hk : k.val < 16) :
    View.canon (Val := Elt Ideal) (s := S272x512) (e := .f32) (⟨Rect.unit (s := S272x512) ![16, 0] ![256, 512] inb_S272x512_S256x512_16_0, x⟩ :: T) (ix2 k q) = View.canon T (ix2 k q) := by
  refine View.canon_cons_of_not_mem _ _ fun hm => ?_
  have h0 : 16 ≤ k.val := ((Rect.mem_set_unit (inb := inb_S272x512_S256x512_16_0)).mp hm 0).1
  omega

theorem pool_bot (x : FVec Ideal S16x512 .f32) (T : List (View.Piece (Elt Ideal) S272x512 .f32)) (k : Fin 272) (q : Fin 512) (p : Fin 16) (hk : k.val = p.val) :
    View.canon (Val := Elt Ideal) (s := S272x512) (e := .f32) (⟨Rect.unit (s := S272x512) ![0, 0] ![16, 512] inb_S272x512_S16x512_0_0, x⟩ :: T) (ix2 k q) = x (ix2 p q) := by
  have e : (Rect.unit (s := S272x512) ![0, 0] ![16, 512] inb_S272x512_S16x512_0_0).emb (ix2 p q) = ix2 k q :=
    funext fun a => Fin.ext (by fin_cases a; exacts [(by show 0 + 1 * p.val = k.val; omega), (by show 0 + 1 * q.val = q.val; omega)])
  rw [← e]
  exact View.canon_cons_emb _ _ _ _

theorem pool_off (x : FVec Ideal S16x512 .f32) (T : List (View.Piece (Elt Ideal) S272x512 .f32)) (k : Fin 272) (q : Fin 512) (hk : 16 ≤ k.val) :
    View.canon (Val := Elt Ideal) (s := S272x512) (e := .f32) (⟨Rect.unit (s := S272x512) ![0, 0] ![16, 512] inb_S272x512_S16x512_0_0, x⟩ :: T) (ix2 k q) = View.canon T (ix2 k q) := by
  refine View.canon_cons_of_not_mem _ _ fun hm => ?_
  have h0 : k.val < 0 + 16 := ((Rect.mem_set_unit (inb := inb_S272x512_S16x512_0_0)).mp hm 0).2
  omega

theorem pool0_lo (x : FVec Ideal S256x512 .f32) (k : Fin 272) (q : Fin 512) (hk : k.val < 16) : pool0 x (ix2 k q) = 0 := by
  unfold pool0
  rw [pool_skip _ _ _ _ hk, pool_bot _ _ k q ⟨k.val, hk⟩ rfl]
  pointwise [k0_pay5]

theorem pool0_hi (x : FVec Ideal S256x512 .f32) (k : Fin 272) (q : Fin 512) (p : Fin 256) (hk : k.val = 16 + p.val) : pool0 x (ix2 k q) = x (ix2 p q) :=
  pool_top _ _ _ _ _ hk

theorem pool1_hi (x : FVec Ideal S256x512 .f32) (k : Fin 272) (q : Fin 512) (p : Fin 256) (hk : k.val = 16 + p.val) : pool1 x (ix2 k q) = x (ix2 p q) :=
  pool_top _ _ _ _ _ hk

/-- What a point leaves above its rows: the last of them. -/
theorem poolN_lo (L : FVec Ideal S272x512 .f32) (T : List (View.Piece (Elt Ideal) S272x512 .f32)) (k : Fin 272) (q : Fin 512) (hk : k.val < 16) :
    poolN L T (ix2 k q) = L (ix2 ⟨256 + k.val, by omega⟩ q) := by
  unfold poolN
  rw [pool_bot _ _ k q ⟨k.val, hk⟩ rfl]
  pointwise [k0_pay48]

theorem conv_lo (a : FVec Ideal S264x512 .f32) (x : FVec Ideal S256x512 .f32) (k : Fin 264) (q : Fin 512) (hk : k.val < 8) : conv a x (ix2 k q) = a (ix2 k q) := by
  unfold conv
  rw [View.read_writes_cons_rows_of_not_mem (o := 8) (W := 256) _ _ _ _ _ _ rfl rfl (Or.inl hk)]
  show View.read (Elt Ideal) (View.whole cc0_scratch6) ((Memref.isWhole_whole cc0_scratch6).unread a) (ix2 k q) = a (ix2 k q)
  rw [Memref.IsWhole.read_unread (Memref.isWhole_whole cc0_scratch6)]

theorem conv_hi (a : FVec Ideal S264x512 .f32) (x : FVec Ideal S256x512 .f32) (k : Fin 264) (q : Fin 512) (p : Fin 256) (hk : k.val = 8 + p.val) : conv a x (ix2 k q) = x (ix2 p q) := by
  unfold conv
  exact View.read_writes_cons_rows_of_mem (o := 8) _ _ _ _ _ _ (ix2 p q) rfl hk rfl

/-- The same of a buffer known by what was stored. -/
theorem conv_top (x : FVec Ideal S256x512 .f32) (T : List (View.Piece (Elt Ideal) S264x512 .f32)) (k : Fin 264) (q : Fin 512) (p : Fin 256) (hk : k.val = 8 + p.val) :
    View.canon (Val := Elt Ideal) (s := S264x512) (e := .f32) (⟨Rect.unit (s := S264x512) ![8, 0] ![256, 512] inb_S264x512_S256x512_8_0, x⟩ :: T) (ix2 k q) = x (ix2 p q) := by
  have e : (Rect.unit (s := S264x512) ![8, 0] ![256, 512] inb_S264x512_S256x512_8_0).emb (ix2 p q) = ix2 k q :=
    funext fun a => Fin.ext (by fin_cases a; exacts [(by show 8 + 1 * p.val = k.val; omega), (by show 0 + 1 * q.val = q.val; omega)])
  rw [← e]
  exact View.canon_cons_emb _ _ _ _

theorem conv_skip (x : FVec Ideal S256x512 .f32) (T : List (View.Piece (Elt Ideal) S264x512 .f32)) (k : Fin 264) (q : Fin 512) (hk : k.val < 8) :
    View.canon (Val := Elt Ideal) (s := S264x512) (e := .f32) (⟨Rect.unit (s := S264x512) ![8, 0] ![256, 512] inb_S264x512_S256x512_8_0, x⟩ :: T) (ix2 k q) = View.canon T (ix2 k q) := by
  refine View.canon_cons_of_not_mem _ _ fun hm => ?_
  have h0 : 8 ≤ k.val := ((Rect.mem_set_unit (inb := inb_S264x512_S256x512_8_0)).mp hm 0).1
  omega

theorem conv_bot (x : FVec Ideal S8x512 .f32) (T : List (View.Piece (Elt Ideal) S264x512 .f32)) (k : Fin 264) (q : Fin 512) (p : Fin 8) (hk : k.val = p.val) :
    View.canon (Val := Elt Ideal) (s := S264x512) (e := .f32) (⟨Rect.unit (s := S264x512) ![0, 0] ![8, 512] inb_S264x512_S8x512_0_0, x⟩ :: T) (ix2 k q) = x (ix2 p q) := by
  have e : (Rect.unit (s := S264x512) ![0, 0] ![8, 512] inb_S264x512_S8x512_0_0).emb (ix2 p q) = ix2 k q :=
    funext fun a => Fin.ext (by fin_cases a; exacts [(by show 0 + 1 * p.val = k.val; omega), (by show 0 + 1 * q.val = q.val; omega)])
  rw [← e]
  exact View.canon_cons_emb _ _ _ _

theorem conv_off (x : FVec Ideal S8x512 .f32) (T : List (View.Piece (Elt Ideal) S264x512 .f32)) (k : Fin 264) (q : Fin 512) (hk : 8 ≤ k.val) :
    View.canon (Val := Elt Ideal) (s := S264x512) (e := .f32) (⟨Rect.unit (s := S264x512) ![0, 0] ![8, 512] inb_S264x512_S8x512_0_0, x⟩ :: T) (ix2 k q) = View.canon T (ix2 k q) := by
  refine View.canon_cons_of_not_mem _ _ fun hm => ?_
  have h0 : k.val < 0 + 8 := ((Rect.mem_set_unit (inb := inb_S264x512_S8x512_0_0)).mp hm 0).2
  omega

theorem conv0_lo (x : FVec Ideal S256x512 .f32) (k : Fin 264) (q : Fin 512) (hk : k.val < 8) : conv0 x (ix2 k q) = 0 := by
  unfold conv0
  rw [conv_skip _ _ _ _ hk, conv_bot _ _ k q ⟨k.val, hk⟩ rfl]
  pointwise [k0_pay6]

theorem conv0_hi (x : FVec Ideal S256x512 .f32) (k : Fin 264) (q : Fin 512) (p : Fin 256) (hk : k.val = 8 + p.val) : conv0 x (ix2 k q) = x (ix2 p q) :=
  conv_top _ _ _ _ _ hk

theorem conv1_hi (x : FVec Ideal S256x512 .f32) (k : Fin 264) (q : Fin 512) (p : Fin 256) (hk : k.val = 8 + p.val) : conv1 x (ix2 k q) = x (ix2 p q) :=
  conv_top _ _ _ _ _ hk

/-- What a point leaves above its rows: the last of them. -/
theorem convN_lo (L : FVec Ideal S264x512 .f32) (T : List (View.Piece (Elt Ideal) S264x512 .f32)) (k : Fin 264) (q : Fin 512) (hk : k.val < 8) :
    convN L T (ix2 k q) = L (ix2 ⟨256 + k.val, by omega⟩ q) := by
  unfold convN
  rw [conv_bot _ _ k q ⟨k.val, hk⟩ rfl]
  pointwise [k0_pay57]

/-- The windows of the carried buffers that a point reads. -/
theorem ld_pool (L : FVec Ideal S272x512 .f32) (o : ℕ) (inb) (k : Fin 272) (q : Fin 128) (ho : o + 128 ≤ 512) :
    View.ld (Val := Elt Ideal) (S := S272x512) (e' := .f32) L (Rect.unit (s := S272x512) ![0, o] ![272, 128] inb) (ix2 k q) = L (ix2 k ⟨o + q.val, by omega⟩) := by
  refine congrArg L (funext fun a => Fin.ext ?_)
  fin_cases a
  exacts [(by show 0 + 1 * k.val = k.val; omega), (by show o + 1 * q.val = o + q.val; omega)]

theorem ld_conv (L : FVec Ideal S264x512 .f32) (o : ℕ) (inb) (p : Fin 256) (q : Fin 512) (ho : o ≤ 8) :
    View.ld (Val := Elt Ideal) (S := S264x512) (e' := .f32) L (Rect.unit (s := S264x512) ![o, 0] ![256, 512] inb) (ix2 p q) = L (ix2 ⟨o + p.val, by omega⟩ q) := by
  refine congrArg L (funext fun a => Fin.ext ?_)
  fin_cases a
  exacts [(by show o + 1 * p.val = o + p.val; omega), (by show 0 + 1 * q.val = q.val; omega)]

/-- Carried buffers that hold the rows before and of a point give it what its sums need. -/
theorem over_ex (D : Pt) (A : Args) (t : ℕ) (x : FVec Ideal S272x512 .f32) (z : FVec Ideal S264x512 .f32)
    (hx : ∀ (k : Fin 272) (q : Fin 512), x (ix2 k q) = ext (XB A) t 16 k.val q) (hz : ∀ (k : Fin 264) (q : Fin 512), z (ix2 k q) = ext (ZZ A) t 8 k.val q) : (D.over x z).Ex A t where
  x0 k q := (ld_pool x 0 _ k q (by omega)).trans (hx _ _)
  x1 k q := (ld_pool x 128 _ k q (by omega)).trans (hx _ _)
  x2 k q := (ld_pool x 256 _ k q (by omega)).trans (hx _ _)
  x3 k q := (ld_pool x 384 _ k q (by omega)).trans (hx _ _)
  z2 p q := (ld_conv z 6 _ p q (by omega)).trans ((hz _ _).trans (by show ext (ZZ A) t 8 (6 + p.val) q = _; rw [show 6 + p.val = 8 + p.val - 2 by omega]))
  z1 p q := (ld_conv z 7 _ p q (by omega)).trans ((hz _ _).trans (by show ext (ZZ A) t 8 (7 + p.val) q = _; rw [show 7 + p.val = 8 + p.val - 1 by omega]))

end Cert.KernelMixIdeal.Proof

end
-- ==== Proof.MixCaseA.lean ====
module

public import proofs.«01_k».proof.Proof.MixPoint

@[expose] public section

set_option maxRecDepth 16384

noncomputable section

namespace Cert.KernelMixIdeal.Proof

open Cert.KernelMixIdeal Cert.KernelMixIdeal.Gen Idealize.ShloMosaic Idealize.ShloMosaic.TcCoe Idealize.SL.Sem

variable (m : (ℓ : Loc nD τ sig) → Buf (Elt Ideal) ℓ)

/-- What case A leaves. -/
def leftA (c : Dev nD) (n : ℕ) (h : n < cfg0.N) (h0 : n % 32 = 0) (h1 : n % 16 = 0) : St Ideal :=
  ((first m c ⟨n, h⟩).over (pool0 (first m c ⟨n, h⟩).xg) (conv0 (first m c ⟨n, h⟩).zz)).out
      (poolN (pool0 (first m c ⟨n, h⟩).xg) [⟨Rect.unit (s := S272x512) ![16, 0] ![256, 512] inb_S272x512_S256x512_16_0, (first m c ⟨n, h⟩).xg⟩, ⟨Rect.unit (s := S272x512) ![0, 0] ![16, 512] inb_S272x512_S16x512_0_0, (k0_pay5 : FVec Ideal S16x512 .f32)⟩])
      (convN (conv0 (first m c ⟨n, h⟩).zz) [⟨Rect.unit (s := S264x512) ![8, 0] ![256, 512] inb_S264x512_S256x512_8_0, (first m c ⟨n, h⟩).zz⟩, ⟨Rect.unit (s := S264x512) ![0, 0] ![8, 512] inb_S264x512_S8x512_0_0, (k0_pay6 : FVec Ideal S8x512 .f32)⟩])

set_option maxHeartbeats 1000000 in
theorem outs_A_0 (c : Dev nD) (n : ℕ) (h : n < cfg0.N) (h0 : n % 32 = 0) (h1 : n % 16 = 0) : (outsAt0 m c n h).1 = (leftA m c n h h0 h1).1 := by
  suffices ∀ Z, (leftA m c n h h0 h1).1 = Z → (outsAt0 m c n h).1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_1 (c : Dev nD) (n : ℕ) (h : n < cfg0.N) (h0 : n % 32 = 0) (h1 : n % 16 = 0) : (outsAt0 m c n h).2.1 = (leftA m c n h h0 h1).2.1 := by
  suffices ∀ Z, (leftA m c n h h0 h1).2.1 = Z → (outsAt0 m c n h).2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_2 (c : Dev nD) (n : ℕ) (h : n < cfg0.N) (h0 : n % 32 = 0) (h1 : n % 16 = 0) : (outsAt0 m c n h).2.2.1 = (leftA m c n h h0 h1).2.2.1 := by
  suffices ∀ Z, (leftA m c n h h0 h1).2.2.1 = Z → (outsAt0 m c n h).2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_3 (c : Dev nD) (n : ℕ) (h : n < cfg0.N) (h0 : n % 32 = 0) (h1 : n % 16 = 0) : (outsAt0 m c n h).2.2.2.1 = (leftA m c n h h0 h1).2.2.2.1 := by
  suffices ∀ Z, (leftA m c n h h0 h1).2.2.2.1 = Z → (outsAt0 m c n h).2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_4 (c : Dev nD) (n : ℕ) (h : n < cfg0.N) (h0 : n % 32 = 0) (h1 : n % 16 = 0) : (outsAt0 m c n h).2.2.2.2.1 = (leftA m c n h h0 h1).2.2.2.2.1 := by
  suffices ∀ Z, (leftA m c n h h0 h1).2.2.2.2.1 = Z → (outsAt0 m c n h).2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_5 (c : Dev nD) (n : ℕ) (h : n < cfg0.N) (h0 : n % 32 = 0) (h1 : n % 16 = 0) : (outsAt0 m c n h).2.2.2.2.2.1 = (leftA m c n h h0 h1).2.2.2.2.2.1 := by
  suffices ∀ Z, (leftA m c n h h0 h1).2.2.2.2.2.1 = Z → (outsAt0 m c n h).2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_6 (c : Dev nD) (n : ℕ) (h : n < cfg0.N) (h0 : n % 32 = 0) (h1 : n % 16 = 0) : (outsAt0 m c n h).2.2.2.2.2.2.1 = (leftA m c n h h0 h1).2.2.2.2.2.2.1 := by
  suffices ∀ Z, (leftA m c n h h0 h1).2.2.2.2.2.2.1 = Z → (outsAt0 m c n h).2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_7 (c : Dev nD) (n : ℕ) (h : n < cfg0.N) (h0 : n % 32 = 0) (h1 : n % 16 = 0) : (outsAt0 m c n h).2.2.2.2.2.2.2.1 = (leftA m c n h h0 h1).2.2.2.2.2.2.2.1 := by
  suffices ∀ Z, (leftA m c n h h0 h1).2.2.2.2.2.2.2.1 = Z → (outsAt0 m c n h).2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_8 (c : Dev nD) (n : ℕ) (h : n < cfg0.N) (h0 : n % 32 = 0) (h1 : n % 16 = 0) : (outsAt0 m c n h).2.2.2.2.2.2.2.2.1 = (leftA m c n h h0 h1).2.2.2.2.2.2.2.2.1 := by
  suffices ∀ Z, (leftA m c n h h0 h1).2.2.2.2.2.2.2.2.1 = Z → (outsAt0 m c n h).2.2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_9 (c : Dev nD) (n : ℕ) (h : n < cfg0.N) (h0 : n % 32 = 0) (h1 : n % 16 = 0) : (outsAt0 m c n h).2.2.2.2.2.2.2.2.2.1 = (leftA m c n h h0 h1).2.2.2.2.2.2.2.2.2.1 := by
  suffices ∀ Z, (leftA m c n h h0 h1).2.2.2.2.2.2.2.2.2.1 = Z → (outsAt0 m c n h).2.2.2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_10 (c : Dev nD) (n : ℕ) (h : n < cfg0.N) (h0 : n % 32 = 0) (h1 : n % 16 = 0) : (outsAt0 m c n h).2.2.2.2.2.2.2.2.2.2.1 = (leftA m c n h h0 h1).2.2.2.2.2.2.2.2.2.2.1 := by
  suffices ∀ Z, (leftA m c n h h0 h1).2.2.2.2.2.2.2.2.2.2.1 = Z → (outsAt0 m c n h).2.2.2.2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_11 (c : Dev nD) (n : ℕ) (h : n < cfg0.N) (h0 : n % 32 = 0) (h1 : n % 16 = 0) : (outsAt0 m c n h).2.2.2.2.2.2.2.2.2.2.2.1 = (leftA m c n h h0 h1).2.2.2.2.2.2.2.2.2.2.2.1 := by
  suffices ∀ Z, (leftA m c n h h0 h1).2.2.2.2.2.2.2.2.2.2.2.1 = Z → (outsAt0 m c n h).2.2.2.2.2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_12 (c : Dev nD) (n : ℕ) (h : n < cfg0.N) (h0 : n % 32 = 0) (h1 : n % 16 = 0) : (outsAt0 m c n h).2.2.2.2.2.2.2.2.2.2.2.2.1 = (leftA m c n h h0 h1).2.2.2.2.2.2.2.2.2.2.2.2.1 := by
  suffices ∀ Z, (leftA m c n h h0 h1).2.2.2.2.2.2.2.2.2.2.2.2.1 = Z → (outsAt0 m c n h).2.2.2.2.2.2.2.2.2.2.2.2.1 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_A_13 (c : Dev nD) (n : ℕ) (h : n < cfg0.N) (h0 : n % 32 = 0) (h1 : n % 16 = 0) : (outsAt0 m c n h).2.2.2.2.2.2.2.2.2.2.2.2.2 = (leftA m c n h h0 h1).2.2.2.2.2.2.2.2.2.2.2.2.2 := by
  suffices ∀ Z, (leftA m c n h h0 h1).2.2.2.2.2.2.2.2.2.2.2.2.2 = Z → (outsAt0 m c n h).2.2.2.2.2.2.2.2.2.2.2.2.2 = Z from this _ rfl
  intro Z hZ
  rw [outsAt0_A m c ⟨n, h⟩ h0 h1]
  unfold stA runA
  frame_out
  try simp only [Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  skip
  subst hZ
  simp only [leftA, first, copied13, copied16, copied19, piece13, piece16, piece19, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

theorem outs_A (c : Dev nD) (n : ℕ) (h : n < cfg0.N) (h0 : n % 32 = 0) (h1 : n % 16 = 0) : outsAt0 m c n h = leftA m c n h h0 h1 :=
  (Prod.ext (outs_A_0 m c n h h0 h1 ) (Prod.ext (outs_A_1 m c n h h0 h1 ) (Prod.ext (outs_A_2 m c n h h0 h1 ) (Prod.ext (outs_A_3 m c n h h0 h1 ) (Prod.ext (outs_A_4 m c n h h0 h1 ) (Prod.ext (outs_A_5 m c n h h0 h1 ) (Prod.ext (outs_A_6 m c n h h0 h1 ) (Prod.ext (outs_A_7 m c n h h0 h1 ) (Prod.ext (outs_A_8 m c n h h0 h1 ) (Prod.ext (outs_A_9 m c n h h0 h1 ) (Prod.ext (outs_A_10 m c n h h0 h1 ) (Prod.ext (outs_A_11 m c n h h0 h1 ) (Prod.ext (outs_A_12 m c n h h0 h1 ) (outs_A_13 m c n h h0 h1 ))))))))))))))

end Cert.KernelMixIdeal.Proof

end
-- ==== Proof.MixCaseB.lean ====
module

public import proofs.«01_k».proof.Proof.MixPoint

@[expose] public section

set_option maxRecDepth 16384

noncomputable section

namespace Cert.KernelMixIdeal.Proof

open Cert.KernelMixIdeal Cert.KernelMixIdeal.Gen Idealize.ShloMosaic Idealize.ShloMosaic.TcCoe Idealize.SL.Sem

variable (m : (ℓ : Loc nD τ sig) → Buf (Elt Ideal) ℓ)

/-- What case B leaves. -/
def leftB (c : Dev nD) (n : ℕ) (h : n < cfg0.N) (h0 : ¬ n % 32 = 0) (h1 : ¬ n % 16 = 0) (p : St Ideal) : St Ideal :=
  ((late m c ⟨n, h⟩ p).over (pool p.2.2.2.2.2.2.2.2.2.2.2.2.1 (late m c ⟨n, h⟩ p).xg) (conv p.2.2.2.2.2.2.2.2.2.2.2.2.2 (late m c ⟨n, h⟩ p).zz)).out
      (poolN (pool1 (late m c ⟨n, h⟩ p).xg) [⟨Rect.unit (s := S272x512) ![16, 0] ![256, 512] inb_S272x512_S256x512_16_0, (late m c ⟨n, h⟩ p).xg⟩])
      (convN (conv1 (late m c ⟨n, h⟩ p).zz) [⟨Rect.unit (s := S264x512) ![8, 0] ![256, 512] inb_S264x512_S256x512_8_0, (late m c ⟨n, h⟩ p).zz⟩])

set_option maxHeartbeats 1000000 in
theorem outs_B_0 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).1 = (leftB m c n h h0 h1 p).1 := by
  suffices ∀ Z, (leftB m c n h h0 h1 p).1 = Z → (outsAt0 m c n h).1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_1 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.1 = (leftB m c n h h0 h1 p).2.1 := by
  suffices ∀ Z, (leftB m c n h h0 h1 p).2.1 = Z → (outsAt0 m c n h).2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_2 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.1 = (leftB m c n h h0 h1 p).2.2.1 := by
  suffices ∀ Z, (leftB m c n h h0 h1 p).2.2.1 = Z → (outsAt0 m c n h).2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_3 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.1 = (leftB m c n h h0 h1 p).2.2.2.1 := by
  suffices ∀ Z, (leftB m c n h h0 h1 p).2.2.2.1 = Z → (outsAt0 m c n h).2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_4 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.1 = (leftB m c n h h0 h1 p).2.2.2.2.1 := by
  suffices ∀ Z, (leftB m c n h h0 h1 p).2.2.2.2.1 = Z → (outsAt0 m c n h).2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_5 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.1 = (leftB m c n h h0 h1 p).2.2.2.2.2.1 := by
  suffices ∀ Z, (leftB m c n h h0 h1 p).2.2.2.2.2.1 = Z → (outsAt0 m c n h).2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_6 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.1 = (leftB m c n h h0 h1 p).2.2.2.2.2.2.1 := by
  suffices ∀ Z, (leftB m c n h h0 h1 p).2.2.2.2.2.2.1 = Z → (outsAt0 m c n h).2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_7 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.1 = (leftB m c n h h0 h1 p).2.2.2.2.2.2.2.1 := by
  suffices ∀ Z, (leftB m c n h h0 h1 p).2.2.2.2.2.2.2.1 = Z → (outsAt0 m c n h).2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_8 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.1 = (leftB m c n h h0 h1 p).2.2.2.2.2.2.2.2.1 := by
  suffices ∀ Z, (leftB m c n h h0 h1 p).2.2.2.2.2.2.2.2.1 = Z → (outsAt0 m c n h).2.2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_9 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.2.1 = (leftB m c n h h0 h1 p).2.2.2.2.2.2.2.2.2.1 := by
  suffices ∀ Z, (leftB m c n h h0 h1 p).2.2.2.2.2.2.2.2.2.1 = Z → (outsAt0 m c n h).2.2.2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_10 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.2.2.1 = (leftB m c n h h0 h1 p).2.2.2.2.2.2.2.2.2.2.1 := by
  suffices ∀ Z, (leftB m c n h h0 h1 p).2.2.2.2.2.2.2.2.2.2.1 = Z → (outsAt0 m c n h).2.2.2.2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_11 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.2.2.2.1 = (leftB m c n h h0 h1 p).2.2.2.2.2.2.2.2.2.2.2.1 := by
  suffices ∀ Z, (leftB m c n h h0 h1 p).2.2.2.2.2.2.2.2.2.2.2.1 = Z → (outsAt0 m c n h).2.2.2.2.2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_12 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.2.2.2.2.1 = (leftB m c n h h0 h1 p).2.2.2.2.2.2.2.2.2.2.2.2.1 := by
  suffices ∀ Z, (leftB m c n h h0 h1 p).2.2.2.2.2.2.2.2.2.2.2.2.1 = Z → (outsAt0 m c n h).2.2.2.2.2.2.2.2.2.2.2.2.1 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_B_13 (c : Dev nD) (n : ℕ) (h : n < cfg0.N) (h0 : ¬ n % 32 = 0) (h1 : ¬ n % 16 = 0) (p : St Ideal) (hp : outsAt0 m c (n - 1) (lt_of_le_of_lt (Nat.sub_le _ _) h) = p) : (outsAt0 m c n h).2.2.2.2.2.2.2.2.2.2.2.2.2 = (leftB m c n h h0 h1 p).2.2.2.2.2.2.2.2.2.2.2.2.2 := by
  suffices ∀ Z, (leftB m c n h h0 h1 p).2.2.2.2.2.2.2.2.2.2.2.2.2 = Z → (outsAt0 m c n h).2.2.2.2.2.2.2.2.2.2.2.2.2 = Z from this _ rfl
  intro Z hZ
  rw [outsAt0_B m c ⟨n, h⟩ h0 h1]
  unfold stB runB
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftB, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

theorem outs_B (c : Dev nD) (n : ℕ) (h : n < cfg0.N) (h0 : ¬ n % 32 = 0) (h1 : ¬ n % 16 = 0) (p : St Ideal) (hp : outsAt0 m c (n - 1) (lt_of_le_of_lt (Nat.sub_le _ _) h) = p) : outsAt0 m c n h = leftB m c n h h0 h1 p :=
  (Prod.ext (outs_B_0 m c n h h0 h1 p hp) (Prod.ext (outs_B_1 m c n h h0 h1 p hp) (Prod.ext (outs_B_2 m c n h h0 h1 p hp) (Prod.ext (outs_B_3 m c n h h0 h1 p hp) (Prod.ext (outs_B_4 m c n h h0 h1 p hp) (Prod.ext (outs_B_5 m c n h h0 h1 p hp) (Prod.ext (outs_B_6 m c n h h0 h1 p hp) (Prod.ext (outs_B_7 m c n h h0 h1 p hp) (Prod.ext (outs_B_8 m c n h h0 h1 p hp) (Prod.ext (outs_B_9 m c n h h0 h1 p hp) (Prod.ext (outs_B_10 m c n h h0 h1 p hp) (Prod.ext (outs_B_11 m c n h h0 h1 p hp) (Prod.ext (outs_B_12 m c n h h0 h1 p hp) (outs_B_13 m c n h h0 h1 p hp))))))))))))))

end Cert.KernelMixIdeal.Proof

end
-- ==== Proof.MixCaseC.lean ====
module

public import proofs.«01_k».proof.Proof.MixPoint

@[expose] public section

set_option maxRecDepth 16384

noncomputable section

namespace Cert.KernelMixIdeal.Proof

open Cert.KernelMixIdeal Cert.KernelMixIdeal.Gen Idealize.ShloMosaic Idealize.ShloMosaic.TcCoe Idealize.SL.Sem

variable (m : (ℓ : Loc nD τ sig) → Buf (Elt Ideal) ℓ)

/-- What case C leaves. -/
def leftC (c : Dev nD) (n : ℕ) (h : n < cfg0.N) (h0 : ¬ n % 32 = 0) (h1 : n % 16 = 0) (p : St Ideal) : St Ideal :=
  ((late m c ⟨n, h⟩ p).over (pool0 (late m c ⟨n, h⟩ p).xg) (conv0 (late m c ⟨n, h⟩ p).zz)).out
      (poolN (pool0 (late m c ⟨n, h⟩ p).xg) [⟨Rect.unit (s := S272x512) ![16, 0] ![256, 512] inb_S272x512_S256x512_16_0, (late m c ⟨n, h⟩ p).xg⟩, ⟨Rect.unit (s := S272x512) ![0, 0] ![16, 512] inb_S272x512_S16x512_0_0, (k0_pay5 : FVec Ideal S16x512 .f32)⟩])
      (convN (conv0 (late m c ⟨n, h⟩ p).zz) [⟨Rect.unit (s := S264x512) ![8, 0] ![256, 512] inb_S264x512_S256x512_8_0, (late m c ⟨n, h⟩ p).zz⟩, ⟨Rect.unit (s := S264x512) ![0, 0] ![8, 512] inb_S264x512_S8x512_0_0, (k0_pay6 : FVec Ideal S8x512 .f32)⟩])

set_option maxHeartbeats 1000000 in
theorem outs_C_0 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).1 = (leftC m c n h h0 h1 p).1 := by
  suffices ∀ Z, (leftC m c n h h0 h1 p).1 = Z → (outsAt0 m c n h).1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_1 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.1 = (leftC m c n h h0 h1 p).2.1 := by
  suffices ∀ Z, (leftC m c n h h0 h1 p).2.1 = Z → (outsAt0 m c n h).2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_2 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.1 = (leftC m c n h h0 h1 p).2.2.1 := by
  suffices ∀ Z, (leftC m c n h h0 h1 p).2.2.1 = Z → (outsAt0 m c n h).2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_3 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.1 = (leftC m c n h h0 h1 p).2.2.2.1 := by
  suffices ∀ Z, (leftC m c n h h0 h1 p).2.2.2.1 = Z → (outsAt0 m c n h).2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_4 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.1 = (leftC m c n h h0 h1 p).2.2.2.2.1 := by
  suffices ∀ Z, (leftC m c n h h0 h1 p).2.2.2.2.1 = Z → (outsAt0 m c n h).2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_5 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.1 = (leftC m c n h h0 h1 p).2.2.2.2.2.1 := by
  suffices ∀ Z, (leftC m c n h h0 h1 p).2.2.2.2.2.1 = Z → (outsAt0 m c n h).2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_6 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.1 = (leftC m c n h h0 h1 p).2.2.2.2.2.2.1 := by
  suffices ∀ Z, (leftC m c n h h0 h1 p).2.2.2.2.2.2.1 = Z → (outsAt0 m c n h).2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_7 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.1 = (leftC m c n h h0 h1 p).2.2.2.2.2.2.2.1 := by
  suffices ∀ Z, (leftC m c n h h0 h1 p).2.2.2.2.2.2.2.1 = Z → (outsAt0 m c n h).2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_8 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.1 = (leftC m c n h h0 h1 p).2.2.2.2.2.2.2.2.1 := by
  suffices ∀ Z, (leftC m c n h h0 h1 p).2.2.2.2.2.2.2.2.1 = Z → (outsAt0 m c n h).2.2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_9 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.2.1 = (leftC m c n h h0 h1 p).2.2.2.2.2.2.2.2.2.1 := by
  suffices ∀ Z, (leftC m c n h h0 h1 p).2.2.2.2.2.2.2.2.2.1 = Z → (outsAt0 m c n h).2.2.2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_10 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.2.2.1 = (leftC m c n h h0 h1 p).2.2.2.2.2.2.2.2.2.2.1 := by
  suffices ∀ Z, (leftC m c n h h0 h1 p).2.2.2.2.2.2.2.2.2.2.1 = Z → (outsAt0 m c n h).2.2.2.2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_11 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.2.2.2.1 = (leftC m c n h h0 h1 p).2.2.2.2.2.2.2.2.2.2.2.1 := by
  suffices ∀ Z, (leftC m c n h h0 h1 p).2.2.2.2.2.2.2.2.2.2.2.1 = Z → (outsAt0 m c n h).2.2.2.2.2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_12 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.2.2.2.2.1 = (leftC m c n h h0 h1 p).2.2.2.2.2.2.2.2.2.2.2.2.1 := by
  suffices ∀ Z, (leftC m c n h h0 h1 p).2.2.2.2.2.2.2.2.2.2.2.2.1 = Z → (outsAt0 m c n h).2.2.2.2.2.2.2.2.2.2.2.2.1 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

set_option maxHeartbeats 1000000 in
theorem outs_C_13 (c : Dev nD) (n : ℕ) (h : n < cfg0.N) (h0 : ¬ n % 32 = 0) (h1 : n % 16 = 0) (p : St Ideal) (hp : outsAt0 m c (n - 1) (lt_of_le_of_lt (Nat.sub_le _ _) h) = p) : (outsAt0 m c n h).2.2.2.2.2.2.2.2.2.2.2.2.2 = (leftC m c n h h0 h1 p).2.2.2.2.2.2.2.2.2.2.2.2.2 := by
  suffices ∀ Z, (leftC m c n h h0 h1 p).2.2.2.2.2.2.2.2.2.2.2.2.2 = Z → (outsAt0 m c n h).2.2.2.2.2.2.2.2.2.2.2.2.2 = Z from this _ rfl
  intro Z hZ
  rw [outsAt0_C m c ⟨n, h⟩ h0 h1]
  unfold stC runC
  frame_out
  try simp only [hp, Memref.IsWhole.read_unread (Memref.isWhole_whole cc0_scratch0), Memref.IsWhole.read_unread (Memref.isWhole_whole cc0_scratch1), Memref.IsWhole.read_unread (Memref.isWhole_whole cc0_scratch2), Memref.IsWhole.read_unread (Memref.isWhole_whole cc0_scratch3), Memref.IsWhole.read_unread (Memref.isWhole_whole cc0_scratch4), read_stored, canon_copy, ld_full, ld_full']
  clear hp
  subst hZ
  simp only [leftC, late, base, pos, pool, conv, pool0, conv0, pool1, conv1, poolN, convN, Pt.out, Pt.over, Pt.h, Pt.p0, Pt.w0, Pt.w1, Pt.w2, Pt.w3, Pt.w4, Pt.w5, Pt.w6, Pt.w7, Pt.vn, Pt.tiles, Pt.sp, Pt.oa, Pt.ya, Pt.xg, Pt.d0, Pt.d3, Pt.d2, Pt.e1, Pt.ob, Pt.yb, Pt.zz, Pt.oc, Pt.yc, Pt.o1, Pt.o2, Pt.o3, Pt.m0, Pt.m1, Pt.o4, Pt.o5, Pt.o6]
  try rfl

theorem outs_C (c : Dev nD) (n : ℕ) (h : n < cfg0.N) (h0 : ¬ n % 32 = 0) (h1 : n % 16 = 0) (p : St Ideal) (hp : outsAt0 m c (n - 1) (lt_of_le_of_lt (Nat.sub_le _ _) h) = p) : outsAt0 m c n h = leftC m c n h h0 h1 p :=
  (Prod.ext (outs_C_0 m c n h h0 h1 p hp) (Prod.ext (outs_C_1 m c n h h0 h1 p hp) (Prod.ext (outs_C_2 m c n h h0 h1 p hp) (Prod.ext (outs_C_3 m c n h h0 h1 p hp) (Prod.ext (outs_C_4 m c n h h0 h1 p hp) (Prod.ext (outs_C_5 m c n h h0 h1 p hp) (Prod.ext (outs_C_6 m c n h h0 h1 p hp) (Prod.ext (outs_C_7 m c n h h0 h1 p hp) (Prod.ext (outs_C_8 m c n h h0 h1 p hp) (Prod.ext (outs_C_9 m c n h h0 h1 p hp) (Prod.ext (outs_C_10 m c n h h0 h1 p hp) (Prod.ext (outs_C_11 m c n h h0 h1 p hp) (Prod.ext (outs_C_12 m c n h h0 h1 p hp) (outs_C_13 m c n h h0 h1 p hp))))))))))))))

end Cert.KernelMixIdeal.Proof

end
-- ==== Proof.MixVal.lean ====
module

public import proofs.«01_k».proof.Proof.MixOk
public import proofs.«01_k».proof.Proof.MixHalo
public import proofs.«01_k».proof.Proof.MixCaseA
public import proofs.«01_k».proof.Proof.MixCaseB
public import proofs.«01_k».proof.Proof.MixCaseC
public import Idealize.ShloMosaic.Lib.Pipeline.ValueKit
public import Idealize.ShloMosaic.Lib.Pipeline.ReadBack
public import Idealize.ShloMosaic.Lib.WritesUnit
public import Idealize.ShloMosaic.Lib.Claim

@[expose] public section

set_option maxRecDepth 16384

noncomputable section

namespace Cert.KernelMixIdeal.Proof

open Cert.KernelMixIdeal Cert.KernelMixIdeal.Gen Cert.MixSpec Idealize.ShloMosaic Idealize.ShloMosaic.TcCoe Idealize.SL.Sem

/-- What a point must leave. -/
structure Good (A : Args) (n : ℕ) (h : n < 32) (s : St Ideal) : Prop where
  data : ∃ (D : Pt) (x : FVec Ideal S272x512 .f32) (z : FVec Ideal S264x512 .f32), s = D.out x z ∧ D.Ok A n h ∧ D.Ex A n
  x : ∀ (k : Fin 272) (q : Fin 512) (hk : k.val < 16), s.2.2.2.2.2.2.2.2.2.2.2.2.1 (ix2 k q) = XB A ⟨256 * n + 240 + k.val, by omega⟩ q
  z : ∀ (k : Fin 264) (q : Fin 512) (hk : k.val < 8), s.2.2.2.2.2.2.2.2.2.2.2.2.2 (ix2 k q) = ZZ A ⟨256 * n + 248 + k.val, by omega⟩ q

theorem Good.held {A : Args} {n : ℕ} {h : n < 32} {s : St Ideal} (g : Good A n h s) : Held A s.2.2.2.2.2.2.2.1 s.2.2.2.2.2.2.2.2.1 s.2.2.2.2.2.2.2.2.2.1 s.2.2.2.2.2.2.2.2.2.2.1 s.2.2.2.2.2.2.2.2.2.2.2.1 := by
  obtain ⟨⟨D, x, z, rfl, ok, _⟩, _, _⟩ := g
  exact ⟨ok.s0, ok.s1, ok.s2, ok.s3, ok.s4⟩

theorem good_of (A : Args) (n : ℕ) (h : n < 32) (D : Pt) (ok : D.Ok A n h) (x x' : FVec Ideal S272x512 .f32) (z z' : FVec Ideal S264x512 .f32)
    (hx : ∀ (k : Fin 272) (q : Fin 512), x (ix2 k q) = ext (XB A) n 16 k.val q) (hz : ∀ (k : Fin 264) (q : Fin 512), z (ix2 k q) = ext (ZZ A) n 8 k.val q)
    (hx' : ∀ (k : Fin 272) (q : Fin 512) (p : Fin 256), k.val < 16 → p.val = 240 + k.val → x' (ix2 k q) = D.xg (ix2 p q))
    (hz' : ∀ (k : Fin 264) (q : Fin 512) (p : Fin 256), k.val < 8 → p.val = 248 + k.val → z' (ix2 k q) = D.zz (ix2 p q)) :
    Good A n h ((D.over x z).out x' z') where
  data := ⟨_, _, _, rfl, over_ok D A n h x z ok, over_ex D A n x z hx hz⟩
  x k q hk := (hx' k q ⟨240 + k.val, by omega⟩ hk rfl).trans ((Pt.stored_row ok _ q).trans (congrArg (XB A · q) (Fin.ext (by show 256 * n + (240 + k.val) = 256 * n + 240 + k.val; omega))))
  z k q hk := (hz' k q ⟨248 + k.val, by omega⟩ hk rfl).trans ((Pt.kept_row ok _ q).trans (congrArg (ZZ A · q) (Fin.ext (by show 256 * n + (248 + k.val) = 256 * n + 248 + k.val; omega))))

theorem ext_own (f : Fin 8192 → Fin 512 → EReal) (n N k : ℕ) (h : n < 32) (p : Fin 256) (q : Fin 512) (hk : k = N + p.val) : f (row n h p) q = ext f n N k q := by
  unfold ext row
  rw [if_neg (by omega)]
  exact congrArg (f · q) (Fin.ext (by show 256 * n + p.val = (256 * n + k - N) % 8192; omega))

theorem ext_before (f : Fin 8192 → Fin 512 → EReal) (n N k i : ℕ) (h : n + 1 < 32) (hi : i < 8192) (q : Fin 512) (hn : ¬ (n + 1) % 16 = 0) (hN : N ≤ 16) (he : i = 256 * n + (256 - N) + k) (hk : k < N) :
    f ⟨i, hi⟩ q = ext f (n + 1) N k q := by
  unfold ext
  rw [if_neg (by omega)]
  exact congrArg (f · q) (Fin.ext (by show i = (256 * (n + 1) + k - N) % 8192; omega))

theorem ext_zero (f : Fin 8192 → Fin 512 → EReal) (n N k : ℕ) (q : Fin 512) (hn : n % 16 = 0) (hk : k < N) : (0 : EReal) = ext f n N k q := by
  unfold ext
  rw [if_pos ⟨hk, hn⟩]

theorem Pt.out_eq (D : Pt) (x : FVec Ideal S272x512 .f32) (z : FVec Ideal S264x512 .f32) :
    D.out x z = (D.h, D.o1, D.o2, D.o3, D.o4, D.o5, D.o6, D.s0, D.s1, D.s2, D.s3, D.s4, x, z) := rfl

theorem entry0 {α0 ρ : Type} (a0 : α0) (r : ρ) : (a0, r).1 = a0 := rfl

theorem Pt.out_0 (D : Pt) (x : FVec Ideal S272x512 .f32) (z : FVec Ideal S264x512 .f32) : (D.out x z).1 = D.h := by
  rw [Pt.out_eq, entry0]

theorem entry1 {α0 α1 ρ : Type} (a0 : α0) (a1 : α1) (r : ρ) : (a0, a1, r).2.1 = a1 := rfl

theorem Pt.out_1 (D : Pt) (x : FVec Ideal S272x512 .f32) (z : FVec Ideal S264x512 .f32) : (D.out x z).2.1 = D.o1 := by
  rw [Pt.out_eq, entry1]

theorem entry2 {α0 α1 α2 ρ : Type} (a0 : α0) (a1 : α1) (a2 : α2) (r : ρ) : (a0, a1, a2, r).2.2.1 = a2 := rfl

theorem Pt.out_2 (D : Pt) (x : FVec Ideal S272x512 .f32) (z : FVec Ideal S264x512 .f32) : (D.out x z).2.2.1 = D.o2 := by
  rw [Pt.out_eq, entry2]

theorem entry3 {α0 α1 α2 α3 ρ : Type} (a0 : α0) (a1 : α1) (a2 : α2) (a3 : α3) (r : ρ) : (a0, a1, a2, a3, r).2.2.2.1 = a3 := rfl

theorem Pt.out_3 (D : Pt) (x : FVec Ideal S272x512 .f32) (z : FVec Ideal S264x512 .f32) : (D.out x z).2.2.2.1 = D.o3 := by
  rw [Pt.out_eq, entry3]

theorem entry4 {α0 α1 α2 α3 α4 ρ : Type} (a0 : α0) (a1 : α1) (a2 : α2) (a3 : α3) (a4 : α4) (r : ρ) : (a0, a1, a2, a3, a4, r).2.2.2.2.1 = a4 := rfl

theorem Pt.out_4 (D : Pt) (x : FVec Ideal S272x512 .f32) (z : FVec Ideal S264x512 .f32) : (D.out x z).2.2.2.2.1 = D.o4 := by
  rw [Pt.out_eq, entry4]

theorem entry5 {α0 α1 α2 α3 α4 α5 ρ : Type} (a0 : α0) (a1 : α1) (a2 : α2) (a3 : α3) (a4 : α4) (a5 : α5) (r : ρ) : (a0, a1, a2, a3, a4, a5, r).2.2.2.2.2.1 = a5 := rfl

theorem Pt.out_5 (D : Pt) (x : FVec Ideal S272x512 .f32) (z : FVec Ideal S264x512 .f32) : (D.out x z).2.2.2.2.2.1 = D.o5 := by
  rw [Pt.out_eq, entry5]

theorem entry6 {α0 α1 α2 α3 α4 α5 α6 ρ : Type} (a0 : α0) (a1 : α1) (a2 : α2) (a3 : α3) (a4 : α4) (a5 : α5) (a6 : α6) (r : ρ) : (a0, a1, a2, a3, a4, a5, a6, r).2.2.2.2.2.2.1 = a6 := rfl

theorem Pt.out_6 (D : Pt) (x : FVec Ideal S272x512 .f32) (z : FVec Ideal S264x512 .f32) : (D.out x z).2.2.2.2.2.2.1 = D.o6 := by
  rw [Pt.out_eq, entry6]

section

variable {A : Args} {n : ℕ} {h : n < 32} {D : Pt} (ok : D.Ok A n h)

include ok

theorem fresh_x (hn : n % 16 = 0) (k : Fin 272) (q : Fin 512) : pool0 D.xg (ix2 k q) = ext (XB A) n 16 k.val q := by
  by_cases hk : k.val < 16
  · exact (pool0_lo D.xg k q hk).trans (ext_zero _ n 16 k.val q hn hk)
  · exact (pool0_hi D.xg k q ⟨k.val - 16, by omega⟩ (by show k.val = 16 + (k.val - 16); omega)).trans ((Pt.stored_row ok _ q).trans (ext_own _ n 16 k.val h _ q (by show k.val = 16 + (k.val - 16); omega)))

theorem fresh_z (hn : n % 16 = 0) (k : Fin 264) (q : Fin 512) : conv0 D.zz (ix2 k q) = ext (ZZ A) n 8 k.val q := by
  by_cases hk : k.val < 8
  · exact (conv0_lo D.zz k q hk).trans (ext_zero _ n 8 k.val q hn hk)
  · exact (conv0_hi D.zz k q ⟨k.val - 8, by omega⟩ (by show k.val = 8 + (k.val - 8); omega)).trans ((Pt.kept_row ok _ q).trans (ext_own _ n 8 k.val h _ q (by show k.val = 8 + (k.val - 8); omega)))

end

section

variable {A : Args} {n : ℕ} {h : n + 1 < 32} {D : Pt} (ok : D.Ok A (n + 1) h)

include ok

theorem later_x (hn : ¬ (n + 1) % 16 = 0) (a : FVec Ideal S272x512 .f32) (ha : ∀ (k : Fin 272) (q : Fin 512) (hk : k.val < 16), a (ix2 k q) = XB A ⟨256 * n + 240 + k.val, by omega⟩ q)
    (k : Fin 272) (q : Fin 512) : pool a D.xg (ix2 k q) = ext (XB A) (n + 1) 16 k.val q := by
  by_cases hk : k.val < 16
  · exact (pool_lo a D.xg k q hk).trans ((ha k q hk).trans (ext_before _ n 16 k.val _ h _ q hn (by omega) (by omega) hk))
  · exact (pool_hi a D.xg k q ⟨k.val - 16, by omega⟩ (by show k.val = 16 + (k.val - 16); omega)).trans ((Pt.stored_row ok _ q).trans (ext_own _ (n + 1) 16 k.val h _ q (by show k.val = 16 + (k.val - 16); omega)))

theorem later_z (hn : ¬ (n + 1) % 16 = 0) (a : FVec Ideal S264x512 .f32) (ha : ∀ (k : Fin 264) (q : Fin 512) (hk : k.val < 8), a (ix2 k q) = ZZ A ⟨256 * n + 248 + k.val, by omega⟩ q)
    (k : Fin 264) (q : Fin 512) : conv a D.zz (ix2 k q) = ext (ZZ A) (n + 1) 8 k.val q := by
  by_cases hk : k.val < 8
  · exact (conv_lo a D.zz k q hk).trans ((ha k q hk).trans (ext_before _ n 8 k.val _ h _ q hn (by omega) (by omega) hk))
  · exact (conv_hi a D.zz k q ⟨k.val - 8, by omega⟩ (by show k.val = 8 + (k.val - 8); omega)).trans ((Pt.kept_row ok _ q).trans (ext_own _ (n + 1) 8 k.val h _ q (by show k.val = 8 + (k.val - 8); omega)))

end

theorem left_x (f : FVec Ideal S256x512 .f32) (L : FVec Ideal S272x512 .f32) (T : List (View.Piece (Elt Ideal) S272x512 .f32))
    (hL : ∀ (k : Fin 272) (q : Fin 512) (p : Fin 256), k.val = 16 + p.val → L (ix2 k q) = f (ix2 p q))
    (k : Fin 272) (q : Fin 512) (p : Fin 256) (hk : k.val < 16) (hp : p.val = 240 + k.val) : poolN L T (ix2 k q) = f (ix2 p q) :=
  (poolN_lo L T k q hk).trans (hL _ q p (by show 256 + k.val = 16 + p.val; omega))

theorem left_z (f : FVec Ideal S256x512 .f32) (L : FVec Ideal S264x512 .f32) (T : List (View.Piece (Elt Ideal) S264x512 .f32))
    (hL : ∀ (k : Fin 264) (q : Fin 512) (p : Fin 256), k.val = 8 + p.val → L (ix2 k q) = f (ix2 p q))
    (k : Fin 264) (q : Fin 512) (p : Fin 256) (hk : k.val < 8) (hp : p.val = 248 + k.val) : convN L T (ix2 k q) = f (ix2 p q) :=
  (convN_lo L T k q hk).trans (hL _ q p (by show 256 + k.val = 8 + p.val; omega))

variable (m : (ℓ : Loc nD τ sig) → Buf (Elt Ideal) ℓ)

theorem good_A (c : Dev nD) (n : ℕ) (h : n < cfg0.N) (h0 : n % 32 = 0) (h1 : n % 16 = 0) : Good (ka m c) n h (leftA m c n h h0 h1) := by
  have ok : (first m c ⟨n, h⟩).Ok (ka m c) n h := base_ok m c ⟨n, h⟩ _ _ _ _ _ (held_first m c)
  unfold leftA
  exact good_of _ n h _ ok _ _ _ _ (fresh_x ok h1) (fresh_z ok h1) (left_x _ _ _ (pool0_hi _)) (left_z _ _ _ (conv0_hi _))

theorem good_C (c : Dev nD) (n : ℕ) (h : n < cfg0.N) (h0 : ¬ n % 32 = 0) (h1 : n % 16 = 0) (p : St Ideal) (w : Held (ka m c) p.2.2.2.2.2.2.2.1 p.2.2.2.2.2.2.2.2.1 p.2.2.2.2.2.2.2.2.2.1 p.2.2.2.2.2.2.2.2.2.2.1 p.2.2.2.2.2.2.2.2.2.2.2.1) : Good (ka m c) n h (leftC m c n h h0 h1 p) := by
  have ok : (late m c ⟨n, h⟩ p).Ok (ka m c) n h := base_ok m c ⟨n, h⟩ _ _ _ _ _ w
  unfold leftC
  exact good_of _ n h _ ok _ _ _ _ (fresh_x ok h1) (fresh_z ok h1) (left_x _ _ _ (pool0_hi _)) (left_z _ _ _ (conv0_hi _))

theorem good_B (c : Dev nD) (n : ℕ) (h : n + 1 < cfg0.N) (h0 : ¬ (n + 1) % 32 = 0) (h1 : ¬ (n + 1) % 16 = 0) (p : St Ideal) (g : Good (ka m c) n (Nat.lt_of_succ_lt h) p) : Good (ka m c) (n + 1) h (leftB m c (n + 1) h h0 h1 p) := by
  have ok : (late m c ⟨n + 1, h⟩ p).Ok (ka m c) (n + 1) h := base_ok m c ⟨n + 1, h⟩ _ _ _ _ _ g.held
  unfold leftB
  exact good_of _ (n + 1) h _ ok _ _ _ _ (later_x ok h1 _ g.x) (later_z ok h1 _ g.z) (left_x _ _ _ (pool1_hi _)) (left_z _ _ _ (conv1_hi _))

/-- Every point leaves what it must. -/
theorem good (c : Dev nD) : ∀ (n : ℕ) (h : n < cfg0.N), Good (ka m c) n h (outsAt0 m c n h)
  | 0, h => by
    rw [outs_A m c 0 h rfl rfl]
    exact good_A m c 0 h rfl rfl
  | n + 1, h => by
    have g := good c n (Nat.lt_of_succ_lt h)
    have h' : n + 1 < 32 := h
    have h0 : ¬ (n + 1) % 32 = 0 := by omega
    by_cases h1 : (n + 1) % 16 = 0
    · rw [outs_C m c (n + 1) h h0 h1 _ rfl]
      exact good_C m c (n + 1) h h0 h1 _ g.held
    · rw [outs_B m c (n + 1) h h0 h1 _ rfl]
      exact good_B m c n h h0 h1 _ g

/-- A result as an array. -/
def asArr0 (A : Args) : FVec Ideal S8192x1024 .bf16 := fun y => H A (y 0) (y 1)

theorem Good.out_0 {A : Args} {n : ℕ} {h : n < 32} {s : St Ideal} (g : Good A n h s) (y : S256x1024.Idx) : (s.1 y : EReal) = asArr0 A (ix2 (row n h (y 0)) (y 1)) := by
  obtain ⟨⟨D, x, z, e, ok, ex⟩, _, _⟩ := g
  rw [e, Pt.out_0]
  exact (congrArg D.h (eq_ix2 y)).trans (Pt.h_row ok (y 0) (y 1))

theorem final10 (c : Dev nD) : (dats m 0 c).arrAt 10 (cfgs 0).N = asArr0 (ka m c) := by
  refine (dats m 0 c).arrAt_eq_of_covers 10 _ (by decide +kernel) fun t hf y => ?_
  blk_simp
  rw [after0_10]
  refine Eq.trans (Good.out_0 (good m c t.val t.isLt) y) (congrArg (asArr0 (ka m c)) (?_ : ix2 (row t.val t.isLt (y 0)) (y 1) = _))
  unfold row
  blk_ext [idx t]

/-- A result as an array. -/
def asArr1 (A : Args) : FVec Ideal S8192x6144 .bf16 := fun y => Z A (y 0) (y 1)

theorem Good.out_1 {A : Args} {n : ℕ} {h : n < 32} {s : St Ideal} (g : Good A n h s) (y : S256x6144.Idx) : (s.2.1 y : EReal) = asArr1 A (ix2 (row n h (y 0)) (y 1)) := by
  obtain ⟨⟨D, x, z, e, ok, ex⟩, _, _⟩ := g
  rw [e, Pt.out_1]
  exact (congrArg D.o1 (eq_ix2 y)).trans (Pt.o1_row ok (y 0) (y 1))

theorem final11 (c : Dev nD) : (dats m 0 c).arrAt 11 (cfgs 0).N = asArr1 (ka m c) := by
  refine (dats m 0 c).arrAt_eq_of_covers 11 _ (by decide +kernel) fun t hf y => ?_
  blk_simp
  rw [after0_11]
  refine Eq.trans (Good.out_1 (good m c t.val t.isLt) y) (congrArg (asArr1 (ka m c)) (?_ : ix2 (row t.val t.isLt (y 0)) (y 1) = _))
  unfold row
  blk_ext [idx t]

/-- A result as an array. -/
def asArr2 (A : Args) : FVec Ideal S8192x3072 .bf16 := fun y => YCAT A (y 0) (y 1)

theorem Good.out_2 {A : Args} {n : ℕ} {h : n < 32} {s : St Ideal} (g : Good A n h s) (y : S256x3072.Idx) : (s.2.2.1 y : EReal) = asArr2 A (ix2 (row n h (y 0)) (y 1)) := by
  obtain ⟨⟨D, x, z, e, ok, ex⟩, _, _⟩ := g
  rw [e, Pt.out_2]
  exact (congrArg D.o2 (eq_ix2 y)).trans (Pt.o2_row ok (y 0) ex (y 1))

theorem final12 (c : Dev nD) : (dats m 0 c).arrAt 12 (cfgs 0).N = asArr2 (ka m c) := by
  refine (dats m 0 c).arrAt_eq_of_covers 12 _ (by decide +kernel) fun t hf y => ?_
  blk_simp
  rw [after0_12]
  refine Eq.trans (Good.out_2 (good m c t.val t.isLt) y) (congrArg (asArr2 (ka m c)) (?_ : ix2 (row t.val t.isLt (y 0)) (y 1) = _))
  unfold row
  blk_ext [idx t]

/-- A result as an array. -/
def asArr3 (A : Args) : FVec Ideal S8192x1536 .bf16 := fun y => OCAT A (y 0) (y 1)

theorem Good.out_3 {A : Args} {n : ℕ} {h : n < 32} {s : St Ideal} (g : Good A n h s) (y : S256x1536.Idx) : (s.2.2.2.1 y : EReal) = asArr3 A (ix2 (row n h (y 0)) (y 1)) := by
  obtain ⟨⟨D, x, z, e, ok, ex⟩, _, _⟩ := g
  rw [e, Pt.out_3]
  exact (congrArg D.o3 (eq_ix2 y)).trans (Pt.o3_row ok (y 0) ex (y 1))

theorem final13 (c : Dev nD) : (dats m 0 c).arrAt 13 (cfgs 0).N = asArr3 (ka m c) := by
  refine (dats m 0 c).arrAt_eq_of_covers 13 _ (by decide +kernel) fun t hf y => ?_
  blk_simp
  rw [after0_13]
  refine Eq.trans (Good.out_3 (good m c t.val t.isLt) y) (congrArg (asArr3 (ka m c)) (?_ : ix2 (row t.val t.isLt (y 0)) (y 1) = _))
  unfold row
  blk_ext [idx t]

/-- A result as an array. -/
def asArr4 (A : Args) : FVec Ideal S8192x1024 .bf16 := fun y => MG A (y 0) (y 1)

theorem Good.out_4 {A : Args} {n : ℕ} {h : n < 32} {s : St Ideal} (g : Good A n h s) (y : S256x1024.Idx) : (s.2.2.2.2.1 y : EReal) = asArr4 A (ix2 (row n h (y 0)) (y 1)) := by
  obtain ⟨⟨D, x, z, e, ok, ex⟩, _, _⟩ := g
  rw [e, Pt.out_4]
  exact (congrArg D.o4 (eq_ix2 y)).trans (Pt.o4_row ok (y 0) ex (y 1))

theorem final14 (c : Dev nD) : (dats m 0 c).arrAt 14 (cfgs 0).N = asArr4 (ka m c) := by
  refine (dats m 0 c).arrAt_eq_of_covers 14 _ (by decide +kernel) fun t hf y => ?_
  blk_simp
  rw [after0_14]
  refine Eq.trans (Good.out_4 (good m c t.val t.isLt) y) (congrArg (asArr4 (ka m c)) (?_ : ix2 (row t.val t.isLt (y 0)) (y 1) = _))
  unfold row
  blk_ext [idx t]

/-- A result as an array. -/
def asArr5 (A : Args) : FVec Ideal S8192x1024 .bf16 := fun y => MO A (y 0) (y 1)

theorem Good.out_5 {A : Args} {n : ℕ} {h : n < 32} {s : St Ideal} (g : Good A n h s) (y : S256x1024.Idx) : (s.2.2.2.2.2.1 y : EReal) = asArr5 A (ix2 (row n h (y 0)) (y 1)) := by
  obtain ⟨⟨D, x, z, e, ok, ex⟩, _, _⟩ := g
  rw [e, Pt.out_5]
  exact (congrArg D.o5 (eq_ix2 y)).trans (Pt.o5_row ok (y 0) ex (y 1))

theorem final15 (c : Dev nD) : (dats m 0 c).arrAt 15 (cfgs 0).N = asArr5 (ka m c) := by
  refine (dats m 0 c).arrAt_eq_of_covers 15 _ (by decide +kernel) fun t hf y => ?_
  blk_simp
  rw [after0_15]
  refine Eq.trans (Good.out_5 (good m c t.val t.isLt) y) (congrArg (asArr5 (ka m c)) (?_ : ix2 (row t.val t.isLt (y 0)) (y 1) = _))
  unfold row
  blk_ext [idx t]

/-- A result as an array. -/
def asArr6 (A : Args) : FVec Ideal S8192x1024 .f32 := fun y => XM A (y 0) (y 1)

theorem Good.out_6 {A : Args} {n : ℕ} {h : n < 32} {s : St Ideal} (g : Good A n h s) (y : S256x1024.Idx) : (s.2.2.2.2.2.2.1 y : EReal) = asArr6 A (ix2 (row n h (y 0)) (y 1)) := by
  obtain ⟨⟨D, x, z, e, ok, ex⟩, _, _⟩ := g
  rw [e, Pt.out_6]
  exact (congrArg D.o6 (eq_ix2 y)).trans (Pt.o6_row ok (y 0) ex (y 1))

theorem final16 (c : Dev nD) : (dats m 0 c).arrAt 16 (cfgs 0).N = asArr6 (ka m c) := by
  refine (dats m 0 c).arrAt_eq_of_covers 16 _ (by decide +kernel) fun t hf y => ?_
  blk_simp
  rw [after0_16]
  refine Eq.trans (Good.out_6 (good m c t.val t.isLt) y) (congrArg (asArr6 (ka m c)) (?_ : ix2 (row t.val t.isLt (y 0)) (y 1) = _))
  unfold row
  blk_ext [idx t]

end Cert.KernelMixIdeal.Proof

end
-- ==== Proof.MixRef.lean ====
module

public import proofs.«01_k».proof.Proof.Gen.ReferenceMixIdeal.Run
public import proofs.«01_k».proof.Proof.MixWord
public import Idealize.ShloMosaic.Lib.Pipeline.ValueKit
public import Idealize.ShloMosaic.Lib.KernelVsHost

@[expose] public section

set_option maxRecDepth 16384

noncomputable section

namespace Cert.ReferenceMixIdeal.Proof

open Cert.ReferenceMixIdeal Cert.ReferenceMixIdeal.Gen Cert.ReferenceMixIdeal.Value Idealize.ShloMosaic Idealize.ShloMosaic.TcCoe Idealize.SL.Sem
open Cert.MixSpec
open Cert.Gelu (gelu)

variable (V0 : Valuation τ sig (Elt Ideal))

/-- The reference's arguments. -/
def ra : Args := args (V0 (Proc.devRef .tc main_arg0)) (V0 (Proc.devRef .tc main_arg1)) (V0 (Proc.devRef .tc main_arg2)) (V0 (Proc.devRef .tc main_arg3)) (V0 (Proc.devRef .tc main_arg4))
  (V0 (Proc.devRef .tc main_arg5)) (V0 (Proc.devRef .tc main_arg6)) (V0 (Proc.devRef .tc main_arg7)) (V0 (Proc.devRef .tc main_arg8)) (V0 (Proc.devRef .tc main_arg9))
  (V0 (Proc.devRef .tc main_arg10)) (V0 (Proc.devRef .tc main_arg11)) (V0 (Proc.devRef .tc main_arg12)) (V0 (Proc.devRef .tc main_arg13)) (V0 (Proc.devRef .tc main_arg14))

/-- Rows before the data of rows padded in front. -/
theorem pad_before {N : ℕ} (n : ℕ) (x : FVec Ideal S2x4096x128 .f32) (z : FVec Ideal S_ .f32) (hp : S2x4096x128.Pads ![0, n, 0] ![0, 0, 0] ![0, 0, 0] ⟨3, ![2, N, 128]⟩) (hu : 0 < S_.numel)
    (b : Fin 2) (r : ℕ) (q : Fin 128) (hr : r < N) (h : r < n) : pad ⟨3, ![2, N, 128]⟩ ![0, n, 0] ![0, 0, 0] ![0, 0, 0] x z hp hu (ix3 b ⟨r, hr⟩ q) = z (Shape.Idx.first hu) :=
  pad_apply_of_not_inside _ _ _ _ _ _ _ _ 1 fun hc => absurd hc.1 (by show ¬ n ≤ r; omega)

/-- Rows of the data of rows padded in front. -/
theorem pad_after {N : ℕ} (n : ℕ) (x : FVec Ideal S2x4096x128 .f32) (z : FVec Ideal S_ .f32) (hp : S2x4096x128.Pads ![0, n, 0] ![0, 0, 0] ![0, 0, 0] ⟨3, ![2, N, 128]⟩) (hu : 0 < S_.numel)
    (b : Fin 2) (r : ℕ) (q : Fin 128) (hr : r < N) (h : n ≤ r) (h4 : r - n < 4096) : pad ⟨3, ![2, N, 128]⟩ ![0, n, 0] ![0, 0, 0] ![0, 0, 0] x z hp hu (ix3 b ⟨r, hr⟩ q) = x (ix3 b ⟨r - n, h4⟩ q) := by
  refine pad_apply_of_inside _ _ _ _ _ _ _ _ _ fun a => ?_
  match a with
  | 0 => show b.val = 0 + b.val * (0 + 1); omega
  | 1 => show r = n + (r - n) * (0 + 1); omega
  | 2 => show q.val = 0 + q.val * (0 + 1); omega

theorem h_at (i : Fin 8192) (q : Fin 1024) : res_main_v27 V0 (ix3 ⟨i.val / 4096, by omega⟩ ⟨i.val % 4096, by omega⟩ q) = H (ra V0) i q := by
  pointwise [res_main_v27, res_main_v0]
  rfl

theorem z_at (i : Fin 8192) (q : Fin 6144) : res_main_v28 V0 (ix3 ⟨i.val / 4096, by omega⟩ ⟨i.val % 4096, by omega⟩ q) = Z (ra V0) i q := by
  pointwise [res_main_v28]
  simp only [h_at]
  rfl

/-- The row of a position of a sequence. -/
theorem z_row (b : Fin 2) (s : Fin 4096) (i : Fin 8192) (hi : i.val = 4096 * b.val + s.val) (q : Fin 6144) : res_main_v28 V0 (ix3 b s q) = Z (ra V0) i q := by
  have hb : b = ⟨i.val / 4096, by omega⟩ := Fin.ext (by show b.val = i.val / 4096; omega)
  have hs : s = ⟨i.val % 4096, by omega⟩ := Fin.ext (by show s.val = i.val % 4096; omega)
  exact (congrArg₂ (fun b s => res_main_v28 V0 (ix3 b s q)) hb hs).trans (z_at V0 i q)

theorem u_at (i : Fin 8192) (q : Fin 512) : res_main_v29 V0 (ix3 ⟨i.val / 4096, by omega⟩ ⟨i.val % 4096, by omega⟩ q) = Z (ra V0) i ⟨q.val, by omega⟩ := by
  pointwise [res_main_v29]
  exact z_at V0 i _

theorem v_row (b : Fin 2) (s : Fin 4096) (i : Fin 8192) (hi : i.val = 4096 * b.val + s.val) (q : Fin 512) : res_main_v60 V0 (ix3 b s q) = GV (ra V0) i q := by
  pointwise [res_main_v60, res_main_v30]
  rw [z_row V0 b s i hi ⟨512 + q.val, by omega⟩]
  rfl

theorem c_row (b : Fin 2) (s : Fin 4096) (i : Fin 8192) (hi : i.val = 4096 * b.val + s.val) (q : Fin 512) : res_main_v74 V0 (ix3 b s q) = CV (ra V0) i q := by
  pointwise [res_main_v74, res_main_v72]
  simp only [v_row V0 b s i hi]
  rfl

theorem oa_at (i : Fin 8192) (q : Fin 512) : res_main_v106 V0 (ix3 ⟨i.val / 4096, by omega⟩ ⟨i.val % 4096, by omega⟩ q) = OA (ra V0) i q := by
  pointwise [res_main_v106, res_main_v72]
  simp only [u_at V0 i]
  unfold OA SG gelu
  refine Ideal.mul_congr rfl (Ideal.add_congr (Finset.sum_congr rfl fun k _ => ?_) ?_)
  · rw [mask_select _ _ (by omega) k.isLt]
    have hr : 128 * (i.val / 128) + k.val = 4096 * (i.val / 4096) + (i.val % 4096 / 128 * 128 + k.val) := by omega
    simp only [v_row V0 ⟨i.val / 4096, by omega⟩ ⟨i.val % 4096 / 128 * 128 + k.val, by omega⟩ ⟨128 * (i.val / 128) + k.val, by omega⟩ hr,
      c_row V0 ⟨i.val / 4096, by omega⟩ ⟨i.val % 4096 / 128 * 128 + k.val, by omega⟩ ⟨128 * (i.val / 128) + k.val, by omega⟩ hr]
    simp only [show i.val % 4096 % 128 = i.val % 128 by omega]
    by_cases h : k.val ≤ i.val % 128
    · rw [if_pos h, if_pos h, mul_one, mul_comm]; rfl
    · rw [if_neg h, if_neg h, mul_zero, zero_mul]
  · simp only [show i.val % 4096 % 128 = i.val % 128 by omega]; rfl

theorem xb_row (b : Fin 2) (s : Fin 4096) (i : Fin 8192) (hi : i.val = 4096 * b.val + s.val) (q : Fin 512) : res_main_v31 V0 (ix3 b s q) = XB (ra V0) i q := by
  pointwise [res_main_v31]
  exact z_row V0 b s i hi _

theorem ext2_row (b : Fin 2) (s : Fin 4096) (i : Fin 8192) (hi : i.val = 4096 * b.val + s.val) (q : Fin 128) (n k : ℕ) (h : n + k = s.val + 1) (hn : n < 4097) (hk : k ≤ 1) : res_main_v113 V0 (ix3 b ⟨n, hn⟩ q) = back (XB (ra V0)) i k ⟨q.val, by omega⟩ := by
  unfold res_main_v113 back
  by_cases hc : i.val % 4096 < k
  · rw [if_pos hc]
    exact (pad_before 1 _ _ _ _ b n q hn (by omega)).trans zero_word
  · rw [if_neg hc]
    refine (pad_after 1 _ _ _ _ b n q hn (by omega) (by omega)).trans ?_
    pointwise [res_main_v112]
    exact xb_row V0 b ⟨n - 1, by omega⟩ ⟨i.val - k, by omega⟩ (by show i.val - k = 4096 * b.val + (n - 1); omega) _

theorem ext4_row (b : Fin 2) (s : Fin 4096) (i : Fin 8192) (hi : i.val = 4096 * b.val + s.val) (q : Fin 128) (n k : ℕ) (h : n + k = s.val + 3) (hn : n < 4099) (hk : k ≤ 3) : res_main_v127 V0 (ix3 b ⟨n, hn⟩ q) = back (XB (ra V0)) i k ⟨128 + q.val, by omega⟩ := by
  unfold res_main_v127 back
  by_cases hc : i.val % 4096 < k
  · rw [if_pos hc]
    exact (pad_before 3 _ _ _ _ b n q hn (by omega)).trans zero_word
  · rw [if_neg hc]
    refine (pad_after 3 _ _ _ _ b n q hn (by omega) (by omega)).trans ?_
    pointwise [res_main_v126]
    exact xb_row V0 b ⟨n - 3, by omega⟩ ⟨i.val - k, by omega⟩ (by show i.val - k = 4096 * b.val + (n - 3); omega) _

theorem ext8_row (b : Fin 2) (s : Fin 4096) (i : Fin 8192) (hi : i.val = 4096 * b.val + s.val) (q : Fin 128) (n k : ℕ) (h : n + k = s.val + 7) (hn : n < 4103) (hk : k ≤ 7) : res_main_v145 V0 (ix3 b ⟨n, hn⟩ q) = back (XB (ra V0)) i k ⟨256 + q.val, by omega⟩ := by
  unfold res_main_v145 back
  by_cases hc : i.val % 4096 < k
  · rw [if_pos hc]
    exact (pad_before 7 _ _ _ _ b n q hn (by omega)).trans zero_word
  · rw [if_neg hc]
    refine (pad_after 7 _ _ _ _ b n q hn (by omega) (by omega)).trans ?_
    pointwise [res_main_v144]
    exact xb_row V0 b ⟨n - 7, by omega⟩ ⟨i.val - k, by omega⟩ (by show i.val - k = 4096 * b.val + (n - 7); omega) _

theorem ext16_row (b : Fin 2) (s : Fin 4096) (i : Fin 8192) (hi : i.val = 4096 * b.val + s.val) (q : Fin 128) (n k : ℕ) (h : n + k = s.val + 15) (hn : n < 4111) (hk : k ≤ 15) : res_main_v171 V0 (ix3 b ⟨n, hn⟩ q) = back (XB (ra V0)) i k ⟨384 + q.val, by omega⟩ := by
  unfold res_main_v171 back
  by_cases hc : i.val % 4096 < k
  · rw [if_pos hc]
    exact (pad_before 15 _ _ _ _ b n q hn (by omega)).trans zero_word
  · rw [if_neg hc]
    refine (pad_after 15 _ _ _ _ b n q hn (by omega) (by omega)).trans ?_
    pointwise [res_main_v170]
    exact xb_row V0 b ⟨n - 15, by omega⟩ ⟨i.val - k, by omega⟩ (by show i.val - k = 4096 * b.val + (n - 15); omega) _

theorem pd_row (b : Fin 2) (s : Fin 4096) (i : Fin 8192) (hi : i.val = 4096 * b.val + s.val) (h : Fin 4) (q : Fin 128) : res_main_v216 V0 (ix4 b s h q) = trail (XB (ra V0)) (win h.val) i ⟨h.val * 128 + q.val, by omega⟩ := by
  have hs : i.val % 4096 = s.val := by omega
  fin_cases h
  · show res_main_v216 V0 (ix4 b s 0 q) = trail (XB (ra V0)) 2 i ⟨0 * 128 + q.val, by omega⟩
    pointwise [res_main_v216, res_main_v111, res_main_v112]
    rw [ext2_row V0 b s i hi q s.val 1 (by omega) (by omega) (by omega), ext2_row V0 b s i hi q (1 + s.val) 0 (by omega) (by omega) (by omega), positions _ 2 (by omega) (by omega), xb_row V0 b s i hi, trail, sum2 (fun k => back (XB (ra V0)) i k ⟨q.val, by omega⟩), hs]
  · show res_main_v216 V0 (ix4 b s 1 q) = trail (XB (ra V0)) 4 i ⟨1 * 128 + q.val, by omega⟩
    pointwise [res_main_v216, res_main_v111, res_main_v126]
    rw [ext4_row V0 b s i hi q s.val 3 (by omega) (by omega) (by omega), ext4_row V0 b s i hi q (1 + s.val) 2 (by omega) (by omega) (by omega), ext4_row V0 b s i hi q (2 + s.val) 1 (by omega) (by omega) (by omega), ext4_row V0 b s i hi q (3 + s.val) 0 (by omega) (by omega) (by omega), positions _ 4 (by omega) (by omega), xb_row V0 b s i hi, trail, sum4 (fun k => back (XB (ra V0)) i k ⟨1 * 128 + q.val, by omega⟩), hs]
  · show res_main_v216 V0 (ix4 b s 2 q) = trail (XB (ra V0)) 8 i ⟨2 * 128 + q.val, by omega⟩
    pointwise [res_main_v216, res_main_v111, res_main_v144]
    rw [ext8_row V0 b s i hi q s.val 7 (by omega) (by omega) (by omega), ext8_row V0 b s i hi q (1 + s.val) 6 (by omega) (by omega) (by omega), ext8_row V0 b s i hi q (2 + s.val) 5 (by omega) (by omega) (by omega), ext8_row V0 b s i hi q (3 + s.val) 4 (by omega) (by omega) (by omega), ext8_row V0 b s i hi q (4 + s.val) 3 (by omega) (by omega) (by omega), ext8_row V0 b s i hi q (5 + s.val) 2 (by omega) (by omega) (by omega), ext8_row V0 b s i hi q (6 + s.val) 1 (by omega) (by omega) (by omega), ext8_row V0 b s i hi q (7 + s.val) 0 (by omega) (by omega) (by omega), positions _ 8 (by omega) (by omega), xb_row V0 b s i hi, trail, sum8 (fun k => back (XB (ra V0)) i k ⟨2 * 128 + q.val, by omega⟩), hs]
  · show res_main_v216 V0 (ix4 b s 3 q) = trail (XB (ra V0)) 16 i ⟨3 * 128 + q.val, by omega⟩
    pointwise [res_main_v216, res_main_v111, res_main_v170]
    rw [ext16_row V0 b s i hi q s.val 15 (by omega) (by omega) (by omega), ext16_row V0 b s i hi q (1 + s.val) 14 (by omega) (by omega) (by omega), ext16_row V0 b s i hi q (2 + s.val) 13 (by omega) (by omega) (by omega), ext16_row V0 b s i hi q (3 + s.val) 12 (by omega) (by omega) (by omega), ext16_row V0 b s i hi q (4 + s.val) 11 (by omega) (by omega) (by omega), ext16_row V0 b s i hi q (5 + s.val) 10 (by omega) (by omega) (by omega), ext16_row V0 b s i hi q (6 + s.val) 9 (by omega) (by omega) (by omega), ext16_row V0 b s i hi q (7 + s.val) 8 (by omega) (by omega) (by omega), ext16_row V0 b s i hi q (8 + s.val) 7 (by omega) (by omega) (by omega), ext16_row V0 b s i hi q (9 + s.val) 6 (by omega) (by omega) (by omega), ext16_row V0 b s i hi q (10 + s.val) 5 (by omega) (by omega) (by omega), ext16_row V0 b s i hi q (11 + s.val) 4 (by omega) (by omega) (by omega), ext16_row V0 b s i hi q (12 + s.val) 3 (by omega) (by omega) (by omega), ext16_row V0 b s i hi q (13 + s.val) 2 (by omega) (by omega) (by omega), ext16_row V0 b s i hi q (14 + s.val) 1 (by omega) (by omega) (by omega), ext16_row V0 b s i hi q (15 + s.val) 0 (by omega) (by omega) (by omega), positions _ 16 (by omega) (by omega), xb_row V0 b s i hi, trail, sum16 (fun k => back (XB (ra V0)) i k ⟨3 * 128 + q.val, by omega⟩), hs]

theorem ob_row (b : Fin 2) (s : Fin 4096) (i : Fin 8192) (hi : i.val = 4096 * b.val + s.val) (q : Fin 512) : res_main_v222 V0 (ix3 b s q) = OB (ra V0) i q := by
  pointwise [res_main_v222]
  refine Ideal.mul_congr (Finset.sum_congr rfl fun k _ => ?_) rfl
  rw [mul_comm]
  refine Ideal.mul_congr ((pd_row V0 b s i hi _ k).trans ?_) rfl
  unfold PD
  simp only [show (q.val / 128 * 128 + k.val) / 128 = q.val / 128 by omega]

theorem zz_row (b : Fin 2) (s : Fin 4096) (i : Fin 8192) (hi : i.val = 4096 * b.val + s.val) (q : Fin 512) (n k : ℕ) (h : n + k = s.val + 2) (hn : n < 4098) (hk : k ≤ 2) : res_main_v226 V0 (ix3 b ⟨n, hn⟩ q) = back (ZZ (ra V0)) i k q := by
  unfold res_main_v226 back
  pointwise
  by_cases hc : i.val % 4096 < k
  · rw [if_pos hc, dif_neg (by omega)]; exact zero_word
  · rw [if_neg hc, dif_pos (by omega)]
    have hr : i.val - k = 4096 * b.val + (n - 2) := by omega
    exact Ideal.mul_congr (z_row V0 b ⟨n - 2, by omega⟩ ⟨i.val - k, by omega⟩ hr _) (z_row V0 b ⟨n - 2, by omega⟩ ⟨i.val - k, by omega⟩ hr _)

theorem oc_row (b : Fin 2) (s : Fin 4096) (i : Fin 8192) (hi : i.val = 4096 * b.val + s.val) (q : Fin 512) : res_main_v247 V0 (ix3 b s q) = OC (ra V0) i q := by
  pointwise [res_main_v247, res_main_v224]
  rw [z_row V0 b s i hi ⟨1536 + q.val, by omega⟩, zz_row V0 b s i hi q s.val 2 (by omega) (by omega) (by omega), zz_row V0 b s i hi q (1 + s.val) 1 (by omega) (by omega) (by omega),
    zz_row V0 b s i hi q (2 + s.val) 0 (by omega) (by omega) (by omega)]
  unfold OC
  have h0 : back (ZZ (ra V0)) i 0 q = ZZ (ra V0) i q := by rw [back, if_neg (by omega)]; rfl
  rw [h0]
  rfl

theorem ob_at (i : Fin 8192) (q : Fin 512) : res_main_v222 V0 (ix3 ⟨i.val / 4096, by omega⟩ ⟨i.val % 4096, by omega⟩ q) = OB (ra V0) i q := ob_row V0 _ _ i (by show i.val = 4096 * (i.val / 4096) + i.val % 4096; omega) q

theorem oc_at (i : Fin 8192) (q : Fin 512) : res_main_v247 V0 (ix3 ⟨i.val / 4096, by omega⟩ ⟨i.val % 4096, by omega⟩ q) = OC (ra V0) i q := oc_row V0 _ _ i (by show i.val = 4096 * (i.val / 4096) + i.val % 4096; omega) q

theorem ya_at (i : Fin 8192) (q : Fin 1024) : res_main_v248 V0 (ix3 ⟨i.val / 4096, by omega⟩ ⟨i.val % 4096, by omega⟩ q) = YA (ra V0) i q := by
  pointwise [res_main_v248]
  simp only [oa_at]
  rfl

theorem yb_at (i : Fin 8192) (q : Fin 1024) : res_main_v249 V0 (ix3 ⟨i.val / 4096, by omega⟩ ⟨i.val % 4096, by omega⟩ q) = YB (ra V0) i q := by
  pointwise [res_main_v249]
  simp only [ob_at]
  rfl

theorem yc_at (i : Fin 8192) (q : Fin 1024) : res_main_v250 V0 (ix3 ⟨i.val / 4096, by omega⟩ ⟨i.val % 4096, by omega⟩ q) = YC (ra V0) i q := by
  pointwise [res_main_v250]
  simp only [oc_at]
  rfl

theorem mg_at (i : Fin 8192) (q : Fin 1024) : res_main_v269 V0 (ix3 ⟨i.val / 4096, by omega⟩ ⟨i.val % 4096, by omega⟩ q) = MG (ra V0) i q := by
  pointwise [res_main_v269, res_main_v258]
  rw [ya_at, yb_at, yc_at, z_at, z_at, z_at]
  unfold MG sg
  simp only [show 3072 + (1024 + q.val) = 4096 + q.val by omega, show 3072 + (2048 + q.val) = 5120 + q.val by omega]

theorem mo_at (i : Fin 8192) (q : Fin 1024) : res_main_v270 V0 (ix3 ⟨i.val / 4096, by omega⟩ ⟨i.val % 4096, by omega⟩ q) = MO (ra V0) i q := by
  pointwise [res_main_v270]
  simp only [mg_at]
  rfl

/-- The seven results. -/
theorem res_h (y : S8192x1024.Idx) : truncf .bf16 (shapeCast S8192x1024 (res_main_v27 V0) shapeCasts_S2x4096x1024_S8192x1024) bitsLt_bf16_f32 y = H (ra V0) (y 0) (y 1) := by
  pointwise
  exact h_at V0 (y 0) (y 1)

theorem res_z (y : S8192x6144.Idx) : truncf .bf16 (shapeCast S8192x6144 (res_main_v28 V0) shapeCasts_S2x4096x6144_S8192x6144) bitsLt_bf16_f32 y = Z (ra V0) (y 0) (y 1) := by
  pointwise
  exact z_at V0 (y 0) (y 1)

theorem res_y (y : S8192x3072.Idx) : ((truncf (F := Ideal) .bf16 (shapeCast S8192x3072 ((concatenate S2x4096x3072 2 [⟨S2x4096x1024, ((res_main_v248 V0) : (⟨S2x4096x1024, .f32⟩ : BufTy).Contents (Elt Ideal))⟩, ⟨S2x4096x1024, ((res_main_v249 V0) : (⟨S2x4096x1024, .f32⟩ : BufTy).Contents (Elt Ideal))⟩, ⟨S2x4096x1024, ((res_main_v250 V0) : (⟨S2x4096x1024, .f32⟩ : BufTy).Contents (Elt Ideal))⟩] concatenates_S2x4096x1024_S2x4096x1024_S2x4096x1024_S2x4096x3072_d2 : (⟨S2x4096x3072, .f32⟩ : BufTy).Contents (Elt Ideal))) shapeCasts_S2x4096x3072_S8192x3072) bitsLt_bf16_f32 : FVec Ideal S8192x3072 .bf16) y : EReal) = YCAT (ra V0) (y 0) (y 1) := by
  pointwise [YCAT]
  simp only [ya_at V0 (y 0), yb_at V0 (y 0), yc_at V0 (y 0)]

theorem res_o (y : S8192x1536.Idx) : ((truncf (F := Ideal) .bf16 (shapeCast S8192x1536 ((concatenate S2x4096x1536 2 [⟨S2x4096x512, ((res_main_v106 V0) : (⟨S2x4096x512, .f32⟩ : BufTy).Contents (Elt Ideal))⟩, ⟨S2x4096x512, ((res_main_v222 V0) : (⟨S2x4096x512, .f32⟩ : BufTy).Contents (Elt Ideal))⟩, ⟨S2x4096x512, ((res_main_v247 V0) : (⟨S2x4096x512, .f32⟩ : BufTy).Contents (Elt Ideal))⟩] concatenates_S2x4096x512_S2x4096x512_S2x4096x512_S2x4096x1536_d2 : (⟨S2x4096x1536, .f32⟩ : BufTy).Contents (Elt Ideal))) shapeCasts_S2x4096x1536_S8192x1536) bitsLt_bf16_f32 : FVec Ideal S8192x1536 .bf16) y : EReal) = OCAT (ra V0) (y 0) (y 1) := by
  pointwise [OCAT]
  simp only [oa_at V0 (y 0), ob_at V0 (y 0), oc_at V0 (y 0)]

theorem res_m (y : S8192x1024.Idx) : truncf .bf16 (shapeCast S8192x1024 (res_main_v269 V0) shapeCasts_S2x4096x1024_S8192x1024) bitsLt_bf16_f32 y = MG (ra V0) (y 0) (y 1) := by
  pointwise
  exact mg_at V0 (y 0) (y 1)

theorem res_mo (y : S8192x1024.Idx) : truncf .bf16 (shapeCast S8192x1024 (res_main_v270 V0) shapeCasts_S2x4096x1024_S8192x1024) bitsLt_bf16_f32 y = MO (ra V0) (y 0) (y 1) := by
  pointwise
  exact mo_at V0 (y 0) (y 1)

theorem res_x (y : S8192x1024.Idx) : (shapeCast S8192x1024 (addf (res_main_v0 V0) (mulf (broadcastInDim S2x4096x1024 ![0, 1, 2] bcast_S2x1x1024_S2x4096x1024_0_1_2 (broadcastInDim S2x1x1024 ![0, 2] bcast_S2x1024_S2x1x1024_0_2 (shapeCast _ (extractStridedSlice S1x2x1x1024 ![0, 0, 2, 0] (V0 (Proc.devRef .tc main_arg1)) slices_S4x2x8x1024_S1x2x1x1024_0_0_2_0) shapeCasts_S1x2x1x1024_S2x1024))) (res_main_v270 V0))) shapeCasts_S2x4096x1024_S8192x1024 : FVec Ideal S8192x1024 .f32) y = XM (ra V0) (y 0) (y 1) := by
  pointwise [res_main_v0]
  rw [mo_at V0 (y 0) (y 1)]
  obtain ⟨i, q, rfl⟩ : ∃ (i : Fin 8192) (q : Fin 1024), y = ix2 i q := ⟨y 0, y 1, eq_ix2 y⟩
  rfl

end Cert.ReferenceMixIdeal.Proof

end
-- ==== Proof.MixTie.lean ====
module

public import proofs.«01_k».proof.Defs
public import proofs.«01_k».proof.Proof.MixVal
public import proofs.«01_k».proof.Proof.MixRef
public import Idealize.ShloMosaic.Adequacy
public import Idealize.ShloMosaic.Init
public import Idealize.ShloMosaic.Lib.Quiescent

@[expose] public section

set_option maxRecDepth 16384

noncomputable section

namespace Cert.KernelMixIdeal.Proof

open Cert.KernelMixIdeal Cert.KernelMixIdeal.Gen Cert.MixSpec Idealize.ShloMosaic Idealize.ShloMosaic.TcCoe Idealize.SL.Sem

variable (m : (ℓ : Loc nD τ sig) → Buf (Elt Ideal) ℓ) (ρ : Dev nD → PrngReg)

theorem left0 (r : PUnit × MemSt nD τ sig (Elt Ideal)) (h : Pipeline.FramePost cfgs (dats m) 0 (V m) r) (c : Dev nD) :
    r.2.mem ((c.tc : Thread nD τ).loc main_v22_0) = asArr0 (ka m c) :=
  ((h c).1 10).trans (final10 m c)

theorem left1 (r : PUnit × MemSt nD τ sig (Elt Ideal)) (h : Pipeline.FramePost cfgs (dats m) 0 (V m) r) (c : Dev nD) :
    r.2.mem ((c.tc : Thread nD τ).loc main_v22_1) = asArr1 (ka m c) :=
  ((h c).1 11).trans (final11 m c)

theorem left2 (r : PUnit × MemSt nD τ sig (Elt Ideal)) (h : Pipeline.FramePost cfgs (dats m) 0 (V m) r) (c : Dev nD) :
    r.2.mem ((c.tc : Thread nD τ).loc main_v22_2) = asArr2 (ka m c) :=
  ((h c).1 12).trans (final12 m c)

theorem left3 (r : PUnit × MemSt nD τ sig (Elt Ideal)) (h : Pipeline.FramePost cfgs (dats m) 0 (V m) r) (c : Dev nD) :
    r.2.mem ((c.tc : Thread nD τ).loc main_v22_3) = asArr3 (ka m c) :=
  ((h c).1 13).trans (final13 m c)

theorem left4 (r : PUnit × MemSt nD τ sig (Elt Ideal)) (h : Pipeline.FramePost cfgs (dats m) 0 (V m) r) (c : Dev nD) :
    r.2.mem ((c.tc : Thread nD τ).loc main_v22_4) = asArr4 (ka m c) :=
  ((h c).1 14).trans (final14 m c)

theorem left5 (r : PUnit × MemSt nD τ sig (Elt Ideal)) (h : Pipeline.FramePost cfgs (dats m) 0 (V m) r) (c : Dev nD) :
    r.2.mem ((c.tc : Thread nD τ).loc main_v22_5) = asArr5 (ka m c) :=
  ((h c).1 15).trans (final15 m c)

theorem left6 (r : PUnit × MemSt nD τ sig (Elt Ideal)) (h : Pipeline.FramePost cfgs (dats m) 0 (V m) r) (c : Dev nD) :
    r.2.mem ((c.tc : Thread nD τ).loc main_v22_6) = asArr6 (ka m c) :=
  ((h c).1 16).trans (final16 m c)

theorem same0 (r : PUnit × MemSt nD τ sig (Elt Ideal)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

theorem same1 (r : PUnit × MemSt nD τ sig (Elt Ideal)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

theorem same2 (r : PUnit × MemSt nD τ sig (Elt Ideal)) (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)

theorem same3 (r : PUnit × MemSt nD τ sig (Elt Ideal)) (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)

theorem same4 (r : PUnit × MemSt nD τ sig (Elt Ideal)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

theorem same5 (r : PUnit × MemSt nD τ sig (Elt Ideal)) (h : Pipeline.FramePost cfgs (dats m) 0 (V m) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))

theorem same6 (r : PUnit × MemSt nD τ sig (Elt Ideal)) (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_main_arg6 m c)

theorem same7 (r : PUnit × MemSt nD τ sig (Elt Ideal)) (h : Pipeline.FramePost cfgs (dats m) 0 (V m) r) (c : Dev nD) :
    r.2.mem ((c.tc : Thread nD τ).loc main_arg7) = m ((c.tc : Thread nD τ).loc main_arg7) :=
  ((h c).1 7).trans (((dats m 0 c).arrAt_in 7 rfl _).trans ((A_eq m c 7).trans (V_main_arg7 m c)))

theorem same8 (r : PUnit × MemSt nD τ sig (Elt Ideal)) (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_main_arg8 m c)

theorem same9 (r : PUnit × MemSt nD τ sig (Elt Ideal)) (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_main_arg9 m c)

theorem same10 (r : PUnit × MemSt nD τ sig (Elt Ideal)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

theorem same11 (r : PUnit × MemSt nD τ sig (Elt Ideal)) (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_main_arg11 m c)

theorem same12 (r : PUnit × MemSt nD τ sig (Elt Ideal)) (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_main_arg12 m c)

theorem same13 (r : PUnit × MemSt nD τ sig (Elt Ideal)) (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_main_arg13 m c)

theorem same14 (r : PUnit × MemSt nD τ sig (Elt Ideal)) (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_main_arg14 m c)

/-- The call leaves the seven arrays of its last grid point and its arguments as they were. -/
theorem mix_run : θ_run defs (onTc (τ := τ) (main (F := Ideal))) ⟨m, fun _ => 0, ρ⟩ fun r => ∀ c : Dev nD,
      r.2.mem ((c.tc : Thread nD τ).loc main_v22_0) = asArr0 (ka m c)
      ∧ r.2.mem ((c.tc : Thread nD τ).loc main_v22_1) = asArr1 (ka m c)
      ∧ r.2.mem ((c.tc : Thread nD τ).loc main_v22_2) = asArr2 (ka m c)
      ∧ r.2.mem ((c.tc : Thread nD τ).loc main_v22_3) = asArr3 (ka m c)
      ∧ r.2.mem ((c.tc : Thread nD τ).loc main_v22_4) = asArr4 (ka m c)
      ∧ r.2.mem ((c.tc : Thread nD τ).loc main_v22_5) = asArr5 (ka m c)
      ∧ r.2.mem ((c.tc : Thread nD τ).loc main_v22_6) = asArr6 (ka m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨left0 m r h c,
    left1 m r h c,
    left2 m r h c,
    left3 m r h c,
    left4 m r h c,
    left5 m r h c,
    left6 m r h c,
    same0 m r h c,
    same1 m r h c,
    same2 m r h c,
    same3 m r h c,
    same4 m r h c,
    same5 m r h c,
    same6 m r h c,
    same7 m r h c,
    same8 m r h c,
    same9 m r h c,
    same10 m r h c,
    same11 m r h c,
    same12 m r h c,
    same13 m r h c,
    same14 m r h c⟩) (run_main m ρ)

end Cert.KernelMixIdeal.Proof

namespace Cert.Proof

open Idealize.ShloMosaic Idealize.SL.Sem Cert.MixSpec

theorem quiescent_ReferenceMixIdeal : quiescent_ReferenceMixIdeal := fun m ρ _ =>
  (θ_run Cert.ReferenceMixIdeal.defs _ _).mono (fun r h => ⟨fun c => (h c).2.2.2.2.2.2.2, sem_eq_zero_of_no_sems (by decide) r.2⟩)
    (Cert.ReferenceMixIdeal.Value.run (F := Ideal) m ρ)

theorem preserves_KernelMix_KernelMixIdeal : preserves_KernelMix_KernelMixIdeal :=
  IdealRules.named_const.statement Cert.KernelMixIdeal.κ "gelu_kc" .f32 0x3D122279#32 _ rfl

theorem algebraic_KernelMixIdeal_ReferenceMixIdeal : algebraic_KernelMixIdeal_ReferenceMixIdeal := by
  intro m ρ m' ρ' _ hagree
  refine ⟨_, _, _, _, _, _, _, Cert.KernelMixIdeal.Proof.mix_run m ρ, ?_⟩
  have hr : ∀ c : Dev Cert.ReferenceMixIdeal.nD, Cert.ReferenceMixIdeal.Proof.ra (StableHlo.launchContents m' c) = Cert.KernelMixIdeal.Proof.ka m c := fun c => by
    obtain ⟨e0, e1, e2, e3, e4, e5, e6, e7, e8, e9, e10, e11, e12, e13, e14⟩ := hagree c
    unfold Cert.ReferenceMixIdeal.Proof.ra Cert.KernelMixIdeal.Proof.ka
    show args (m' ((c.tc : Thread Cert.ReferenceMixIdeal.nD Cert.ReferenceMixIdeal.τ).loc Cert.ReferenceMixIdeal.main_arg0)) (m' ((c.tc : Thread Cert.ReferenceMixIdeal.nD Cert.ReferenceMixIdeal.τ).loc Cert.ReferenceMixIdeal.main_arg1)) (m' ((c.tc : Thread Cert.ReferenceMixIdeal.nD Cert.ReferenceMixIdeal.τ).loc Cert.ReferenceMixIdeal.main_arg2)) (m' ((c.tc : Thread Cert.ReferenceMixIdeal.nD Cert.ReferenceMixIdeal.τ).loc Cert.ReferenceMixIdeal.main_arg3)) (m' ((c.tc : Thread Cert.ReferenceMixIdeal.nD Cert.ReferenceMixIdeal.τ).loc Cert.ReferenceMixIdeal.main_arg4)) (m' ((c.tc : Thread Cert.ReferenceMixIdeal.nD Cert.ReferenceMixIdeal.τ).loc Cert.ReferenceMixIdeal.main_arg5)) (m' ((c.tc : Thread Cert.ReferenceMixIdeal.nD Cert.ReferenceMixIdeal.τ).loc Cert.ReferenceMixIdeal.main_arg6)) (m' ((c.tc : Thread Cert.ReferenceMixIdeal.nD Cert.ReferenceMixIdeal.τ).loc Cert.ReferenceMixIdeal.main_arg7)) (m' ((c.tc : Thread Cert.ReferenceMixIdeal.nD Cert.ReferenceMixIdeal.τ).loc Cert.ReferenceMixIdeal.main_arg8)) (m' ((c.tc : Thread Cert.ReferenceMixIdeal.nD Cert.ReferenceMixIdeal.τ).loc Cert.ReferenceMixIdeal.main_arg9)) (m' ((c.tc : Thread Cert.ReferenceMixIdeal.nD Cert.ReferenceMixIdeal.τ).loc Cert.ReferenceMixIdeal.main_arg10)) (m' ((c.tc : Thread Cert.ReferenceMixIdeal.nD Cert.ReferenceMixIdeal.τ).loc Cert.ReferenceMixIdeal.main_arg11)) (m' ((c.tc : Thread Cert.ReferenceMixIdeal.nD Cert.ReferenceMixIdeal.τ).loc Cert.ReferenceMixIdeal.main_arg12)) (m' ((c.tc : Thread Cert.ReferenceMixIdeal.nD Cert.ReferenceMixIdeal.τ).loc Cert.ReferenceMixIdeal.main_arg13)) (m' ((c.tc : Thread Cert.ReferenceMixIdeal.nD Cert.ReferenceMixIdeal.τ).loc Cert.ReferenceMixIdeal.main_arg14)) = _
    rw [e0, e1, e2, e3, e4, e5, e6, e7, e8, e9, e10, e11, e12, e13, e14]
  refine (θ_run Cert.ReferenceMixIdeal.defs _ _).mono (fun _ h c => ⟨?_, ?_, ?_, ?_, ?_, ?_, ?_, (h c).2.2.2.2.2.2.2⟩) (Cert.ReferenceMixIdeal.Value.run (F := Ideal) m' ρ')
  · refine ((h c).1).trans ?_
    rw [← hr c]
    funext y
    unfold Cert.KernelMixIdeal.Proof.asArr0
    exact Cert.ReferenceMixIdeal.Proof.res_h _ y
  · refine ((h c).2.1).trans ?_
    rw [← hr c]
    funext y
    unfold Cert.KernelMixIdeal.Proof.asArr1
    exact Cert.ReferenceMixIdeal.Proof.res_z _ y
  · refine ((h c).2.2.1).trans ?_
    rw [← hr c]
    funext y
    unfold Cert.KernelMixIdeal.Proof.asArr2
    exact Cert.ReferenceMixIdeal.Proof.res_y _ y
  · refine ((h c).2.2.2.1).trans ?_
    rw [← hr c]
    funext y
    unfold Cert.KernelMixIdeal.Proof.asArr3
    exact Cert.ReferenceMixIdeal.Proof.res_o _ y
  · refine ((h c).2.2.2.2.1).trans ?_
    rw [← hr c]
    funext y
    unfold Cert.KernelMixIdeal.Proof.asArr4
    exact Cert.ReferenceMixIdeal.Proof.res_m _ y
  · refine ((h c).2.2.2.2.2.1).trans ?_
    rw [← hr c]
    funext y
    unfold Cert.KernelMixIdeal.Proof.asArr5
    exact Cert.ReferenceMixIdeal.Proof.res_mo _ y
  · refine ((h c).2.2.2.2.2.2.1).trans ?_
    rw [← hr c]
    funext y
    unfold Cert.KernelMixIdeal.Proof.asArr6
    exact Cert.ReferenceMixIdeal.Proof.res_x _ y

end Cert.Proof

end
-- ==== Proof.lean ====
module

public import proofs.«01_k».proof.Defs
public import proofs.«01_k».proof.Proof.Gen.KernelIn.Frame
public import proofs.«01_k».proof.Proof.Gen.KernelInIdeal.Value
public import proofs.«01_k».proof.Proof.Gen.KernelO.Frame
public import proofs.«01_k».proof.Proof.Gen.KernelOIdeal.Value
public import proofs.«01_k».proof.Proof.Gen.KernelPa.Frame
public import proofs.«01_k».proof.Proof.Gen.KernelPaIdeal.Value
public import proofs.«01_k».proof.Proof.Gen.KernelPb.Frame
public import proofs.«01_k».proof.Proof.Gen.KernelPbIdeal.Value
public import proofs.«01_k».proof.Proof.Gen.KernelPc.Frame
public import proofs.«01_k».proof.Proof.Gen.KernelPcIdeal.Value
public import proofs.«01_k».proof.Proof.Gen.KernelW13.Frame
public import proofs.«01_k».proof.Proof.Gen.KernelW13Ideal.Value
public import proofs.«01_k».proof.Proof.Gen.KernelW2.Frame
public import proofs.«01_k».proof.Proof.Gen.KernelW2Ideal.Value
public import proofs.«01_k».proof.Proof.Gen.ReferenceInIdeal.Run
public import proofs.«01_k».proof.Proof.Gen.ReferenceOIdeal.Run
public import proofs.«01_k».proof.Proof.Gen.ReferencePaIdeal.Run
public import proofs.«01_k».proof.Proof.Gen.ReferencePbIdeal.Run
public import proofs.«01_k».proof.Proof.Gen.ReferencePcIdeal.Run
public import proofs.«01_k».proof.Proof.Gen.ReferenceW13Ideal.Run
public import proofs.«01_k».proof.Proof.Gen.ReferenceW2Ideal.Run
public import proofs.«01_k».proof.Proof.WgradIn
public import proofs.«01_k».proof.Proof.WgradO
public import proofs.«01_k».proof.Proof.WgradPa
public import proofs.«01_k».proof.Proof.WgradPb
public import proofs.«01_k».proof.Proof.WgradPc
public import proofs.«01_k».proof.Proof.WgradW13
public import proofs.«01_k».proof.Proof.WgradW2
public import proofs.«01_k».proof.Proof.Gen.KernelFfn.Frame
public import proofs.«01_k».proof.Proof.Gen.KernelFfnIdeal.Value
public import proofs.«01_k».proof.Proof.Gen.ReferenceFfnIdeal.Run
public import proofs.«01_k».proof.Proof.Ffn
public import proofs.«01_k».proof.Proof.RawFrame
public import proofs.«01_k».proof.Proof.MixTie
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

theorem quiescent_ReferenceInIdeal : quiescent_ReferenceInIdeal := fun m ρ _ =>
  (θ_run Cert.ReferenceInIdeal.defs _ _).mono (fun r h => ⟨fun c => (h c).2, sem_eq_zero_of_no_sems (by decide) r.2⟩)
    (Cert.ReferenceInIdeal.Value.run (F := Ideal) m ρ)

theorem quiescent_ReferenceOIdeal : quiescent_ReferenceOIdeal := fun m ρ _ =>
  (θ_run Cert.ReferenceOIdeal.defs _ _).mono (fun r h => ⟨fun c => (h c).2, sem_eq_zero_of_no_sems (by decide) r.2⟩)
    (Cert.ReferenceOIdeal.Value.run (F := Ideal) m ρ)

theorem quiescent_ReferencePaIdeal : quiescent_ReferencePaIdeal := fun m ρ _ =>
  (θ_run Cert.ReferencePaIdeal.defs _ _).mono (fun r h => ⟨fun c => (h c).2, sem_eq_zero_of_no_sems (by decide) r.2⟩)
    (Cert.ReferencePaIdeal.Value.run (F := Ideal) m ρ)

theorem quiescent_ReferencePbIdeal : quiescent_ReferencePbIdeal := fun m ρ _ =>
  (θ_run Cert.ReferencePbIdeal.defs _ _).mono (fun r h => ⟨fun c => (h c).2, sem_eq_zero_of_no_sems (by decide) r.2⟩)
    (Cert.ReferencePbIdeal.Value.run (F := Ideal) m ρ)

theorem quiescent_ReferencePcIdeal : quiescent_ReferencePcIdeal := fun m ρ _ =>
  (θ_run Cert.ReferencePcIdeal.defs _ _).mono (fun r h => ⟨fun c => (h c).2, sem_eq_zero_of_no_sems (by decide) r.2⟩)
    (Cert.ReferencePcIdeal.Value.run (F := Ideal) m ρ)

theorem quiescent_ReferenceW13Ideal : quiescent_ReferenceW13Ideal := fun m ρ _ =>
  (θ_run Cert.ReferenceW13Ideal.defs _ _).mono (fun r h => ⟨fun c => (h c).2, sem_eq_zero_of_no_sems (by decide) r.2⟩)
    (Cert.ReferenceW13Ideal.Value.run (F := Ideal) m ρ)

theorem quiescent_ReferenceW2Ideal : quiescent_ReferenceW2Ideal := fun m ρ _ =>
  (θ_run Cert.ReferenceW2Ideal.defs _ _).mono (fun r h => ⟨fun c => (h c).2, sem_eq_zero_of_no_sems (by decide) r.2⟩)
    (Cert.ReferenceW2Ideal.Value.run (F := Ideal) m ρ)

theorem algebraic_KernelInIdeal_ReferenceInIdeal : algebraic_KernelInIdeal_ReferenceInIdeal := by
  intro m ρ m' ρ' _ hagree
  refine ⟨_, Cert.KernelInIdeal.Value.run (F := Ideal) m ρ, ?_⟩
  refine (θ_run Cert.ReferenceInIdeal.defs _ _).mono (fun _ h c => ⟨?_, (h c).2⟩) (Cert.ReferenceInIdeal.Value.run (F := Ideal) m' ρ')
  rw [(h c).1]
  simp only [hagree c]
  exact ((Cert.KernelInIdeal.Value.final2 m c).symm.trans (Cert.KernelInIdeal.Proof.final m c)).symm

theorem algebraic_KernelOIdeal_ReferenceOIdeal : algebraic_KernelOIdeal_ReferenceOIdeal := by
  intro m ρ m' ρ' _ hagree
  refine ⟨_, Cert.KernelOIdeal.Value.run (F := Ideal) m ρ, ?_⟩
  refine (θ_run Cert.ReferenceOIdeal.defs _ _).mono (fun _ h c => ⟨?_, (h c).2⟩) (Cert.ReferenceOIdeal.Value.run (F := Ideal) m' ρ')
  rw [(h c).1]
  simp only [hagree c]
  exact ((Cert.KernelOIdeal.Value.final2 m c).symm.trans (Cert.KernelOIdeal.Proof.final m c)).symm

theorem algebraic_KernelPaIdeal_ReferencePaIdeal : algebraic_KernelPaIdeal_ReferencePaIdeal := by
  intro m ρ m' ρ' _ hagree
  refine ⟨_, Cert.KernelPaIdeal.Value.run (F := Ideal) m ρ, ?_⟩
  refine (θ_run Cert.ReferencePaIdeal.defs _ _).mono (fun _ h c => ⟨?_, (h c).2⟩) (Cert.ReferencePaIdeal.Value.run (F := Ideal) m' ρ')
  rw [(h c).1]
  simp only [hagree c]
  exact ((Cert.KernelPaIdeal.Value.final2 m c).symm.trans (Cert.KernelPaIdeal.Proof.final m c)).symm

theorem algebraic_KernelPbIdeal_ReferencePbIdeal : algebraic_KernelPbIdeal_ReferencePbIdeal := by
  intro m ρ m' ρ' _ hagree
  refine ⟨_, Cert.KernelPbIdeal.Value.run (F := Ideal) m ρ, ?_⟩
  refine (θ_run Cert.ReferencePbIdeal.defs _ _).mono (fun _ h c => ⟨?_, (h c).2⟩) (Cert.ReferencePbIdeal.Value.run (F := Ideal) m' ρ')
  rw [(h c).1]
  simp only [hagree c]
  exact ((Cert.KernelPbIdeal.Value.final2 m c).symm.trans (Cert.KernelPbIdeal.Proof.final m c)).symm

theorem algebraic_KernelPcIdeal_ReferencePcIdeal : algebraic_KernelPcIdeal_ReferencePcIdeal := by
  intro m ρ m' ρ' _ hagree
  refine ⟨_, Cert.KernelPcIdeal.Value.run (F := Ideal) m ρ, ?_⟩
  refine (θ_run Cert.ReferencePcIdeal.defs _ _).mono (fun _ h c => ⟨?_, (h c).2⟩) (Cert.ReferencePcIdeal.Value.run (F := Ideal) m' ρ')
  rw [(h c).1]
  simp only [hagree c]
  exact ((Cert.KernelPcIdeal.Value.final2 m c).symm.trans (Cert.KernelPcIdeal.Proof.final m c)).symm

theorem algebraic_KernelW13Ideal_ReferenceW13Ideal : algebraic_KernelW13Ideal_ReferenceW13Ideal := by
  intro m ρ m' ρ' _ hagree
  refine ⟨_, Cert.KernelW13Ideal.Value.run (F := Ideal) m ρ, ?_⟩
  refine (θ_run Cert.ReferenceW13Ideal.defs _ _).mono (fun _ h c => ⟨?_, (h c).2⟩) (Cert.ReferenceW13Ideal.Value.run (F := Ideal) m' ρ')
  rw [(h c).1]
  simp only [hagree c]
  exact ((Cert.KernelW13Ideal.Value.final2 m c).symm.trans (Cert.KernelW13Ideal.Proof.final m c)).symm

theorem algebraic_KernelW2Ideal_ReferenceW2Ideal : algebraic_KernelW2Ideal_ReferenceW2Ideal := by
  intro m ρ m' ρ' _ hagree
  refine ⟨_, Cert.KernelW2Ideal.Value.run (F := Ideal) m ρ, ?_⟩
  refine (θ_run Cert.ReferenceW2Ideal.defs _ _).mono (fun _ h c => ⟨?_, (h c).2⟩) (Cert.ReferenceW2Ideal.Value.run (F := Ideal) m' ρ')
  rw [(h c).1]
  simp only [hagree c]
  exact ((Cert.KernelW2Ideal.Value.final2 m c).symm.trans (Cert.KernelW2Ideal.Proof.final m c)).symm

theorem quiescent_ReferenceFfnIdeal : quiescent_ReferenceFfnIdeal := fun m ρ _ =>
  (θ_run Cert.ReferenceFfnIdeal.defs _ _).mono (fun r h => ⟨fun c => (h c).2.2.2.2.2, sem_eq_zero_of_no_sems (by decide) r.2⟩)
    (Cert.ReferenceFfnIdeal.Value.run (F := Ideal) m ρ)

theorem algebraic_KernelFfnIdeal_ReferenceFfnIdeal : algebraic_KernelFfnIdeal_ReferenceFfnIdeal := by
  intro m ρ m' ρ' _ hagree
  refine ⟨_, _, _, _, _, Cert.KernelFfnIdeal.Value.run_blocks (F := Ideal) m ρ, ?_⟩
  refine (θ_run Cert.ReferenceFfnIdeal.defs _ _).mono (fun _ h c => ⟨?_, ?_, ?_, ?_, ?_, (h c).2.2.2.2.2⟩) (Cert.ReferenceFfnIdeal.Value.run (F := Ideal) m' ρ')
  · rw [(h c).1]
    simp only [hagree c]
    exact (Cert.KernelFfnIdeal.Proof.final3 m c).symm
  · rw [(h c).2.1]
    simp only [hagree c]
    exact (Cert.KernelFfnIdeal.Proof.final4 m c).symm
  · rw [(h c).2.2.1]
    unfold Cert.ReferenceFfnIdeal.Value.res_main_v43
    simp only [hagree c]
    exact (Cert.KernelFfnIdeal.Proof.final5 m c).symm
  · rw [(h c).2.2.2.1]
    unfold Cert.ReferenceFfnIdeal.Value.res_main_v45
    simp only [hagree c]
    exact (Cert.KernelFfnIdeal.Proof.final6 m c).symm
  · rw [(h c).2.2.2.2.1]
    unfold Cert.ReferenceFfnIdeal.Value.res_main_v52
    simp only [hagree c]
    exact (Cert.KernelFfnIdeal.Proof.final7 m c).symm

theorem claim : Cert.Claim := ⟨Cert.KernelIn.Gen.facts, Cert.KernelInIdeal.Gen.facts, Cert.ReferenceInIdeal.Gen.facts, Cert.KernelO.Gen.facts, Cert.KernelOIdeal.Gen.facts, Cert.ReferenceOIdeal.Gen.facts, Cert.KernelPa.Gen.facts, Cert.KernelPaIdeal.Gen.facts, Cert.ReferencePaIdeal.Gen.facts, Cert.KernelPb.Gen.facts, Cert.KernelPbIdeal.Gen.facts, Cert.ReferencePbIdeal.Gen.facts, Cert.KernelPc.Gen.facts, Cert.KernelPcIdeal.Gen.facts, Cert.ReferencePcIdeal.Gen.facts, Cert.KernelW13.Gen.facts, Cert.KernelW13Ideal.Gen.facts, Cert.ReferenceW13Ideal.Gen.facts, Cert.KernelW2.Gen.facts, Cert.KernelW2Ideal.Gen.facts, Cert.ReferenceW2Ideal.Gen.facts, Cert.KernelFfn.Gen.facts, Cert.KernelFfnIdeal.Gen.facts, Cert.ReferenceFfnIdeal.Gen.facts, Cert.KernelMix.Gen.facts, Cert.KernelMixIdeal.Gen.facts, Cert.ReferenceMixIdeal.Gen.facts,
  fun m ρ _ => Cert.KernelIn.Gen.frame m ρ, fun m ρ _ => Cert.KernelInIdeal.Gen.frame m ρ, quiescent_ReferenceInIdeal, fun m ρ _ => Cert.KernelO.Gen.frame m ρ, fun m ρ _ => Cert.KernelOIdeal.Gen.frame m ρ, quiescent_ReferenceOIdeal, fun m ρ _ => Cert.KernelPa.Gen.frame m ρ, fun m ρ _ => Cert.KernelPaIdeal.Gen.frame m ρ, quiescent_ReferencePaIdeal, fun m ρ _ => Cert.KernelPb.Gen.frame m ρ, fun m ρ _ => Cert.KernelPbIdeal.Gen.frame m ρ, quiescent_ReferencePbIdeal, fun m ρ _ => Cert.KernelPc.Gen.frame m ρ, fun m ρ _ => Cert.KernelPcIdeal.Gen.frame m ρ, quiescent_ReferencePcIdeal, fun m ρ _ => Cert.KernelW13.Gen.frame m ρ, fun m ρ _ => Cert.KernelW13Ideal.Gen.frame m ρ, quiescent_ReferenceW13Ideal, fun m ρ _ => Cert.KernelW2.Gen.frame m ρ, fun m ρ _ => Cert.KernelW2Ideal.Gen.frame m ρ, quiescent_ReferenceW2Ideal, fun m ρ _ => Cert.KernelFfn.Gen.frame m ρ, fun m ρ _ => Cert.KernelFfnIdeal.Gen.frame m ρ, quiescent_ReferenceFfnIdeal, fun m ρ _ => Cert.KernelMix.Gen.frame m ρ, fun m ρ _ => Cert.KernelMixIdeal.Gen.frame m ρ, quiescent_ReferenceMixIdeal, (trivial : preserves_KernelIn_KernelInIdeal), algebraic_KernelInIdeal_ReferenceInIdeal, (trivial : preserves_KernelO_KernelOIdeal), algebraic_KernelOIdeal_ReferenceOIdeal, (trivial : preserves_KernelPa_KernelPaIdeal), algebraic_KernelPaIdeal_ReferencePaIdeal, (trivial : preserves_KernelPb_KernelPbIdeal), algebraic_KernelPbIdeal_ReferencePbIdeal, (trivial : preserves_KernelPc_KernelPcIdeal), algebraic_KernelPcIdeal_ReferencePcIdeal, (trivial : preserves_KernelW13_KernelW13Ideal), algebraic_KernelW13Ideal_ReferenceW13Ideal, (trivial : preserves_KernelW2_KernelW2Ideal), algebraic_KernelW2Ideal_ReferenceW2Ideal, (trivial : preserves_KernelFfn_KernelFfnIdeal), algebraic_KernelFfnIdeal_ReferenceFfnIdeal, preserves_KernelMix_KernelMixIdeal, algebraic_KernelMixIdeal_ReferenceMixIdeal⟩

end Cert.Proof

end
